-- ==== Defs.lean ====
def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_GatingDx (m : (ℓ : Loc Cert.GatingDx.nD Cert.GatingDx.τ Cert.GatingDx.sig) → Buf (Elt Bits) ℓ) : Prop :=
  True

def Pre_GatingDxIdeal (m : (ℓ : Loc Cert.GatingDxIdeal.nD Cert.GatingDxIdeal.τ Cert.GatingDxIdeal.sig) → Buf (Elt Ideal) ℓ) : Prop :=
  True

def Pre_GatingDxRefIdeal (m : (ℓ : Loc Cert.GatingDxRefIdeal.nD Cert.GatingDxRefIdeal.τ Cert.GatingDxRefIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxRefIdeal (m : (ℓ : Loc Cert.AttnDxRefIdeal.nD Cert.AttnDxRefIdeal.τ Cert.AttnDxRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite [hPre_finite : Cert.Pre_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite [hPre_finite : Cert.Pre_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_GatingDx [hGatingDx : Cert.GatingDx.Facts] : Prop :=
  ∀ (m : (ℓ : Loc Cert.GatingDx.nD Cert.GatingDx.τ Cert.GatingDx.sig) → Buf (Elt Bits) ℓ) (g : Dev Cert.GatingDx.nD → PrngReg), Pre_GatingDx m →
    θ_run (Cert.GatingDx.defs (F := Bits)) (onTc (τ := Cert.GatingDx.τ) (Cert.GatingDx.main (F := Bits))) ⟨m, fun _ => 0, g⟩ (fun r => (∀ c : Dev Cert.GatingDx.nD,
      r.2.mem ((c.tc : Thread Cert.GatingDx.nD Cert.GatingDx.τ).loc Cert.GatingDx.main_arg0) = m ((c.tc : Thread Cert.GatingDx.nD Cert.GatingDx.τ).loc Cert.GatingDx.main_arg0)
      ∧ r.2.mem ((c.tc : Thread Cert.GatingDx.nD Cert.GatingDx.τ).loc Cert.GatingDx.main_arg1) = m ((c.tc : Thread Cert.GatingDx.nD Cert.GatingDx.τ).loc Cert.GatingDx.main_arg1))
      ∧ r.2.sem = fun _ => 0)

def quiescent_GatingDxIdeal [hGatingDxIdeal : Cert.GatingDxIdeal.Facts] : Prop :=
  ∀ (m : (ℓ : Loc Cert.GatingDxIdeal.nD Cert.GatingDxIdeal.τ Cert.GatingDxIdeal.sig) → Buf (Elt Ideal) ℓ) (g : Dev Cert.GatingDxIdeal.nD → PrngReg), Pre_GatingDxIdeal m →
    θ_run (Cert.GatingDxIdeal.defs (F := Ideal)) (onTc (τ := Cert.GatingDxIdeal.τ) (Cert.GatingDxIdeal.main (F := Ideal))) ⟨m, fun _ => 0, g⟩ (fun r => (∀ c : Dev Cert.GatingDxIdeal.nD,
      r.2.mem ((c.tc : Thread Cert.GatingDxIdeal.nD Cert.GatingDxIdeal.τ).loc Cert.GatingDxIdeal.main_arg0) = m ((c.tc : Thread Cert.GatingDxIdeal.nD Cert.GatingDxIdeal.τ).loc Cert.GatingDxIdeal.main_arg0)
      ∧ r.2.mem ((c.tc : Thread Cert.GatingDxIdeal.nD Cert.GatingDxIdeal.τ).loc Cert.GatingDxIdeal.main_arg1) = m ((c.tc : Thread Cert.GatingDxIdeal.nD Cert.GatingDxIdeal.τ).loc Cert.GatingDxIdeal.main_arg1))
      ∧ r.2.sem = fun _ => 0)

def quiescent_GatingDxRefIdeal [hGatingDxRefIdeal : Cert.GatingDxRefIdeal.Facts] : Prop :=
  ∀ (m : (ℓ : Loc Cert.GatingDxRefIdeal.nD Cert.GatingDxRefIdeal.τ Cert.GatingDxRefIdeal.sig) → Buf (Elt Ideal) ℓ) (g : Dev Cert.GatingDxRefIdeal.nD → PrngReg), Pre_GatingDxRefIdeal m →
    θ_run (Cert.GatingDxRefIdeal.defs (F := Ideal)) (onTc (τ := Cert.GatingDxRefIdeal.τ) (Cert.GatingDxRefIdeal.main (F := Ideal))) ⟨m, fun _ => 0, g⟩ (fun r => (∀ c : Dev Cert.GatingDxRefIdeal.nD,
      r.2.mem ((c.tc : Thread Cert.GatingDxRefIdeal.nD Cert.GatingDxRefIdeal.τ).loc Cert.GatingDxRefIdeal.main_arg0) = m ((c.tc : Thread Cert.GatingDxRefIdeal.nD Cert.GatingDxRefIdeal.τ).loc Cert.GatingDxRefIdeal.main_arg0)
      ∧ r.2.mem ((c.tc : Thread Cert.GatingDxRefIdeal.nD Cert.GatingDxRefIdeal.τ).loc Cert.GatingDxRefIdeal.main_arg1) = m ((c.tc : Thread Cert.GatingDxRefIdeal.nD Cert.GatingDxRefIdeal.τ).loc Cert.GatingDxRefIdeal.main_arg1))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ r.2.sem = fun _ => 0)

def quiescent_AttnDxRefIdeal [hAttnDxRefIdeal : Cert.AttnDxRefIdeal.Facts] : Prop :=
  ∀ (m : (ℓ : Loc Cert.AttnDxRefIdeal.nD Cert.AttnDxRefIdeal.τ Cert.AttnDxRefIdeal.sig) → Buf (Elt Ideal) ℓ) (g : Dev Cert.AttnDxRefIdeal.nD → PrngReg), Pre_AttnDxRefIdeal m →
    θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3)
      ∧ r.2.mem ((c.tc : Thread Cert.NormFfn.nD Cert.NormFfn.τ).loc Cert.NormFfn.main_arg4) = m ((c.tc : Thread Cert.NormFfn.nD Cert.NormFfn.τ).loc Cert.NormFfn.main_arg4)
      ∧ r.2.mem ((c.tc : Thread Cert.NormFfn.nD Cert.NormFfn.τ).loc Cert.NormFfn.main_arg5) = m ((c.tc : Thread Cert.NormFfn.nD Cert.NormFfn.τ).loc Cert.NormFfn.main_arg5))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4)
      ∧ r.2.mem ((c.tc : Thread Cert.NormFfnIdeal.nD Cert.NormFfnIdeal.τ).loc Cert.NormFfnIdeal.main_arg5) = m ((c.tc : Thread Cert.NormFfnIdeal.nD Cert.NormFfnIdeal.τ).loc Cert.NormFfnIdeal.main_arg5))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4)
      ∧ r.2.mem ((c.tc : Thread Cert.NormFfnRefIdeal.nD Cert.NormFfnRefIdeal.τ).loc Cert.NormFfnRefIdeal.main_arg5) = m ((c.tc : Thread Cert.NormFfnRefIdeal.nD Cert.NormFfnRefIdeal.τ).loc Cert.NormFfnRefIdeal.main_arg5))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite [hAttnFwdIdeal : Cert.AttnFwdIdeal.Facts] [hPre_finite : Cert.Pre_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite [hAttnFwdRefIdeal : Cert.AttnFwdRefIdeal.Facts] [hPre_finite : Cert.Pre_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def preserves_SguBwd_SguBwdIdeal : Prop :=
  True

def algebraic_SguBwdIdeal_SguRefIdeal [hSguBwdIdeal : Cert.SguBwdIdeal.Facts] [hSguRefIdeal : Cert.SguRefIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)
      ∧ m' ((c.tc : Thread Cert.SguRefIdeal.nD Cert.SguRefIdeal.τ).loc Cert.SguRefIdeal.main_arg6) = m ((c.tc : Thread Cert.SguBwdIdeal.nD Cert.SguBwdIdeal.τ).loc Cert.SguBwdIdeal.main_arg6)) →
    ∃ (v0 : (c : Dev Cert.SguBwdIdeal.nD) → Buf (Elt Ideal) ((c.tc : Thread Cert.SguBwdIdeal.nD Cert.SguBwdIdeal.τ).loc Cert.SguBwdIdeal.main_v0_0)) (v1 : (c : Dev Cert.SguBwdIdeal.nD) → Buf (Elt Ideal) ((c.tc : Thread Cert.SguBwdIdeal.nD Cert.SguBwdIdeal.τ).loc Cert.SguBwdIdeal.main_v0_1)) (v2 : (c : Dev Cert.SguBwdIdeal.nD) → Buf (Elt Ideal) ((c.tc : Thread Cert.SguBwdIdeal.nD Cert.SguBwdIdeal.τ).loc Cert.SguBwdIdeal.main_v0_2)) (v3 : (c : Dev Cert.SguBwdIdeal.nD) → Buf (Elt Ideal) ((c.tc : Thread Cert.SguBwdIdeal.nD Cert.SguBwdIdeal.τ).loc Cert.SguBwdIdeal.main_v0_3)) (v4 : (c : Dev Cert.SguBwdIdeal.nD) → Buf (Elt Ideal) ((c.tc : Thread Cert.SguBwdIdeal.nD Cert.SguBwdIdeal.τ).loc Cert.SguBwdIdeal.main_v0_4)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v0_0) = v0 c
          ∧ r.2.mem ((c.tc : Thread Cert.SguBwdIdeal.nD Cert.SguBwdIdeal.τ).loc Cert.SguBwdIdeal.main_v0_1) = v1 c
          ∧ r.2.mem ((c.tc : Thread Cert.SguBwdIdeal.nD Cert.SguBwdIdeal.τ).loc Cert.SguBwdIdeal.main_v0_2) = v2 c
          ∧ r.2.mem ((c.tc : Thread Cert.SguBwdIdeal.nD Cert.SguBwdIdeal.τ).loc Cert.SguBwdIdeal.main_v0_3) = v3 c
          ∧ r.2.mem ((c.tc : Thread Cert.SguBwdIdeal.nD Cert.SguBwdIdeal.τ).loc Cert.SguBwdIdeal.main_v0_4) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v126) = v0 c
          ∧ r.2.mem ((c.tc : Thread Cert.SguRefIdeal.nD Cert.SguRefIdeal.τ).loc Cert.SguRefIdeal.main_v127) = v1 c
          ∧ r.2.mem ((c.tc : Thread Cert.SguRefIdeal.nD Cert.SguRefIdeal.τ).loc Cert.SguRefIdeal.main_v128) = v2 c
          ∧ r.2.mem ((c.tc : Thread Cert.SguRefIdeal.nD Cert.SguRefIdeal.τ).loc Cert.SguRefIdeal.main_v73) = v3 c
          ∧ r.2.mem ((c.tc : Thread Cert.SguRefIdeal.nD Cert.SguRefIdeal.τ).loc Cert.SguRefIdeal.main_v129) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_FfnDw_FfnDwIdeal : Prop :=
  True

def algebraic_FfnDwIdeal_DownDwRefIdeal [hFfnDwIdeal : Cert.FfnDwIdeal.Facts] [hDownDwRefIdeal : Cert.DownDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_FfnDwIdeal m →
    (∀ c : Dev Cert.FfnDwIdeal.nD,
      m' ((c.tc : Thread Cert.DownDwRefIdeal.nD Cert.DownDwRefIdeal.τ).loc Cert.DownDwRefIdeal.main_arg0) = m ((c.tc : Thread Cert.FfnDwIdeal.nD Cert.FfnDwIdeal.τ).loc Cert.FfnDwIdeal.main_arg0)
      ∧ m' ((c.tc : Thread Cert.DownDwRefIdeal.nD Cert.DownDwRefIdeal.τ).loc Cert.DownDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def algebraic_FfnDwIdeal_UpDwRefIdeal [hFfnDwIdeal : Cert.FfnDwIdeal.Facts] [hUpDwRefIdeal : Cert.UpDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_FfnDwIdeal m →
    (∀ c : Dev Cert.FfnDwIdeal.nD,
      m' ((c.tc : Thread Cert.UpDwRefIdeal.nD Cert.UpDwRefIdeal.τ).loc Cert.UpDwRefIdeal.main_arg0) = m ((c.tc : Thread Cert.FfnDwIdeal.nD Cert.FfnDwIdeal.τ).loc Cert.FfnDwIdeal.main_arg0)
      ∧ m' ((c.tc : Thread Cert.UpDwRefIdeal.nD Cert.UpDwRefIdeal.τ).loc Cert.UpDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)) →
    ∃ (v0 : (c : Dev Cert.FfnDxIdeal.nD) → Buf (Elt Ideal) ((c.tc : Thread Cert.FfnDxIdeal.nD Cert.FfnDxIdeal.τ).loc Cert.FfnDxIdeal.main_v0)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v0) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v11) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_GatingDx_GatingDxIdeal : Prop :=
  True

def algebraic_GatingDxIdeal_GatingDxRefIdeal [hGatingDxIdeal : Cert.GatingDxIdeal.Facts] [hGatingDxRefIdeal : Cert.GatingDxRefIdeal.Facts] : Prop :=
  ∀ (m : (ℓ : Loc Cert.GatingDxIdeal.nD Cert.GatingDxIdeal.τ Cert.GatingDxIdeal.sig) → Buf (Elt Ideal) ℓ) (g : Dev Cert.GatingDxIdeal.nD → PrngReg)
    (m' : (ℓ : Loc Cert.GatingDxRefIdeal.nD Cert.GatingDxRefIdeal.τ Cert.GatingDxRefIdeal.sig) → Buf (Elt Ideal) ℓ) (g' : Dev Cert.GatingDxRefIdeal.nD → PrngReg), Pre_GatingDxIdeal m →
    (∀ c : Dev Cert.GatingDxIdeal.nD,
      m' ((c.tc : Thread Cert.GatingDxRefIdeal.nD Cert.GatingDxRefIdeal.τ).loc Cert.GatingDxRefIdeal.main_arg0) = m ((c.tc : Thread Cert.GatingDxIdeal.nD Cert.GatingDxIdeal.τ).loc Cert.GatingDxIdeal.main_arg0)
      ∧ m' ((c.tc : Thread Cert.GatingDxRefIdeal.nD Cert.GatingDxRefIdeal.τ).loc Cert.GatingDxRefIdeal.main_arg1) = m ((c.tc : Thread Cert.GatingDxIdeal.nD Cert.GatingDxIdeal.τ).loc Cert.GatingDxIdeal.main_arg1)) →
    ∃ (v0 : (c : Dev Cert.GatingDxIdeal.nD) → Buf (Elt Ideal) ((c.tc : Thread Cert.GatingDxIdeal.nD Cert.GatingDxIdeal.τ).loc Cert.GatingDxIdeal.main_v0)),
      θ_run (Cert.GatingDxIdeal.defs (F := Ideal)) (onTc (τ := Cert.GatingDxIdeal.τ) (Cert.GatingDxIdeal.main (F := Ideal))) ⟨m, fun _ => 0, g⟩ (fun r => ∀ c : Dev Cert.GatingDxIdeal.nD,
          r.2.mem ((c.tc : Thread Cert.GatingDxIdeal.nD Cert.GatingDxIdeal.τ).loc Cert.GatingDxIdeal.main_v0) = v0 c
          ∧ r.2.mem ((c.tc : Thread Cert.GatingDxIdeal.nD Cert.GatingDxIdeal.τ).loc Cert.GatingDxIdeal.main_arg0) = m ((c.tc : Thread Cert.GatingDxIdeal.nD Cert.GatingDxIdeal.τ).loc Cert.GatingDxIdeal.main_arg0)
          ∧ r.2.mem ((c.tc : Thread Cert.GatingDxIdeal.nD Cert.GatingDxIdeal.τ).loc Cert.GatingDxIdeal.main_arg1) = m ((c.tc : Thread Cert.GatingDxIdeal.nD Cert.GatingDxIdeal.τ).loc Cert.GatingDxIdeal.main_arg1))
      ∧ θ_run (Cert.GatingDxRefIdeal.defs (F := Ideal)) (onTc (τ := Cert.GatingDxRefIdeal.τ) (Cert.GatingDxRefIdeal.main (F := Ideal))) ⟨m', fun _ => 0, g'⟩ (fun r => ∀ c : Dev Cert.GatingDxRefIdeal.nD,
          r.2.mem ((c.tc : Thread Cert.GatingDxRefIdeal.nD Cert.GatingDxRefIdeal.τ).loc Cert.GatingDxRefIdeal.main_v4) = v0 c
          ∧ r.2.mem ((c.tc : Thread Cert.GatingDxRefIdeal.nD Cert.GatingDxRefIdeal.τ).loc Cert.GatingDxRefIdeal.main_arg0) = m' ((c.tc : Thread Cert.GatingDxRefIdeal.nD Cert.GatingDxRefIdeal.τ).loc Cert.GatingDxRefIdeal.main_arg0)
          ∧ r.2.mem ((c.tc : Thread Cert.GatingDxRefIdeal.nD Cert.GatingDxRefIdeal.τ).loc Cert.GatingDxRefIdeal.main_arg1) = m' ((c.tc : Thread Cert.GatingDxRefIdeal.nD Cert.GatingDxRefIdeal.τ).loc Cert.GatingDxRefIdeal.main_arg1))

def preserves_AttnDx_AttnDxIdeal : Prop :=
  True

def algebraic_AttnDxIdeal_AttnDxRefIdeal [hAttnDxIdeal : Cert.AttnDxIdeal.Facts] [hAttnDxRefIdeal : Cert.AttnDxRefIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxRefIdeal.nD Cert.AttnDxRefIdeal.τ Cert.AttnDxRefIdeal.sig) → Buf (Elt Ideal) ℓ) (g' : Dev Cert.AttnDxRefIdeal.nD → PrngReg), Pre_AttnDxIdeal m →
    (∀ c : Dev Cert.AttnDxIdeal.nD,
      m' ((c.tc : Thread Cert.AttnDxRefIdeal.nD Cert.AttnDxRefIdeal.τ).loc Cert.AttnDxRefIdeal.main_arg0) = m ((c.tc : Thread Cert.AttnDxIdeal.nD Cert.AttnDxIdeal.τ).loc Cert.AttnDxIdeal.main_arg0)
      ∧ m' ((c.tc : Thread Cert.AttnDxRefIdeal.nD Cert.AttnDxRefIdeal.τ).loc Cert.AttnDxRefIdeal.main_arg1) = m ((c.tc : Thread Cert.AttnDxIdeal.nD Cert.AttnDxIdeal.τ).loc Cert.AttnDxIdeal.main_arg1)) →
    ∃ (v0 : (c : Dev Cert.AttnDxIdeal.nD) → Buf (Elt Ideal) ((c.tc : Thread Cert.AttnDxIdeal.nD Cert.AttnDxIdeal.τ).loc Cert.AttnDxIdeal.main_v0)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v0) = v0 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1))
      ∧ θ_run (Cert.AttnDxRefIdeal.defs (F := Ideal)) (onTc (τ := Cert.AttnDxRefIdeal.τ) (Cert.AttnDxRefIdeal.main (F := Ideal))) ⟨m', fun _ => 0, g'⟩ (fun r => ∀ c : Dev Cert.AttnDxRefIdeal.nD,
          r.2.mem ((c.tc : Thread Cert.AttnDxRefIdeal.nD Cert.AttnDxRefIdeal.τ).loc Cert.AttnDxRefIdeal.main_v5) = v0 c
          ∧ r.2.mem ((c.tc : Thread Cert.AttnDxRefIdeal.nD Cert.AttnDxRefIdeal.τ).loc Cert.AttnDxRefIdeal.main_arg0) = m' ((c.tc : Thread Cert.AttnDxRefIdeal.nD Cert.AttnDxRefIdeal.τ).loc Cert.AttnDxRefIdeal.main_arg0)
          ∧ r.2.mem ((c.tc : Thread Cert.AttnDxRefIdeal.nD Cert.AttnDxRefIdeal.τ).loc Cert.AttnDxRefIdeal.main_arg1) = m' ((c.tc : Thread Cert.AttnDxRefIdeal.nD Cert.AttnDxRefIdeal.τ).loc Cert.AttnDxRefIdeal.main_arg1))

def preserves_MergeBwd_MergeBwdIdeal : Prop :=
  True

def algebraic_MergeBwdIdeal_MergeBwdRefIdeal_on_merge_bwd_written [hMergeBwdIdeal : Cert.MergeBwdIdeal.Facts] [hMergeBwdRefIdeal : Cert.MergeBwdRefIdeal.Facts] [hOn_merge_bwd_written : Cert.On_merge_bwd_written.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨2, ![4096, 1024]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).1 i = 1#1 → r.2.mem ((c.tc : Thread Cert.MergeBwdIdeal.nD Cert.MergeBwdIdeal.τ).loc Cert.MergeBwdIdeal.main_v0_0) i = v0 c i)
          ∧ (∀ i : (⟨2, ![4096, 1024]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.1 i = 1#1 → r.2.mem ((c.tc : Thread Cert.MergeBwdIdeal.nD Cert.MergeBwdIdeal.τ).loc Cert.MergeBwdIdeal.main_v0_1) i = v1 c i)
          ∧ (∀ i : (⟨2, ![4096, 5376]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2 i = 1#1 → r.2.mem ((c.tc : Thread Cert.MergeBwdIdeal.nD Cert.MergeBwdIdeal.τ).loc Cert.MergeBwdIdeal.main_v0_2) i = v2 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨2, ![4096, 1024]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).1 i = 1#1 → r.2.mem ((c.tc : Thread Cert.MergeBwdRefIdeal.nD Cert.MergeBwdRefIdeal.τ).loc Cert.MergeBwdRefIdeal.main_v31) i = v0 c i)
          ∧ (∀ i : (⟨2, ![4096, 1024]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.1 i = 1#1 → r.2.mem ((c.tc : Thread Cert.MergeBwdRefIdeal.nD Cert.MergeBwdRefIdeal.τ).loc Cert.MergeBwdRefIdeal.main_v32) i = v1 c i)
          ∧ (∀ i : (⟨2, ![4096, 5376]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4))).2.2 i = 1#1 → r.2.mem ((c.tc : Thread Cert.MergeBwdRefIdeal.nD Cert.MergeBwdRefIdeal.τ).loc Cert.MergeBwdRefIdeal.main_v33) i = v2 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v20) = v0 c
          ∧ r.2.mem ((c.tc : Thread Cert.NormInRefIdeal.nD Cert.NormInRefIdeal.τ).loc Cert.NormInRefIdeal.main_v24) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)
      ∧ m' ((c.tc : Thread Cert.NormFfnRefIdeal.nD Cert.NormFfnRefIdeal.τ).loc Cert.NormFfnRefIdeal.main_arg4) = m ((c.tc : Thread Cert.NormFfnIdeal.nD Cert.NormFfnIdeal.τ).loc Cert.NormFfnIdeal.main_arg4)
      ∧ m' ((c.tc : Thread Cert.NormFfnRefIdeal.nD Cert.NormFfnRefIdeal.τ).loc Cert.NormFfnRefIdeal.main_arg5) = m ((c.tc : Thread Cert.NormFfnIdeal.nD Cert.NormFfnIdeal.τ).loc Cert.NormFfnIdeal.main_arg5)) →
    ∃ (v0 : (c : Dev Cert.NormFfnIdeal.nD) → Buf (Elt Ideal) ((c.tc : Thread Cert.NormFfnIdeal.nD Cert.NormFfnIdeal.τ).loc Cert.NormFfnIdeal.main_v0_0)) (v1 : (c : Dev Cert.NormFfnIdeal.nD) → Buf (Elt Ideal) ((c.tc : Thread Cert.NormFfnIdeal.nD Cert.NormFfnIdeal.τ).loc Cert.NormFfnIdeal.main_v0_1)) (v2 : (c : Dev Cert.NormFfnIdeal.nD) → Buf (Elt Ideal) ((c.tc : Thread Cert.NormFfnIdeal.nD Cert.NormFfnIdeal.τ).loc Cert.NormFfnIdeal.main_v0_2)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0_0) = v0 c
          ∧ r.2.mem ((c.tc : Thread Cert.NormFfnIdeal.nD Cert.NormFfnIdeal.τ).loc Cert.NormFfnIdeal.main_v0_1) = v1 c
          ∧ r.2.mem ((c.tc : Thread Cert.NormFfnIdeal.nD Cert.NormFfnIdeal.τ).loc Cert.NormFfnIdeal.main_v0_2) = v2 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
          ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4)
          ∧ r.2.mem ((c.tc : Thread Cert.NormFfnIdeal.nD Cert.NormFfnIdeal.τ).loc Cert.NormFfnIdeal.main_arg5) = m ((c.tc : Thread Cert.NormFfnIdeal.nD Cert.NormFfnIdeal.τ).loc Cert.NormFfnIdeal.main_arg5))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v20) = v0 c
          ∧ r.2.mem ((c.tc : Thread Cert.NormFfnRefIdeal.nD Cert.NormFfnRefIdeal.τ).loc Cert.NormFfnRefIdeal.main_v24) = v1 c
          ∧ r.2.mem ((c.tc : Thread Cert.NormFfnRefIdeal.nD Cert.NormFfnRefIdeal.τ).loc Cert.NormFfnRefIdeal.main_v28) = v2 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3)
          ∧ r.2.mem ((c.tc : Thread Cert.NormFfnRefIdeal.nD Cert.NormFfnRefIdeal.τ).loc Cert.NormFfnRefIdeal.main_arg4) = m' ((c.tc : Thread Cert.NormFfnRefIdeal.nD Cert.NormFfnRefIdeal.τ).loc Cert.NormFfnRefIdeal.main_arg4)
          ∧ r.2.mem ((c.tc : Thread Cert.NormFfnRefIdeal.nD Cert.NormFfnRefIdeal.τ).loc Cert.NormFfnRefIdeal.main_arg5) = m' ((c.tc : Thread Cert.NormFfnRefIdeal.nD Cert.NormFfnRefIdeal.τ).loc Cert.NormFfnRefIdeal.main_arg5))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v5) = v0 c
          ∧ r.2.mem ((c.tc : Thread Cert.OutFwdRefIdeal.nD Cert.OutFwdRefIdeal.τ).loc Cert.OutFwdRefIdeal.main_v6) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v5) = v0 c
          ∧ r.2.mem ((c.tc : Thread Cert.DownFwdRefIdeal.nD Cert.DownFwdRefIdeal.τ).loc Cert.DownFwdRefIdeal.main_v6) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v6) = v0 c
          ∧ r.2.mem ((c.tc : Thread Cert.MergeFwdRefIdeal.nD Cert.MergeFwdRefIdeal.τ).loc Cert.MergeFwdRefIdeal.main_v7) = v1 c
          ∧ r.2.mem ((c.tc : Thread Cert.MergeFwdRefIdeal.nD Cert.MergeFwdRefIdeal.τ).loc Cert.MergeFwdRefIdeal.main_v21) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_AttnFwd_AttnFwdIdeal : Prop :=
  True

def algebraic_AttnFwdIdeal_AttnFwdRefIdeal_pre_finite [hAttnFwdIdeal : Cert.AttnFwdIdeal.Facts] [hAttnFwdRefIdeal : Cert.AttnFwdRefIdeal.Facts] [hPre_finite : Cert.Pre_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v23)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v23) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v75) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v0)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v0) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v54) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def Claim : Prop :=
  ∃ (hSguBwd : Cert.SguBwd.Facts) (hSguBwdIdeal : Cert.SguBwdIdeal.Facts) (hSguRefIdeal : Cert.SguRefIdeal.Facts) (hFfnDw : Cert.FfnDw.Facts) (hFfnDwIdeal : Cert.FfnDwIdeal.Facts) (hDownDwRefIdeal : Cert.DownDwRefIdeal.Facts) (hUpDwRefIdeal : Cert.UpDwRefIdeal.Facts) (hMixDw : Cert.MixDw.Facts) (hMixDwIdeal : Cert.MixDwIdeal.Facts) (hMixDwRefIdeal : Cert.MixDwRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hFfnDx : Cert.FfnDx.Facts) (hFfnDxIdeal : Cert.FfnDxIdeal.Facts) (hFfnDxRefIdeal : Cert.FfnDxRefIdeal.Facts) (hDownDx : Cert.DownDx.Facts) (hDownDxIdeal : Cert.DownDxIdeal.Facts) (hDownDxRefIdeal : Cert.DownDxRefIdeal.Facts) (hGatingDx : Cert.GatingDx.Facts) (hGatingDxIdeal : Cert.GatingDxIdeal.Facts) (hGatingDxRefIdeal : Cert.GatingDxRefIdeal.Facts) (hAttnDx : Cert.AttnDx.Facts) (hAttnDxIdeal : Cert.AttnDxIdeal.Facts) (hAttnDxRefIdeal : Cert.AttnDxRefIdeal.Facts) (hMergeBwd : Cert.MergeBwd.Facts) (hMergeBwdIdeal : Cert.MergeBwdIdeal.Facts) (hMergeBwdRefIdeal : Cert.MergeBwdRefIdeal.Facts) (hNormIn : Cert.NormIn.Facts) (hNormInIdeal : Cert.NormInIdeal.Facts) (hNormInRefIdeal : Cert.NormInRefIdeal.Facts) (hNormFfn : Cert.NormFfn.Facts) (hNormFfnIdeal : Cert.NormFfnIdeal.Facts) (hNormFfnRefIdeal : Cert.NormFfnRefIdeal.Facts) (hOutFwd : Cert.OutFwd.Facts) (hOutFwdIdeal : Cert.OutFwdIdeal.Facts) (hOutFwdRefIdeal : Cert.OutFwdRefIdeal.Facts) (hDownFwd : Cert.DownFwd.Facts) (hDownFwdIdeal : Cert.DownFwdIdeal.Facts) (hDownFwdRefIdeal : Cert.DownFwdRefIdeal.Facts) (hMergeFwd : Cert.MergeFwd.Facts) (hMergeFwdIdeal : Cert.MergeFwdIdeal.Facts) (hMergeFwdRefIdeal : Cert.MergeFwdRefIdeal.Facts) (hAttnFwd : Cert.AttnFwd.Facts) (hAttnFwdIdeal : Cert.AttnFwdIdeal.Facts) (hAttnFwdRefIdeal : Cert.AttnFwdRefIdeal.Facts) (hSguFwd : Cert.SguFwd.Facts) (hSguFwdIdeal : Cert.SguFwdIdeal.Facts) (hSguFwdRefIdeal : Cert.SguFwdRefIdeal.Facts) (hPre_finite : Cert.Pre_finite.Facts) (hOn_merge_bwd_written : Cert.On_merge_bwd_written.Facts),
    quiescent_SguBwd (hSguBwd := hSguBwd)
    ∧ quiescent_SguBwdIdeal (hSguBwdIdeal := hSguBwdIdeal)
    ∧ quiescent_SguRefIdeal (hSguRefIdeal := hSguRefIdeal)
    ∧ quiescent_FfnDw (hFfnDw := hFfnDw)
    ∧ quiescent_FfnDwIdeal (hFfnDwIdeal := hFfnDwIdeal)
    ∧ quiescent_DownDwRefIdeal (hDownDwRefIdeal := hDownDwRefIdeal)
    ∧ quiescent_UpDwRefIdeal (hUpDwRefIdeal := hUpDwRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_GatingDx (hGatingDx := hGatingDx)
    ∧ quiescent_GatingDxIdeal (hGatingDxIdeal := hGatingDxIdeal)
    ∧ quiescent_GatingDxRefIdeal (hGatingDxRefIdeal := hGatingDxRefIdeal)
    ∧ quiescent_AttnDx (hAttnDx := hAttnDx)
    ∧ quiescent_AttnDxIdeal (hAttnDxIdeal := hAttnDxIdeal)
    ∧ quiescent_AttnDxRefIdeal (hAttnDxRefIdeal := hAttnDxRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_AttnFwd (hAttnFwd := hAttnFwd)
    ∧ quiescent_AttnFwdIdeal (hAttnFwdIdeal := hAttnFwdIdeal)
    ∧ quiescent_AttnFwdIdeal_pre_finite (hAttnFwdIdeal := hAttnFwdIdeal) (hPre_finite := hPre_finite)
    ∧ quiescent_AttnFwdRefIdeal (hAttnFwdRefIdeal := hAttnFwdRefIdeal)
    ∧ quiescent_AttnFwdRefIdeal_pre_finite (hAttnFwdRefIdeal := hAttnFwdRefIdeal) (hPre_finite := hPre_finite)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ preserves_SguBwd_SguBwdIdeal
    ∧ algebraic_SguBwdIdeal_SguRefIdeal (hSguBwdIdeal := hSguBwdIdeal) (hSguRefIdeal := hSguRefIdeal)
    ∧ preserves_FfnDw_FfnDwIdeal
    ∧ algebraic_FfnDwIdeal_DownDwRefIdeal (hFfnDwIdeal := hFfnDwIdeal) (hDownDwRefIdeal := hDownDwRefIdeal)
    ∧ algebraic_FfnDwIdeal_UpDwRefIdeal (hFfnDwIdeal := hFfnDwIdeal) (hUpDwRefIdeal := hUpDwRefIdeal)
    ∧ preserves_MixDw_MixDwIdeal
    ∧ algebraic_MixDwIdeal_MixDwRefIdeal (hMixDwIdeal := hMixDwIdeal) (hMixDwRefIdeal := hMixDwRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_FfnDx_FfnDxIdeal
    ∧ algebraic_FfnDxIdeal_FfnDxRefIdeal (hFfnDxIdeal := hFfnDxIdeal) (hFfnDxRefIdeal := hFfnDxRefIdeal)
    ∧ preserves_DownDx_DownDxIdeal
    ∧ algebraic_DownDxIdeal_DownDxRefIdeal (hDownDxIdeal := hDownDxIdeal) (hDownDxRefIdeal := hDownDxRefIdeal)
    ∧ preserves_GatingDx_GatingDxIdeal
    ∧ algebraic_GatingDxIdeal_GatingDxRefIdeal (hGatingDxIdeal := hGatingDxIdeal) (hGatingDxRefIdeal := hGatingDxRefIdeal)
    ∧ preserves_AttnDx_AttnDxIdeal
    ∧ algebraic_AttnDxIdeal_AttnDxRefIdeal (hAttnDxIdeal := hAttnDxIdeal) (hAttnDxRefIdeal := hAttnDxRefIdeal)
    ∧ preserves_MergeBwd_MergeBwdIdeal
    ∧ algebraic_MergeBwdIdeal_MergeBwdRefIdeal_on_merge_bwd_written (hMergeBwdIdeal := hMergeBwdIdeal) (hMergeBwdRefIdeal := hMergeBwdRefIdeal) (hOn_merge_bwd_written := hOn_merge_bwd_written)
    ∧ preserves_NormIn_NormInIdeal
    ∧ algebraic_NormInIdeal_NormInRefIdeal (hNormInIdeal := hNormInIdeal) (hNormInRefIdeal := hNormInRefIdeal)
    ∧ preserves_NormFfn_NormFfnIdeal
    ∧ algebraic_NormFfnIdeal_NormFfnRefIdeal (hNormFfnIdeal := hNormFfnIdeal) (hNormFfnRefIdeal := hNormFfnRefIdeal)
    ∧ preserves_OutFwd_OutFwdIdeal
    ∧ algebraic_OutFwdIdeal_OutFwdRefIdeal (hOutFwdIdeal := hOutFwdIdeal) (hOutFwdRefIdeal := hOutFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_AttnFwd_AttnFwdIdeal
    ∧ algebraic_AttnFwdIdeal_AttnFwdRefIdeal_pre_finite (hAttnFwdIdeal := hAttnFwdIdeal) (hAttnFwdRefIdeal := hAttnFwdRefIdeal) (hPre_finite := hPre_finite)
    ∧ preserves_SguFwd_SguFwdIdeal
    ∧ algebraic_SguFwdIdeal_SguFwdRefIdeal (hSguFwdIdeal := hSguFwdIdeal) (hSguFwdRefIdeal := hSguFwdRefIdeal)
-- ==== On_merge_bwd_written.lean ====
abbrev S4096x1024 : Shape := ⟨2, ![4096, 1024]⟩
abbrev S1024x1024 : Shape := ⟨2, ![1024, 1024]⟩
abbrev S4096x5376 : Shape := ⟨2, ![4096, 5376]⟩
abbrev S_ : Shape := ⟨0, ![]⟩

class Facts : Prop where
  bcast_S_S4096x1024 : S_.BroadcastsInDim S4096x1024 (![] : Fin 0 → Fin S4096x1024.rank)
  bcast_S_S4096x5376 : S_.BroadcastsInDim S4096x5376 (![] : Fin 0 → Fin S4096x5376.rank)

variable [Facts]

def fn {F : FTy → Type} [FloatOps F] (main_arg0 : FVec F S4096x1024 .bf16) (main_arg1 : FVec F S1024x1024 .bf16) (main_arg2 : FVec F S4096x1024 .bf16) (main_arg3 : FVec F S4096x1024 .bf16) (main_arg4 : FVec F S4096x5376 .bf16) : IVec S4096x1024 1 × IVec S4096x1024 1 × IVec S4096x5376 1 :=
  let main_c : IVec S_ 1 := constantI S_ 1 1#1
  let main_v0 : IVec S4096x1024 1 := broadcastInDim S4096x1024 ![] bcast_S_S4096x1024 main_c
  let main_v1 : IVec S4096x5376 32 := iotaInDim S4096x5376 32 1
  let main_c_0 : IVec S_ 32 := constantI S_ 32 2048#32
  let main_v2 : IVec S4096x5376 32 := broadcastInDim S4096x5376 ![] bcast_S_S4096x5376 main_c_0
  let main_v3 : IVec S4096x5376 1 := cmpi .sge main_v1 main_v2
  let main_c_1 : IVec S_ 32 := constantI S_ 32 4096#32
  let main_v4 : IVec S4096x5376 32 := broadcastInDim S4096x5376 ![] bcast_S_S4096x5376 main_c_1
  let main_v5 : IVec S4096x5376 1 := cmpi .slt main_v1 main_v4
  let main_v6 : IVec S4096x5376 1 := andi main_v3 main_v5
  (main_v0, main_v0, main_v6)
-- ==== Pre_finite.lean ====
abbrev S4096x1024 : Shape := ⟨2, ![4096, 1024]⟩
abbrev S4096x128 : Shape := ⟨2, ![4096, 128]⟩
abbrev S16 : Shape := ⟨1, ![16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x128 : S_.BroadcastsInDim S4096x128 (![] : Fin 0 → Fin S4096x128.rank)
  bcast_S_S16 : S_.BroadcastsInDim S16 (![] : Fin 0 → Fin S16.rank)

variable [Facts]

def fn {F : FTy → Type} [FloatOps F] (main_arg0 : FVec F S4096x1024 .bf16) (main_arg1 : FVec F S4096x128 .bf16) (main_arg2 : FVec F S4096x128 .bf16) (main_arg3 : FVec F S16 .f32) : IVec S4096x1024 1 × IVec S4096x128 1 × IVec S16 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x128 .f32 := (extf .f32 · bitsLt_bf16_f32) main_arg1
  let main_v5 : FVec F S4096x128 .f32 := Host.absf main_v4
  let main_cst_0 : FVec F S_ .f32 := constant S_ .f32 0x7F800000#32
  let main_v6 : FVec F S4096x128 .f32 := broadcastInDim S4096x128 ![] bcast_S_S4096x128 main_cst_0
  let main_v7 : IVec S4096x128 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== SguBwd.lean ====
abbrev S4096x1024 : Shape := ⟨2, ![4096, 1024]⟩
abbrev S4096x5376 : Shape := ⟨2, ![4096, 5376]⟩
abbrev S1x1024 : Shape := ⟨2, ![1, 1024]⟩
abbrev S8x128x128 : Shape := ⟨3, ![8, 128, 128]⟩
abbrev S128x8 : Shape := ⟨2, ![128, 8]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x5376, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S128x8, .f32⟩
  | .hbm, ⟨6, _⟩ => ⟨S4096x5376, .bf16⟩
  | .hbm, ⟨7, _⟩ => ⟨S4096x5376, .bf16⟩
  | .hbm, ⟨8, _⟩ => ⟨S1x1024, .f32⟩
  | .hbm, ⟨9, _⟩ => ⟨S1x1024, .f32⟩
  | .hbm, ⟨10, _⟩ => ⟨S8x128x128, .f32⟩
  | .hbm, ⟨11, _⟩ => ⟨S128x8, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x2048, .bf16⟩
  | .local _ .vmem, ⟨11, _⟩ => ⟨S512x2048, .bf16⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S128x8, .f32⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguRefIdeal.lean ====
abbrev S4096x1024 : Shape := ⟨2, ![4096, 1024]⟩
abbrev S4096x5376 : Shape := ⟨2, ![4096, 5376]⟩
abbrev S1x1024 : Shape := ⟨2, ![1, 1024]⟩
abbrev S8x128x128 : Shape := ⟨3, ![8, 128, 128]⟩
abbrev S128x8 : Shape := ⟨2, ![128, 8]⟩
abbrev S4096x2048 : Shape := ⟨2, ![4096, 2048]⟩
abbrev S1x4096x2048 : Shape := ⟨3, ![1, 4096, 2048]⟩
abbrev S1024 : Shape := ⟨1, ![1024]⟩
abbrev S8x128 : Shape := ⟨2, ![8, 128]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S1x1x128x8x1 : Shape := ⟨5, ![1, 1, 128, 8, 1]⟩
abbrev S1x128x8 : Shape := ⟨3, ![1, 128, 8]⟩
abbrev S4096 : Shape := ⟨1, ![4096]⟩
abbrev S4096x3328 : Shape := ⟨2, ![4096, 3328]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x5376, .bf16⟩
  | 2 => ⟨S1x1024, .f32⟩
  | 3 => ⟨S1x1024, .f32⟩
  | 4 => ⟨S8x128x128, .f32⟩
  | 5 => ⟨S128x8, .f32⟩
  | 6 => ⟨S4096x5376, .bf16⟩
  | 7 => ⟨S4096x2048, .bf16⟩
  | 8 => ⟨S1x4096x2048, .bf16⟩
  | 9 => ⟨S1x4096x2048, .f32⟩
  | 10 => ⟨S1024, .f32⟩
  | 11 => ⟨S1024, .f32⟩
  | 12 => ⟨S8x128, .f32⟩
  | 13 => ⟨S_, .f32⟩
  | 14 => ⟨S1x4096x2048, .f32⟩
  | 15 => ⟨S1x4096x2048, .f32⟩
  | 16 => ⟨S1x4096x2048, .f32⟩
  | 17 => ⟨S_, .f32⟩
  | 18 => ⟨S1x4096x2048, .f32⟩
  | 19 => ⟨S1x4096x2048, .f32⟩
  | 20 => ⟨S1x4096x2048, .f32⟩
  | 21 => ⟨S1x4096x2048, .f32⟩
  | 22 => ⟨S1x4096x2048, .f32⟩
  | 23 => ⟨S1x4096x2048, .f32⟩
  | 24 => ⟨S1x4096x2048, .f32⟩
  | 25 => ⟨S1x4096x1024, .f32⟩
  | 26 => ⟨S1x4096x1024, .f32⟩
  | 27 => ⟨S_, .f32⟩
  | 28 => ⟨S1x4096, .f32⟩
  | 29 => ⟨S1x4096x1, .f32⟩
  | 30 => ⟨S_, .f32⟩
  | 31 => ⟨S1x4096x1, .f32⟩
  | 32 => ⟨S1x4096x1, .f32⟩
  | 33 => ⟨S1x4096x1024, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S_, .f32⟩
  | 40 => ⟨S1x4096, .f32⟩
  | 41 => ⟨S1x4096x1, .f32⟩
  | 42 => ⟨S_, .f32⟩
  | 43 => ⟨S1x4096x1, .f32⟩
  | 44 => ⟨S1x4096x1, .f32⟩
  | 45 => ⟨S1x4096x1024, .f32⟩
  | 46 => ⟨S1x4096x1024, .f32⟩
  | 47 => ⟨S_, .f32⟩
  | 48 => ⟨S1x4096x1, .f32⟩
  | 49 => ⟨S1x4096x1, .f32⟩
  | 50 => ⟨S1x4096x1, .f32⟩
  | 51 => ⟨S1x4096x1, .f32⟩
  | 52 => ⟨S_, .f32⟩
  | 53 => ⟨S1x4096x1, .f32⟩
  | 54 => ⟨S1x4096x1, .f32⟩
  | 55 => ⟨S1x4096x1024, .f32⟩
  | 56 => ⟨S1x4096x1024, .f32⟩
  | 57 => ⟨S1x1x1024, .f32⟩
  | 58 => ⟨S1x4096x1024, .f32⟩
  | 59 => ⟨S1x4096x1024, .f32⟩
  | 60 => ⟨S1x1x1024, .f32⟩
  | 61 => ⟨S1x4096x1024, .f32⟩
  | 62 => ⟨S1x4096x1024, .f32⟩
  | 63 => ⟨S1x32x128x8x128, .f32⟩
  | 64 => ⟨S_, .i1⟩
  | 65 => ⟨S128x128, .i1⟩
  | 66 => ⟨S128x128, .i32⟩
  | 67 => ⟨S_, .i32⟩
  | 68 => ⟨S128x128, .i32⟩
  | 69 => ⟨S128x128, .i32⟩
  | 70 => ⟨S128x128, .i32⟩
  | 71 => ⟨S128x128, .i1⟩
  | 72 => ⟨S_, .i1⟩
  | 73 => ⟨S128x128, .i1⟩
  | 74 => ⟨S128x128, .i1⟩
  | 75 => ⟨S1x128x128, .i1⟩
  | 76 => ⟨S_, .f32⟩
  | 77 => ⟨S8x128x128, .f32⟩
  | 78 => ⟨S8x128x128, .i1⟩
  | 79 => ⟨S8x128x128, .f32⟩
  | 80 => ⟨S_, .f32⟩
  | 81 => ⟨S8x128x128, .f32⟩
  | 82 => ⟨S8x1x32x128x128, .f32⟩
  | 83 => ⟨S1x32x128x8x128, .f32⟩
  | 84 => ⟨S128x8, .f32⟩
  | 85 => ⟨S1x1x128x8x1, .f32⟩
  | 86 => ⟨S1x32x128x8x128, .f32⟩
  | 87 => ⟨S1x32x128x8x128, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x32x128x8x128, .f32⟩
  | 94 => ⟨S_, .f32⟩
  | 95 => ⟨S1x128x8, .f32⟩
  | 96 => ⟨S1x1x128x8x1, .f32⟩
  | 97 => ⟨S_, .f32⟩
  | 98 => ⟨S128x8, .f32⟩
  | 99 => ⟨S8x128, .f32⟩
  | 100 => ⟨S8x1x32x128x128, .f32⟩
  | 101 => ⟨S8x128x128, .f32⟩
  | 102 => ⟨S8x1x32x128x128, .f32⟩
  | 103 => ⟨S1x32x128x8x128, .f32⟩
  | 104 => ⟨S_, .f32⟩
  | 105 => ⟨S8x128x128, .f32⟩
  | 106 => ⟨S8x128x128, .f32⟩
  | 107 => ⟨S1x4096x1024, .f32⟩
  | 108 => ⟨S_, .f32⟩
  | 109 => ⟨S1x1024, .f32⟩
  | 110 => ⟨S1x1x1024, .f32⟩
  | 111 => ⟨S_, .f32⟩
  | 112 => ⟨S1024, .f32⟩
  | 113 => ⟨S1x4096x1024, .f32⟩
  | 114 => ⟨S_, .f32⟩
  | 115 => ⟨S1x1024, .f32⟩
  | 116 => ⟨S1x1x1024, .f32⟩
  | 117 => ⟨S1x4096x1024, .f32⟩
  | 118 => ⟨S1x4096x1024, .f32⟩
  | 119 => ⟨S_, .f32⟩
  | 120 => ⟨S1024, .f32⟩
  | 121 => ⟨S1x4096x1024, .f32⟩
  | 122 => ⟨S_, .f32⟩
  | 123 => ⟨S1x4096, .f32⟩
  | 124 => ⟨S1x4096x1, .f32⟩
  | 125 => ⟨S1x4096x1024, .f32⟩
  | 126 => ⟨S1x4096x1024, .f32⟩
  | 127 => ⟨S1x4096x1, .f32⟩
  | _ => ⟨S4096x1024, .f32⟩

abbrev hbmTy0_1 (i : Nat) : BufTy := match i % 128 with
  | 0 => ⟨S1x4096x1024, .f32⟩
  | 1 => ⟨S_, .f32⟩
  | 2 => ⟨S1x4096, .f32⟩
  | 3 => ⟨S1x4096x1, .f32⟩
  | 4 => ⟨S_, .f32⟩
  | 5 => ⟨S1x4096x1, .f32⟩
  | 6 => ⟨S1x4096x1, .f32⟩
  | 7 => ⟨S_, .f32⟩
  | 8 => ⟨S4096, .f32⟩
  | 9 => ⟨S1x4096, .f32⟩
  | 10 => ⟨S1x4096x1024, .f32⟩
  | 11 => ⟨S1x4096x1024, .f32⟩
  | 12 => ⟨S1x4096x1024, .f32⟩
  | 13 => ⟨S_, .f32⟩
  | 14 => ⟨S1x4096, .f32⟩
  | 15 => ⟨S1x4096x1, .f32⟩
  | 16 => ⟨S1x4096x1024, .f32⟩
  | 17 => ⟨S1x4096x1, .f32⟩
  | 18 => ⟨S_, .f32⟩
  | 19 => ⟨S1x4096x1, .f32⟩
  | 20 => ⟨S1x4096x1, .f32⟩
  | 21 => ⟨S_, .f32⟩
  | 22 => ⟨S4096, .f32⟩
  | 23 => ⟨S1x4096, .f32⟩
  | 24 => ⟨S1x4096x1024, .f32⟩
  | 25 => ⟨S1x4096x1024, .f32⟩
  | 26 => ⟨S1x4096x2048, .f32⟩
  | 27 => ⟨S1x4096x2048, .f32⟩
  | 28 => ⟨S1x4096x2048, .f32⟩
  | 29 => ⟨S_, .f32⟩
  | 30 => ⟨S1x4096x2048, .f32⟩
  | 31 => ⟨S1x4096x2048, .f32⟩
  | 32 => ⟨S1x4096x2048, .f32⟩
  | 33 => ⟨S_, .f32⟩
  | 34 => ⟨S1x4096x2048, .f32⟩
  | 35 => ⟨S1x4096x2048, .f32⟩
  | 36 => ⟨S1x4096x2048, .f32⟩
  | 37 => ⟨S_, .f32⟩
  | 38 => ⟨S1x4096x2048, .f32⟩
  | 39 => ⟨S1x4096x2048, .f32⟩
  | 40 => ⟨S1x4096x2048, .f32⟩
  | 41 => ⟨S4096x2048, .f32⟩
  | 42 => ⟨S4096x3328, .bf16⟩
  | 43 => ⟨S4096x3328, .f32⟩
  | 44 => ⟨S4096x5376, .f32⟩
  | 45 => ⟨S4096x5376, .bf16⟩
  | 46 => ⟨S1x1024, .f32⟩
  | 47 => ⟨S1x1024, .f32⟩
  | 48 => ⟨S128x8, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52_1 : Ref sig .tc := ⟨.hbm, 78, rfl⟩
abbrev main_v52_0 : Ref sig .tc := ⟨.hbm, 79, rfl⟩
abbrev main_call1_cst : Ref sig .tc := ⟨.hbm, 80, rfl⟩
abbrev main_v52_2 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call2_cst : Ref sig .tc := ⟨.hbm, 104, rfl⟩
abbrev main_call2_v0 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_16 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_20 : Ref sig .tc := ⟨.hbm, 146, rfl⟩
abbrev main_v104 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_22 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩

abbrev nD : Nat := 1
abbrev τ : Topo := Topo.v7x

variable {F : FTy → Type} [FloatOps F]
-- ==== FfnDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDwRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x5376 : Shape := ⟨2, ![4096, 5376]⟩
abbrev S4096x1024 : Shape := ⟨2, ![4096, 1024]⟩
abbrev S5376x1024 : Shape := ⟨2, ![5376, 1024]⟩
abbrev S4096x896 : Shape := ⟨2, ![4096, 896]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S5376x1024, .bf16⟩
  | .local _ .vmem, ⟨0, _⟩ => ⟨S4096x896, .bf16⟩
  | .local _ .vmem, ⟨1, _⟩ => ⟨S4096x896, .bf16⟩
  | .local _ .vmem, ⟨2, _⟩ => ⟨S4096x1024, .bf16⟩
  | .local _ .vmem, ⟨3, _⟩ => ⟨S896x1024, .bf16⟩
  | .local _ .vmem, ⟨4, _⟩ => ⟨S896x1024, .bf16⟩
  | .local _ .vmem, ⟨5, _⟩ => ⟨S896x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x5376 : Shape := ⟨2, ![4096, 5376]⟩
abbrev S4096x1024 : Shape := ⟨2, ![4096, 1024]⟩
abbrev S_ : Shape := ⟨0, ![]⟩
abbrev S1024x5376 : Shape := ⟨2, ![1024, 5376]⟩
abbrev S5376x1024 : Shape := ⟨2, ![5376, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .bf16⟩
  | .hbm, ⟨2, _⟩ => ⟨S_, .f32⟩
  | .hbm, ⟨3, _⟩ => ⟨S1024x5376, .f32⟩
  | .hbm, ⟨4, _⟩ => ⟨S4096x1024, .f32⟩
  | .hbm, ⟨5, _⟩ => ⟨S4096x5376, .f32⟩
  | .hbm, ⟨6, _⟩ => ⟨S4096x5376, .f32⟩
  | .hbm, ⟨7, _⟩ => ⟨S5376x1024, .f32⟩
  | .hbm, ⟨8, _⟩ => ⟨S1024x5376, .f32⟩
  | .hbm, ⟨9, _⟩ => ⟨S5376x1024, .f32⟩
  | .hbm, ⟨10, _⟩ => ⟨S5376x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDx.lean ====
abbrev S4096x5376 : Shape := ⟨2, ![4096, 5376]⟩
abbrev S5376x1024 : Shape := ⟨2, ![5376, 1024]⟩
abbrev S4096x1024 : Shape := ⟨2, ![4096, 1024]⟩
abbrev S512x5376 : Shape := ⟨2, ![512, 5376]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5376, .bf16⟩
  | .hbm, ⟨1, _⟩ => ⟨S5376x1024, .bf16⟩
  | .hbm, ⟨2, _⟩ => ⟨S4096x1024, .f32⟩
  | .local _ .vmem, ⟨0, _⟩ => ⟨S512x5376, .bf16⟩
  | .local _ .vmem, ⟨1, _⟩ => ⟨S512x5376, .bf16⟩
  | .local _ .vmem, ⟨2, _⟩ => ⟨S5376x1024, .bf16⟩
  | .local _ .vmem, ⟨3, _⟩ => ⟨S512x1024, .f32⟩
  | .local _ .vmem, ⟨4, _⟩ => ⟨S512x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5376x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDxRefIdeal.lean ====
abbrev S4096x5376 : Shape := ⟨2, ![4096, 5376]⟩
abbrev S5376x1024 : Shape := ⟨2, ![5376, 1024]⟩
abbrev S_ : Shape := ⟨0, ![]⟩
abbrev S4096x1024 : Shape := ⟨2, ![4096, 1024]⟩
abbrev S1024x5376 : Shape := ⟨2, ![1024, 5376]⟩

abbrev nBuf : Space → Nat
  | .hbm => 9
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x1024, .bf16⟩
  | .hbm, ⟨2, _⟩ => ⟨S_, .f32⟩
  | .hbm, ⟨3, _⟩ => ⟨S4096x1024, .f32⟩
  | .hbm, ⟨4, _⟩ => ⟨S5376x1024, .f32⟩
  | .hbm, ⟨5, _⟩ => ⟨S1024x5376, .f32⟩
  | .hbm, ⟨6, _⟩ => ⟨S4096x5376, .f32⟩
  | .hbm, ⟨7, _⟩ => ⟨S4096x5376, .f32⟩
  | .hbm, ⟨8, _⟩ => ⟨S4096x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDx.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDxRefIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S_, .f32⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GatingDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatingDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeBwd.lean ====
abbrev S4096x1024 : Shape := ⟨2, ![4096, 1024]⟩
abbrev S1024x1024 : Shape := ⟨2, ![1024, 1024]⟩
abbrev S4096x5376 : Shape := ⟨2, ![4096, 5376]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5376, .bf16⟩
  | .hbm, ⟨5, _⟩ => ⟨S4096x1024, .bf16⟩
  | .hbm, ⟨6, _⟩ => ⟨S4096x1024, .bf16⟩
  | .hbm, ⟨7, _⟩ => ⟨S4096x5376, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S4096x1024 : Shape := ⟨2, ![4096, 1024]⟩
abbrev S1024x1024 : Shape := ⟨2, ![1024, 1024]⟩
abbrev S4096x5376 : Shape := ⟨2, ![4096, 5376]⟩
abbrev S4096x2048 : Shape := ⟨2, ![4096, 2048]⟩
abbrev S_ : Shape := ⟨0, ![]⟩
abbrev S4096x1280 : Shape := ⟨2, ![4096, 1280]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .bf16⟩
  | .hbm, ⟨4, _⟩ => ⟨S4096x5376, .bf16⟩
  | .hbm, ⟨5, _⟩ => ⟨S4096x2048, .bf16⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S_, .f32⟩
  | .hbm, ⟨39, _⟩ => ⟨S4096x1280, .f32⟩
  | .hbm, ⟨40, _⟩ => ⟨S4096x5376, .f32⟩
  | .hbm, ⟨41, _⟩ => ⟨S4096x1024, .bf16⟩
  | .hbm, ⟨42, _⟩ => ⟨S4096x1024, .bf16⟩
  | .hbm, ⟨43, _⟩ => ⟨S4096x5376, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S5376x1024 : Shape := ⟨2, ![5376, 1024]⟩
abbrev S4096x5376 : Shape := ⟨2, ![4096, 5376]⟩
abbrev S2048x1024 : Shape := ⟨2, ![2048, 1024]⟩
abbrev S768x1024 : Shape := ⟨2, ![768, 1024]⟩
abbrev S2048x768 : Shape := ⟨2, ![2048, 768]⟩
abbrev S2048 : Shape := ⟨1, ![2048]⟩
abbrev S2048x1 : Shape := ⟨2, ![2048, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5376x1024, .bf16⟩
  | .hbm, ⟨5, _⟩ => ⟨S4096x1024, .bf16⟩
  | .hbm, ⟨6, _⟩ => ⟨S4096x5376, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S768x1024, .bf16⟩
  | .local _ .vmem, ⟨6, _⟩ => ⟨S768x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x768, .bf16⟩
  | .local _ .vmem, ⟨10, _⟩ => ⟨S2048x768, .bf16⟩
  | .local _ .vmem, ⟨11, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NormInRefIdeal.lean ====
abbrev S4096x1024 : Shape := ⟨2, ![4096, 1024]⟩
abbrev S1x1024 : Shape := ⟨2, ![1, 1024]⟩
abbrev S5376x1024 : Shape := ⟨2, ![5376, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5376 : Shape := ⟨2, ![1024, 5376]⟩
abbrev S4096x5376 : Shape := ⟨2, ![4096, 5376]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5376x1024, .bf16⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S5376x1024, .f32⟩
  | .hbm, ⟨31, _⟩ => ⟨S1024x5376, .f32⟩
  | .hbm, ⟨32, _⟩ => ⟨S4096x5376, .f32⟩
  | .hbm, ⟨33, _⟩ => ⟨S4096x5376, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== NormFfn.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S4096x1024, .bf16⟩
  | .hbm, ⟨7, _⟩ => ⟨S4096x2816, .bf16⟩
  | .hbm, ⟨8, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NormFfnRefIdeal.lean ====
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S2816x1024, .f32⟩
  | .hbm, ⟨32, _⟩ => ⟨S1024x2816, .f32⟩
  | .hbm, ⟨33, _⟩ => ⟨S4096x2816, .f32⟩
  | .hbm, ⟨34, _⟩ => ⟨S4096x2816, .bf16⟩
  | .hbm, ⟨35, _⟩ => ⟨S2816x1024, .f32⟩
  | .hbm, ⟨36, _⟩ => ⟨S1024x2816, .f32⟩
  | .hbm, ⟨37, _⟩ => ⟨S4096x2816, .f32⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFwdRefIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownFwdRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MergeFwd.lean ====
abbrev S4096x1024 : Shape := ⟨2, ![4096, 1024]⟩
abbrev S1024x1024 : Shape := ⟨2, ![1024, 1024]⟩
abbrev S4096x5376 : Shape := ⟨2, ![4096, 5376]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S1024x1024, .bf16⟩
  | .hbm, ⟨4, _⟩ => ⟨S4096x5376, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFwdRefIdeal.lean ====
abbrev S4096x1024 : Shape := ⟨2, ![4096, 1024]⟩
abbrev S1024x1024 : Shape := ⟨2, ![1024, 1024]⟩
abbrev S4096x5376 : Shape := ⟨2, ![4096, 5376]⟩
abbrev S4096x2048 : Shape := ⟨2, ![4096, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S1024x1024, .bf16⟩
  | .hbm, ⟨4, _⟩ => ⟨S4096x5376, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x2048, .bf16⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== AttnFwd.lean ====
abbrev S4096x1024 : Shape := ⟨2, ![4096, 1024]⟩
abbrev S4096x128 : Shape := ⟨2, ![4096, 128]⟩
abbrev S16 : Shape := ⟨1, ![16]⟩
abbrev S2x8 : Shape := ⟨2, ![2, 8]⟩
abbrev S2x8x128 : Shape := ⟨3, ![2, 8, 128]⟩
abbrev S2x1024 : Shape := ⟨2, ![2, 1024]⟩
abbrev S2x1024x1 : Shape := ⟨3, ![2, 1024, 1]⟩
abbrev S2x1024x128 : Shape := ⟨3, ![2, 1024, 128]⟩
abbrev S1024x256 : Shape := ⟨2, ![1024, 256]⟩
abbrev S_ : Shape := ⟨0, ![]⟩
abbrev S1x1024x256 : Shape := ⟨3, ![1, 1024, 256]⟩
abbrev S2x1024x256 : Shape := ⟨3, ![2, 1024, 256]⟩
abbrev S128x1024 : Shape := ⟨2, ![128, 1024]⟩
abbrev S128x128 : Shape := ⟨2, ![128, 128]⟩
abbrev S256x128 : Shape := ⟨2, ![256, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S256x256 : Shape := ⟨2, ![256, 256]⟩

abbrev nBuf : Space → Nat
  | .hbm => 39
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x128, .bf16⟩
  | .hbm, ⟨3, _⟩ => ⟨S16, .f32⟩
  | .hbm, ⟨4, _⟩ => ⟨S2x8, .f32⟩
  | .hbm, ⟨5, _⟩ => ⟨S2x8x128, .f32⟩
  | .hbm, ⟨6, _⟩ => ⟨S2x1024, .f32⟩
  | .hbm, ⟨7, _⟩ => ⟨S2x1024x1, .f32⟩
  | .hbm, ⟨8, _⟩ => ⟨S2x1024x128, .f32⟩
  | .hbm, ⟨9, _⟩ => ⟨S1024x256, .i32⟩
  | .hbm, ⟨10, _⟩ => ⟨S_, .i32⟩
  | .hbm, ⟨11, _⟩ => ⟨S1024x256, .i32⟩
  | .hbm, ⟨12, _⟩ => ⟨S1024x256, .i32⟩
  | .hbm, ⟨13, _⟩ => ⟨S1024x256, .i32⟩
  | .hbm, ⟨14, _⟩ => ⟨S1024x256, .i1⟩
  | .hbm, ⟨15, _⟩ => ⟨S_, .i32⟩
  | .hbm, ⟨16, _⟩ => ⟨S1024x256, .i32⟩
  | .hbm, ⟨17, _⟩ => ⟨S1024x256, .i32⟩
  | .hbm, ⟨18, _⟩ => ⟨S1024x256, .i1⟩
  | .hbm, ⟨19, _⟩ => ⟨S1024x256, .i1⟩
  | .hbm, ⟨20, _⟩ => ⟨S_, .i32⟩
  | .hbm, ⟨21, _⟩ => ⟨S1024x256, .i32⟩
  | .hbm, ⟨22, _⟩ => ⟨S1024x256, .i1⟩
  | .hbm, ⟨23, _⟩ => ⟨S1024x256, .i1⟩
  | .hbm, ⟨24, _⟩ => ⟨S_, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1x1024x256, .f32⟩
  | .hbm, ⟨35, _⟩ => ⟨S1x1024x256, .f32⟩
  | .hbm, ⟨36, _⟩ => ⟨S2x1024x256, .f32⟩
  | .hbm, ⟨37, _⟩ => ⟨S2x1024x256, .f32⟩
  | .hbm, ⟨38, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S2x1024x128, .f32⟩
  | .local _ .vmem, ⟨11, _⟩ => ⟨S1x1024x256, .f32⟩
  | .local _ .vmem, ⟨12, _⟩ => ⟨S1x1024x256, .f32⟩
  | .local _ .vmem, ⟨13, _⟩ => ⟨S128x1024, .bf16⟩
  | .local _ .vmem, ⟨14, _⟩ => ⟨S128x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwdRefIdeal.lean ====
abbrev S4096x1024 : Shape := ⟨2, ![4096, 1024]⟩
abbrev S4096x128 : Shape := ⟨2, ![4096, 128]⟩
abbrev S16 : Shape := ⟨1, ![16]⟩
abbrev S_ : Shape := ⟨0, ![]⟩
abbrev S1x4096x16x64 : Shape := ⟨4, ![1, 4096, 16, 64]⟩
abbrev S1x4096x2x64 : Shape := ⟨4, ![1, 4096, 2, 64]⟩
abbrev S1x32x128x2x8x64 : Shape := ⟨6, ![1, 32, 128, 2, 8, 64]⟩
abbrev S1x32x128x2x64 : Shape := ⟨5, ![1, 32, 128, 2, 64]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x4096x1024 : Shape := ⟨3, ![1, 4096, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x128, .bf16⟩
  | .hbm, ⟨3, _⟩ => ⟨S16, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x4096x16x64, .f32⟩
  | .hbm, ⟨9, _⟩ => ⟨S4096x128, .f32⟩
  | .hbm, ⟨10, _⟩ => ⟨S1x4096x2x64, .f32⟩
  | .hbm, ⟨11, _⟩ => ⟨S4096x128, .f32⟩
  | .hbm, ⟨12, _⟩ => ⟨S1x4096x2x64, .f32⟩
  | .hbm, ⟨13, _⟩ => ⟨S1x32x128x2x8x64, .f32⟩
  | .hbm, ⟨14, _⟩ => ⟨S1x32x128x2x64, .f32⟩
  | .hbm, ⟨15, _⟩ => ⟨S1x32x128x2x64, .f32⟩
  | .hbm, ⟨16, _⟩ => ⟨S1x31x128x2x64, .f32⟩
  | .hbm, ⟨17, _⟩ => ⟨S_, .i32⟩
  | .hbm, ⟨18, _⟩ => ⟨S_, .f32⟩
  | .hbm, ⟨19, _⟩ => ⟨S1x32x128x2x64, .f32⟩
  | .hbm, ⟨20, _⟩ => ⟨S1x32x256x2x64, .f32⟩
  | .hbm, ⟨21, _⟩ => ⟨S1x31x128x2x64, .f32⟩
  | .hbm, ⟨22, _⟩ => ⟨S_, .i32⟩
  | .hbm, ⟨23, _⟩ => ⟨S_, .f32⟩
  | .hbm, ⟨24, _⟩ => ⟨S1x32x128x2x64, .f32⟩
  | .hbm, ⟨25, _⟩ => ⟨S1x32x256x2x64, .f32⟩
  | .hbm, ⟨26, _⟩ => ⟨S1x32x2x256x128x8, .f32⟩
  | .hbm, ⟨27, _⟩ => ⟨S1x32x2x8x128x256, .f32⟩
  | .hbm, ⟨28, _⟩ => ⟨S_, .f32⟩
  | .hbm, ⟨29, _⟩ => ⟨S1x32x2x8x128x256, .f32⟩
  | .hbm, ⟨30, _⟩ => ⟨S1x32x2x8x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x256, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x256, .i32⟩
  | .hbm, ⟨48, _⟩ => ⟨S128x256, .i32⟩
  | .hbm, ⟨49, _⟩ => ⟨S128x256, .i1⟩
  | .hbm, ⟨50, _⟩ => ⟨S128x256, .i1⟩
  | .hbm, ⟨51, _⟩ => ⟨S32, .i32⟩
  | .hbm, ⟨52, _⟩ => ⟨S32x1x1, .i32⟩
  | .hbm, ⟨53, _⟩ => ⟨S_, .i32⟩
  | .hbm, ⟨54, _⟩ => ⟨S32x1x1, .i32⟩
  | .hbm, ⟨55, _⟩ => ⟨S32x1x1, .i1⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S1x1x256, .i1⟩
  | .hbm, ⟨60, _⟩ => ⟨S32x1x256, .i1⟩
  | .hbm, ⟨61, _⟩ => ⟨S32x1x256, .i1⟩
  | .hbm, ⟨62, _⟩ => ⟨S32x1x256, .i1⟩
  | .hbm, ⟨63, _⟩ => ⟨S1x128x256, .i1⟩
  | .hbm, ⟨64, _⟩ => ⟨S32x128x256, .i1⟩
  | .hbm, ⟨65, _⟩ => ⟨S32x128x256, .i1⟩
  | .hbm, ⟨66, _⟩ => ⟨S32x128x256, .i1⟩
  | .hbm, ⟨67, _⟩ => ⟨S1x32x1x1x128x256, .i1⟩
  | .hbm, ⟨68, _⟩ => ⟨S_, .f32⟩
  | .hbm, ⟨69, _⟩ => ⟨S_, .f32⟩
  | .hbm, ⟨70, _⟩ => ⟨S1x32x2x8x128x256, .i1⟩
  | .hbm, ⟨71, _⟩ => ⟨S1x32x2x8x128x256, .f32⟩
  | .hbm, ⟨72, _⟩ => ⟨S1x32x2x8x128x256, .f32⟩
  | .hbm, ⟨73, _⟩ => ⟨S2x8, .f32⟩
  | .hbm, ⟨74, _⟩ => ⟨S1x1x2x8x1x1, .f32⟩
  | .hbm, ⟨75, _⟩ => ⟨S_, .f32⟩
  | .hbm, ⟨76, _⟩ => ⟨S1x32x2x8x128, .f32⟩
  | .hbm, ⟨77, _⟩ => ⟨S1x32x2x8x128x1, .f32⟩
  | .hbm, ⟨78, _⟩ => ⟨S1x32x2x8x128x1, .f32⟩
  | .hbm, ⟨79, _⟩ => ⟨S1x32x2x8x128x1, .f32⟩
  | .hbm, ⟨80, _⟩ => ⟨S1x32x2x8x128x256, .f32⟩
  | .hbm, ⟨81, _⟩ => ⟨S1x32x2x8x128x256, .f32⟩
  | .hbm, ⟨82, _⟩ => ⟨S1x32x2x8x128x256, .f32⟩
  | .hbm, ⟨83, _⟩ => ⟨S_, .f32⟩
  | .hbm, ⟨84, _⟩ => ⟨S1x32x2x8x128, .f32⟩
  | .hbm, ⟨85, _⟩ => ⟨S1x32x2x8x128x1, .f32⟩
  | .hbm, ⟨86, _⟩ => ⟨S1x32x2x8x128x1, .f32⟩
  | .hbm, ⟨87, _⟩ => ⟨S1x32x2x8x128x1, .f32⟩
  | .hbm, ⟨88, _⟩ => ⟨S1x32x2x8x128x1, .f32⟩
  | .hbm, ⟨89, _⟩ => ⟨S1x32x2x8x128x1, .f32⟩
  | .hbm, ⟨90, _⟩ => ⟨S1x32x2x8x128x256, .f32⟩
  | .hbm, ⟨91, _⟩ => ⟨S1x32x2x8x128x256, .f32⟩
  | .hbm, ⟨92, _⟩ => ⟨S1x32x2x64x8x128, .f32⟩
  | .hbm, ⟨93, _⟩ => ⟨S1x32x128x2x8x64, .f32⟩
  | .hbm, ⟨94, _⟩ => ⟨S1x4096x1024, .f32⟩
  | .hbm, ⟨95, _⟩ => ⟨S4096x1024, .f32⟩
  | .hbm, ⟨96, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== SguFwd.lean ====
abbrev S4096x5376 : Shape := ⟨2, ![4096, 5376]⟩
abbrev S1x1024 : Shape := ⟨2, ![1, 1024]⟩
abbrev S8x128x128 : Shape := ⟨3, ![8, 128, 128]⟩
abbrev S128x8 : Shape := ⟨2, ![128, 8]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x5376, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S128x8, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x1024, .bf16⟩
  | .local _ .vmem, ⟨9, _⟩ => ⟨S512x1024, .bf16⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S4096x5376 : Shape := ⟨2, ![4096, 5376]⟩
abbrev S1x1024 : Shape := ⟨2, ![1, 1024]⟩
abbrev S8x128x128 : Shape := ⟨3, ![8, 128, 128]⟩
abbrev S128x8 : Shape := ⟨2, ![128, 8]⟩
abbrev S4096x2048 : Shape := ⟨2, ![4096, 2048]⟩
abbrev S1x4096x2048 : Shape := ⟨3, ![1, 4096, 2048]⟩
abbrev S_ : Shape := ⟨0, ![]⟩
abbrev S1024 : Shape := ⟨1, ![1024]⟩
abbrev S8x128 : Shape := ⟨2, ![8, 128]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S1x1x128x8x1 : Shape := ⟨5, ![1, 1, 128, 8, 1]⟩
abbrev S4096x1024 : Shape := ⟨2, ![4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S128x8, .f32⟩
  | .hbm, ⟨5, _⟩ => ⟨S4096x2048, .bf16⟩
  | .hbm, ⟨6, _⟩ => ⟨S1x4096x2048, .bf16⟩
  | .hbm, ⟨7, _⟩ => ⟨S1x4096x2048, .f32⟩
  | .hbm, ⟨8, _⟩ => ⟨S_, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x4096x2048, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S1024, .f32⟩
  | .hbm, ⟨18, _⟩ => ⟨S1024, .f32⟩
  | .hbm, ⟨19, _⟩ => ⟨S8x128, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096, .f32⟩
  | .hbm, ⟨24, _⟩ => ⟨S1x4096x1, .f32⟩
  | .hbm, ⟨25, _⟩ => ⟨S_, .f32⟩
  | .hbm, ⟨26, _⟩ => ⟨S1x4096x1, .f32⟩
  | .hbm, ⟨27, _⟩ => ⟨S1x4096x1, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x1x1024, .f32⟩
  | .hbm, ⟨49, _⟩ => ⟨S1x4096x1024, .f32⟩
  | .hbm, ⟨50, _⟩ => ⟨S1x4096x1024, .f32⟩
  | .hbm, ⟨51, _⟩ => ⟨S1x32x128x8x128, .f32⟩
  | .hbm, ⟨52, _⟩ => ⟨S_, .i1⟩
  | .hbm, ⟨53, _⟩ => ⟨S128x128, .i1⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .i1⟩
  | .hbm, ⟨61, _⟩ => ⟨S128x128, .i1⟩
  | .hbm, ⟨62, _⟩ => ⟨S128x128, .i1⟩
  | .hbm, ⟨63, _⟩ => ⟨S1x128x128, .i1⟩
  | .hbm, ⟨64, _⟩ => ⟨S_, .f32⟩
  | .hbm, ⟨65, _⟩ => ⟨S8x128x128, .f32⟩
  | .hbm, ⟨66, _⟩ => ⟨S8x128x128, .i1⟩
  | .hbm, ⟨67, _⟩ => ⟨S8x128x128, .f32⟩
  | .hbm, ⟨68, _⟩ => ⟨S8x1x32x128x128, .f32⟩
  | .hbm, ⟨69, _⟩ => ⟨S1x32x128x8x128, .f32⟩
  | .hbm, ⟨70, _⟩ => ⟨S128x8, .f32⟩
  | .hbm, ⟨71, _⟩ => ⟨S1x1x128x8x1, .f32⟩
  | .hbm, ⟨72, _⟩ => ⟨S1x32x128x8x128, .f32⟩
  | .hbm, ⟨73, _⟩ => ⟨S1x32x128x8x128, .f32⟩
  | .hbm, ⟨74, _⟩ => ⟨S1x4096x1024, .f32⟩
  | .hbm, ⟨75, _⟩ => ⟨S1x4096x1024, .f32⟩
  | .hbm, ⟨76, _⟩ => ⟨S4096x1024, .f32⟩
  | .hbm, ⟨77, _⟩ => ⟨S4096x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_v40 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_0 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.Sgu.Spec.lean ====
/-
  The derivative of the spatial gating unit, written as plain formulas over the extended reals.

  The rows of the step are cut into chunks of 128 positions, and the 1024 lanes into 8 groups of 128. Everything the
  gradient of one row needs lies in that row's chunk, so each formula takes the rows of ONE chunk. The kernel computes four
  chunks per block and the reference all 32 at once; both are read as these formulas.
-/
module

public import Idealize.ShloMosaic.PureOps.Ideal.Laws

@[expose] public section

noncomputable section

open Idealize.ShloMosaic

namespace Cert.Sgu

/-- A row of 1024 lanes. -/
abbrev Row := Fin 1024 → EReal
/-- The 128 rows of a chunk. -/
abbrev Chunk := Fin 128 → Row

/-- The group of a lane. -/
def grp (j : Fin 1024) : Fin 8 := ⟨j.val / 128, by have := j.isLt; omega⟩
/-- The lane of group `g` at offset `l`. -/
def lane (g : Fin 8) (l : Fin 128) : Fin 1024 := ⟨128 * g.val + l.val, by have := g.isLt; have := l.isLt; omega⟩

/-- The position of a row in its chunk. -/
def pos {n : ℕ} (r : Fin n) : Fin 128 := ⟨r.val % 128, Nat.mod_lt _ (by decide)⟩

/-- The printed constants 1/2, the square root of 1/2, 2/√π, 1024, 2, −1/2 and the norm's ε. -/
abbrev cHalf : EReal := Ideal.ofBits .f32 0x3F000000#32
abbrev cRoot : EReal := Ideal.ofBits .f32 0x3F3504F3#32

abbrev cErf : EReal := Ideal.ofBits .f32 0x3F906EBB#32
abbrev cLanes : EReal := Ideal.ofBits .f32 0x44800000#32
abbrev cTwo : EReal := Ideal.ofBits .f32 0x40000000#32
abbrev cNegHalf : EReal := Ideal.ofBits .f32 0xBF000000#32
abbrev cEps : EReal := Ideal.ofBits .f32 0x358637BD#32

/-- `gelu x = x/2 · (1 + erf (x/√2))`. -/
def gelu (x : EReal) : EReal := cHalf * x * (1 + Ideal.erf (x * cRoot))

/-- The cotangent `ct` of `gelu x` pulled back to `x`. -/
def geluBwd (x ct : EReal) : EReal :=
  cErf * (cHalf * x * ct) * Ideal.exp (-(x * cRoot * (x * cRoot))) * cRoot + cHalf * (ct * (1 + Ideal.erf (x * cRoot)))

/-- The mean of a row. -/
def mean (v : Row) : EReal := Ideal.div (∑ k, v k) cLanes
/-- The variance of a row, plus ε. -/
def varEps (v : Row) : EReal := Ideal.div (∑ k, (v k - mean v) * (v k - mean v)) cLanes + cEps
/-- The reciprocal deviation of a row. -/
def inv (v : Row) : EReal := Ideal.rsqrt (varEps v)
/-- The normalised row. -/
def xhat (v : Row) (j : Fin 1024) : EReal := (v j - mean v) * inv v

/-- The cotangent of the variance: `g` is the cotangent of the normalised row. -/
def dvar (v g : Row) : EReal :=
  Ideal.div ((∑ k, (v k - mean v) * g k) * (cNegHalf * Ideal.div (inv v) (varEps v))) cLanes
/-- The cotangent of the mean. -/
def dmean (v g : Row) : EReal :=
  Ideal.div ((∑ k, -(g k * inv v)) + ∑ k, -(dvar v g * (cTwo * (v k - mean v)))) cLanes
/-- The cotangent `g` of the normalised row pulled back to the row. -/
def normBwd (v g : Row) (j : Fin 1024) : EReal :=
  g j * inv v + dvar v g * (cTwo * (v j - mean v)) + dmean v g

/-- The gated half `v` of a row: the gelu of its pre-activation. -/
def act (z : Row) : Row := fun j => gelu (z j)
/-- The layer norm of the gated half. -/
def norm (lw lb z : Row) : Row := fun j => xhat (act z) j * lw j + lb j

/-- The causal mixing weight from position `s` to position `t` in group `g`. -/
def mix (w : Fin 8 → Fin 128 → Fin 128 → EReal) (g : Fin 8) (t s : Fin 128) : EReal := if s.val ≤ t.val then w g t s else 0

/-- The gate: the mixed, normalised rows of the chunk plus the position's bias. -/
def gate (lw lb : Row) (w : Fin 8 → Fin 128 → Fin 128 → EReal) (b : Fin 128 → Fin 8 → EReal) (zv : Chunk) (t : Fin 128) : Row :=
  fun j => (∑ s, mix w (grp j) t s * norm lw lb (zv s) j) + b t (grp j)

/-- The cotangent of the gate. -/
def dgate (dy zu : Chunk) (t : Fin 128) : Row := fun j => dy t j * gelu (zu t j)

/-- The cotangent of the normalised row: the transposed mixing of the gate's cotangent. -/
def dnorm (w : Fin 8 → Fin 128 → Fin 128 → EReal) (dy zu : Chunk) (s : Fin 128) : Row :=
  fun j => ∑ t, mix w (grp j) t s * dgate dy zu t j

/-- The gradient of the first half of the pre-activation. -/
def dzu (lw lb : Row) (w : Fin 8 → Fin 128 → Fin 128 → EReal) (b : Fin 128 → Fin 8 → EReal) (dy zu zv : Chunk) (t : Fin 128) : Row :=
  fun j => geluBwd (zu t j) (dy t j * gate lw lb w b zv t j)

/-- The gradient of the second half of the pre-activation. -/
def dzv (lw : Row) (w : Fin 8 → Fin 128 → Fin 128 → EReal) (dy zu zv : Chunk) (t : Fin 128) : Row :=
  fun j => geluBwd (zv t j) (normBwd (act (zv t)) (fun k => dnorm w dy zu t k * lw k) j)

/-- A chunk's share of the gradient of the mixing weights. -/
def dw (lw lb : Row) (dy zu zv : Chunk) (g : Fin 8) (t s : Fin 128) : EReal :=
  ∑ l, dgate dy zu t (lane g l) * norm lw lb (zv s) (lane g l)

/-- A chunk's share of the gradient of the bias. -/
def db (dy zu : Chunk) (t : Fin 128) (g : Fin 8) : EReal := ∑ l, dgate dy zu t (lane g l)

/-! ## The whole step: 4096 rows, 32 chunks -/

/-- The chunk of a row. -/
def chunkOf (r : Fin 4096) : Fin 32 := ⟨r.val / 128, by have := r.isLt; omega⟩
/-- The rows of chunk `n`. -/
def chunk (x : Fin 4096 → Row) (n : Fin 32) : Chunk := fun s => x ⟨128 * n.val + s.val, by have := n.isLt; have := s.isLt; omega⟩

variable (lw lb : Row) (w : Fin 8 → Fin 128 → Fin 128 → EReal) (b : Fin 128 → Fin 8 → EReal) (dy zu zv : Fin 4096 → Row)

/-- The gradient of the first half of a row, -/
def gradU (r : Fin 4096) : Row := dzu lw lb w b (chunk dy (chunkOf r)) (chunk zu (chunkOf r)) (chunk zv (chunkOf r)) (pos r)
/-- and of its second half. -/
def gradV (r : Fin 4096) : Row := dzv lw w (chunk dy (chunkOf r)) (chunk zu (chunkOf r)) (chunk zv (chunkOf r)) (pos r)
/-- The cotangent of a normalised row. -/
def cotNorm (r : Fin 4096) : Row := dnorm w (chunk dy (chunkOf r)) (chunk zu (chunkOf r)) (pos r)
/-- The gradient of the norm's weight, -/
def gradLw : Row := fun j => ∑ r, xhat (act (zv r)) j * cotNorm w dy zu r j
/-- of its bias, -/
def gradLb : Row := fun j => ∑ r, cotNorm w dy zu r j
/-- of the mixing weights, -/
def gradW (g : Fin 8) (t s : Fin 128) : EReal :=
  if s.val ≤ t.val then ∑ n, dw lw lb (chunk dy n) (chunk zu n) (chunk zv n) g t s else 0
/-- and of the positions' bias. -/
def gradB (t : Fin 128) (g : Fin 8) : EReal := ∑ n, db (chunk dy n) (chunk zu n) t g

end Cert.Sgu

end
-- ==== Proof.Sgu.Rows.lean ====
/-
  What the kernel's body computes on a block of 512 rows, read at a row and a lane, as the formulas of `Spec`.
  `f` and `d` below are the two scratch arrays, the gate and the cotangent of the normalised rows.
-/
module

public import proofs.«01_k».proof.Proof.Sgu.Spec
public import proofs.«01_k».proof.Proof.Gen.SguBwdIdeal.Skeleton
public import Idealize.ShloMosaic.Lib.Pointwise

@[expose] public section

set_option maxRecDepth 16384

noncomputable section

namespace Cert.Sgu.Block

open Cert.SguBwdIdeal Cert.SguBwdIdeal.Gen Cert.Sgu Idealize.ShloMosaic Idealize.ShloMosaic.TcCoe Idealize.SL.Sem

/-- Row `r` of a block. -/
def rowOf {φ : FTy} {n : ℕ} (x : FVec Ideal ⟨2, ![n, 1024]⟩ φ) (r : Fin n) : Row := fun j => x (ix2 r j)

variable (dy f d : FVec Ideal S512x1024 .f32) (zu z : FVec Ideal S512x1024 .bf16) (lw lb : FVec Ideal S1x1024 .f32)
variable (r : Fin 512) (j : Fin 1024)

/-- The first half's activation. -/
theorem u_at : k0_pay10 (F := Ideal) zu (ix2 r j) = gelu (zu (ix2 r j)) := by
  pointwise [k0_pay5, k0_pay6, k0_pay7, k0_pay9, k0_pay10, gelu]
  rfl

/-- The second half's activation. -/
theorem v_at : k0_pay16 (F := Ideal) z (ix2 r j) = act (rowOf z r) j := by
  pointwise [k0_pay11, k0_pay12, k0_pay13, k0_pay15, k0_pay16, gelu, act, rowOf]
  rfl

/-- The row means. -/
theorem mean_at : k0_pay17 (F := Ideal) z (ix2 r 0) = mean (act (rowOf z r)) := by
  unfold mean
  simp only [← v_at]
  pointwise [k0_pay17]

/-- The row variances plus ε. -/
theorem var_at : k0_pay22 (F := Ideal) (k0_pay16 z) (k0_pay18 z) (ix2 r 0) = varEps (act (rowOf z r)) := by
  unfold varEps
  simp only [← v_at, ← mean_at]
  pointwise [k0_pay22, k0_pay19, k0_pay18]

/-- The normalised rows. -/
theorem xhat_at : k0_pay25 (F := Ideal) (k0_pay16 z) (k0_pay17 z) (k0_pay18 z) (ix2 r j) = xhat (act (rowOf z r)) j := by
  unfold xhat inv
  simp only [← v_at, ← mean_at, ← var_at]
  pointwise [k0_pay25, k0_pay23, k0_pay21]

/-- The rows after the norm's weight and bias. -/
theorem norm_at : k0_pay26 (F := Ideal) lw lb (k0_pay16 z) (k0_pay17 z) (k0_pay18 z) (ix2 r j)
    = norm (rowOf lw 0) (rowOf lb 0) (rowOf z r) j := by
  unfold norm
  simp only [← xhat_at]
  pointwise [k0_pay26, rowOf]

/-- The cotangent of the gate. -/
theorem dgate_at : k0_pay27 (F := Ideal) (k0_pay10 zu) dy (ix2 r j) = dy (ix2 r j) * gelu (zu (ix2 r j)) := by
  simp only [← u_at]
  pointwise [k0_pay27]

/-- The gradient of the first half, given the gate `f`. -/
theorem dzu_at : k0_pay248 (F := Ideal) (k0_pay240 (k0_pay6 zu) (k0_pay8 zu) (k0_pay9 zu) dy f) (ix2 r j)
    = geluBwd (zu (ix2 r j)) (dy (ix2 r j) * f (ix2 r j)) := by
  pointwise [k0_pay248, k0_pay240, k0_pay5, k0_pay6, k0_pay7, k0_pay8, k0_pay9, geluBwd]
  rw [zero_sub]
  rfl

/-- The block's share of the gradient of the norm's bias. -/
theorem dlb_at : k0_pay242 (F := Ideal) d (ix2 0 j) = ∑ r, d (ix2 r j) := by
  pointwise [k0_pay242]

/-- The block's share of the gradient of the norm's weight. -/
theorem dlw_at : k0_pay243 (F := Ideal) (k0_pay25 (k0_pay16 z) (k0_pay17 z) (k0_pay18 z)) d (ix2 0 j)
    = ∑ r, xhat (act (rowOf z r)) j * d (ix2 r j) := by
  simp only [← xhat_at]
  pointwise [k0_pay243, k0_pay241]

/-- The gradient of the second half, given the cotangent `d` of the normalised rows. -/
theorem dzv_at : k0_pay249 (F := Ideal) (k0_pay12 z) (k0_pay14 z) (k0_pay15 z) (k0_pay20 (k0_pay16 z) (k0_pay18 z))
      (k0_pay245 lw (k0_pay23 (k0_pay16 z) (k0_pay18 z)) d)
      (k0_pay246 lw (k0_pay21 (k0_pay16 z) (k0_pay17 z)) (k0_pay24 (k0_pay16 z) (k0_pay18 z)) d)
      (k0_pay247 lw (k0_pay23 (k0_pay16 z) (k0_pay18 z)) d) (Scalar.ofBits .f32 0x44800000#32) (ix2 r j)
    = geluBwd (z (ix2 r j)) (normBwd (act (rowOf z r)) (fun k => d (ix2 r k) * rowOf lw 0 k) j) := by
  unfold normBwd dmean dvar inv
  simp only [← v_at, ← mean_at, ← var_at]
  pointwise [k0_pay249, k0_pay245, k0_pay246, k0_pay247, k0_pay244, k0_pay241, k0_pay24, k0_pay23, k0_pay21, k0_pay20, k0_pay19,
    k0_pay18, k0_pay11, k0_pay12, k0_pay13, k0_pay14, k0_pay15, geluBwd, rowOf]
  simp only [zero_sub, Fin.sum_univ_one]
  rfl

end Cert.Sgu.Block

end
-- ==== Proof.Sgu.Tiles.lean ====
/-
  The two scratch arrays. The kernel fills each with 32 tiles of 128 × 128, one per chunk and group; each tile is one product
  of the group's masked mixing weights with the tile of the normalised rows, or of the gate's cotangent.
-/
module

public import proofs.«01_k».proof.Proof.Sgu.Rows
public import Idealize.ShloMosaic.Lib.WordCmp

@[expose] public section

set_option maxRecDepth 16384

noncomputable section

namespace Cert.Sgu.Block

open Cert.SguBwdIdeal Cert.SguBwdIdeal.Gen Cert.Sgu Idealize.ShloMosaic Idealize.ShloMosaic.TcCoe Idealize.SL.Sem

/-- The row at position `s` of the chunk of row `r`. -/
def mate (r : Fin 512) (s : Fin 128) : Fin 512 := ⟨128 * (r.val / 128) + s.val, by have := r.isLt; have := s.isLt; omega⟩

variable (w : FVec Ideal S8x128x128 .f32) (bt : FVec Ideal S128x8 .f32)

/-- The mixing weights as a function. -/
def wOf : Fin 8 → Fin 128 → Fin 128 → EReal := fun g t s => w (ix3 g t s)
/-- The bias as a function. -/
def bOf : Fin 128 → Fin 8 → EReal := fun t g => bt (ix2 t g)

/-- The gate of a block: `vn` are the normalised rows. -/
def gateArr (vn : FVec Ideal S512x1024 .bf16) : FVec Ideal S512x1024 .f32 := fun y =>
  (∑ s, mix (wOf w) (grp (y 1)) (pos (y 0)) s * vn (ix2 (mate (y 0) s) (y 1))) + bOf bt (pos (y 0)) (grp (y 1))

/-- The cotangent of the normalised rows of a block: `df` is the gate's cotangent. -/
def dnormArr (df : FVec Ideal S512x1024 .bf16) : FVec Ideal S512x1024 .f32 := fun y =>
  ∑ t, mix (wOf w) (grp (y 1)) t (pos (y 0)) * df (ix2 (mate (y 0) t) (y 1))

/-- The masked weights of a group, at a pair of positions. -/
theorem mask_at (wg : FVec Ideal S1x128x128 .f32) (t s : Fin 128) :
    k0_pay57 (F := Ideal) k0_pay28 wg (ix2 t s) = if s.val ≤ t.val then wg (ix3 0 t s) else 0 := by
  pointwise [k0_pay57, k0_pay28]
  word_cmp

/-- The tile of the gate at the offsets `o0`, `o1`. -/
def gateTile (vn : FVec Ideal S512x1024 .bf16) (wg : FVec Ideal S1x128x128 .f32) (bg : FVec Ideal S128x1 .f32) (o0 o1 : ℕ)
    (hs : S512x1024.Slices ![o0, o1] S128x128) : FVec Ideal S128x128 .f32 :=
  shapeCast S128x128 (addf (matmul dot_S128x128_S128x128_S128x128_1_0_0_1_n_n none (k0_pay57 (F := Ideal) k0_pay28 wg)
    (extractStridedSlice S128x128 ![o0, o1] vn hs) (constant S128x128 .f32 0x00000000#32))
    (broadcastTo S128x128 bg broadcasts_S128x1_S128x128)) shapeCasts_S128x128_S128x128

/-- The tile of the normalised rows' cotangent at the offsets `o0`, `o1`. -/
def dnormTile (df : FVec Ideal S512x1024 .bf16) (wg : FVec Ideal S1x128x128 .f32) (o0 o1 : ℕ)
    (hs : S512x1024.Slices ![o0, o1] S128x128) : FVec Ideal S128x128 .f32 :=
  shapeCast S128x128 (matmul dot_S128x128_S128x128_S128x128_0_0_1_1_n_n none (k0_pay57 (F := Ideal) k0_pay28 wg)
    (extractStridedSlice S128x128 ![o0, o1] df hs) (constant S128x128 .f32 0x00000000#32)) shapeCasts_S128x128_S128x128

/-- A tile of the gate is a block of the gate. -/
theorem gate_tile (vn : FVec Ideal S512x1024 .bf16) (wg : FVec Ideal S1x128x128 .f32) (bg : FVec Ideal S128x1 .f32) (o0 o1 : ℕ)
    (hs : S512x1024.Slices ![o0, o1] S128x128) (g : Fin 8) (hc : 128 ∣ o0) (hg : o1 = 128 * g.val)
    (hw : ∀ t s, wg (ix3 0 t s) = w (ix3 g t s)) (hb : ∀ t, bg (ix2 t 0) = bt (ix2 t g)) (x : S128x128.Idx) (y : S512x1024.Idx)
    (h0 : (y 0).val = o0 + (x 0).val) (h1 : (y 1).val = o1 + (x 1).val) :
    gateTile vn wg bg o0 o1 hs x = gateArr w bt vn y := by
  idx_vars x
  idx_vars y
  obtain ⟨c, rfl⟩ := hc
  have h0 : y0.val = 128 * c + x0.val := h0
  have l0 : x0.val < 128 := x0.isLt
  have l1 : x1.val < 128 := x1.isLt
  have h1 : y1.val = o1 + x1.val := h1
  have e0 : pos y0 = x0 := Fin.ext (by show y0.val % 128 = x0.val; omega)
  have e1 : grp y1 = g := Fin.ext (by show y1.val / 128 = g.val; omega)
  unfold gateArr gateTile
  pointwise [e0, e1, mask_at, mix, wOf, bOf, hw, hb]
  refine congrArg₂ (· + ·) (Finset.sum_congr rfl fun s _ => ?_) rfl
  refine congrArg₂ (· * ·) rfl (congrArg vn ((ix2_inj ..).2 ⟨Fin.ext ?_, Fin.ext ?_⟩))
  · show 128 * c + s.val = 128 * (y0.val / 128) + s.val; omega
  · exact h1.symm

/-- A tile of the normalised rows' cotangent is a block of it. -/
theorem dnorm_tile (df : FVec Ideal S512x1024 .bf16) (wg : FVec Ideal S1x128x128 .f32) (o0 o1 : ℕ)
    (hs : S512x1024.Slices ![o0, o1] S128x128) (g : Fin 8) (hc : 128 ∣ o0) (hg : o1 = 128 * g.val)
    (hw : ∀ t s, wg (ix3 0 t s) = w (ix3 g t s)) (x : S128x128.Idx) (y : S512x1024.Idx)
    (h0 : (y 0).val = o0 + (x 0).val) (h1 : (y 1).val = o1 + (x 1).val) :
    dnormTile df wg o0 o1 hs x = dnormArr w df y := by
  idx_vars x
  idx_vars y
  obtain ⟨c, rfl⟩ := hc
  have h0 : y0.val = 128 * c + x0.val := h0
  have l0 : x0.val < 128 := x0.isLt
  have l1 : x1.val < 128 := x1.isLt
  have h1 : y1.val = o1 + x1.val := h1
  have e0 : pos y0 = x0 := Fin.ext (by show y0.val % 128 = x0.val; omega)
  have e1 : grp y1 = g := Fin.ext (by show y1.val / 128 = g.val; omega)
  unfold dnormArr dnormTile
  pointwise [e0, e1, mask_at, mix, wOf, hw]
  refine Finset.sum_congr rfl fun t _ => ?_
  refine congrArg₂ (· * ·) rfl (congrArg df ((ix2_inj ..).2 ⟨Fin.ext ?_, Fin.ext ?_⟩))
  · show 128 * c + t.val = 128 * (y0.val / 128) + t.val; omega
  · exact h1.symm

/-- Row `t` of chunk `c` of a block. -/
def at4 (c : Fin 4) (t : Fin 128) : Fin 512 := ⟨128 * c.val + t.val, by have := c.isLt; have := t.isLt; omega⟩

/-- A block's share of the gradient of the mixing weights. -/
def dwArr (df vn : FVec Ideal S512x1024 .bf16) : FVec Ideal S8x128x128 .f32 := fun y =>
  if (y 2).val ≤ (y 1).val then ∑ c, ∑ l, df (ix2 (at4 c (y 1)) (lane (y 0) l)) * vn (ix2 (at4 c (y 2)) (lane (y 0) l)) else 0

/-- A block's share of the gradient of the bias. -/
def dbArr (dy u : FVec Ideal S512x1024 .f32) : FVec Ideal S128x8 .f32 := fun y =>
  ∑ c, ∑ l, dy (ix2 (at4 c (y 0)) (lane (y 1) l)) * u (ix2 (at4 c (y 0)) (lane (y 1) l))

/-- One group's update of the gradient of the mixing weights: the four chunks' products, masked, added to `old`. -/
def dwTile (df vn : FVec Ideal S512x1024 .bf16) (old : FVec Ideal S1x128x128 .f32) (o : ℕ) (h0 : S512x1024.Slices ![0, o] S128x128)
    (h1 : S512x1024.Slices ![128, o] S128x128) (h2 : S512x1024.Slices ![256, o] S128x128)
    (h3 : S512x1024.Slices ![384, o] S128x128) : FVec Ideal S1x128x128 .f32 :=
  let p (k : ℕ) (hk : S512x1024.Slices ![k, o] S128x128) : FVec Ideal S128x128 .f32 :=
    matmul dot_S128x128_S128x128_S128x128_1_1_0_0_n_n none (extractStridedSlice S128x128 ![k, o] df hk)
      (extractStridedSlice S128x128 ![k, o] vn hk) (constant S128x128 .f32 0x00000000#32)
  let z : FVec Ideal S128x128 .f32 := broadcast S128x128 (Scalar.ofBits .f32 0x00000000#32)
  shapeCast S1x128x128 (addf (shapeCast S128x128 old shapeCasts_S1x128x128_S128x128)
    (select k0_pay28 (addf (addf (addf (addf z (p 0 h0)) (p 128 h1)) (p 256 h2)) (p 384 h3)) z)) shapeCasts_S128x128_S1x128x128

/-- One group's update of the gradient of the bias: the four chunks' row sums added to `old`. -/
def dbTile (dy u : FVec Ideal S512x1024 .f32) (old : FVec Ideal S128x1 .f32) (o : ℕ) (h0 : S512x1024.Slices ![0, o] S128x128)
    (h1 : S512x1024.Slices ![128, o] S128x128) (h2 : S512x1024.Slices ![256, o] S128x128)
    (h3 : S512x1024.Slices ![384, o] S128x128) : FVec Ideal S128x1 .f32 :=
  let p (k : ℕ) (hk : S512x1024.Slices ![k, o] S128x128) : FVec Ideal S128x1 .f32 :=
    shapeCast S128x1 (multiReduction .add [1] S128 (mulf (extractStridedSlice S128x128 ![k, o] dy hk)
      (extractStridedSlice S128x128 ![k, o] u hk)) 0x00000000#32 reduces_S128x128_S128 (.inl rfl) rfl) shapeCasts_S128_S128x1
  let z : FVec Ideal S128x1 .f32 := broadcast S128x1 (Scalar.ofBits .f32 0x00000000#32)
  addf (shapeCast S128x1 old shapeCasts_S128x1_S128x1) (addf (addf (addf (addf z (p 0 h0)) (p 128 h1)) (p 256 h2)) (p 384 h3))

/-- Chunk 0 starts the block. -/
theorem at4_zero (t : Fin 128) (h : t.val < 512) : (⟨t.val, h⟩ : Fin 512) = at4 0 t := Fin.ext (by simp [at4])

/-- One group's update is the group's slice of the array's. -/
theorem dw_tile (df vn : FVec Ideal S512x1024 .bf16) (old : FVec Ideal S1x128x128 .f32) (oldw : FVec Ideal S8x128x128 .f32) (o : ℕ)
    (h0 h1 h2 h3) (g : Fin 8) (hg : o = 128 * g.val) (ho : ∀ t s, old (ix3 0 t s) = oldw (ix3 g t s)) (t s : Fin 128) :
    dwTile df vn old o h0 h1 h2 h3 (ix3 0 t s) = oldw (ix3 g t s) + dwArr df vn (ix3 g t s) := by
  subst hg
  unfold dwTile dwArr
  pointwise [k0_pay28, ho]
  word_cmp
  simp only [Fin.sum_univ_four, at4_zero]
  rfl

/-- One group's update is the group's slice of the array's. -/
theorem db_tile (dy u : FVec Ideal S512x1024 .f32) (old : FVec Ideal S128x1 .f32) (oldb : FVec Ideal S128x8 .f32) (o : ℕ)
    (h0 h1 h2 h3) (g : Fin 8) (hg : o = 128 * g.val) (ho : ∀ t, old (ix2 t 0) = oldb (ix2 t g)) (t : Fin 128) :
    dbTile dy u old o h0 h1 h2 h3 (ix2 t 0) = oldb (ix2 t g) + dbArr dy u (ix2 t g) := by
  subst hg
  unfold dbTile dbArr
  pointwise [ho]
  simp only [Fin.sum_univ_four, at4_zero]
  rfl

end Cert.Sgu.Block

end
-- ==== Proof.Sgu.Stores.lean ====
/-
  The tiles as the stores the kernel makes them with, and what a buffer they fill holds.
-/
module

public import proofs.«01_k».proof.Proof.Sgu.Tiles
public import Idealize.ShloMosaic.Lib.Pipeline.ValueKit
public import Idealize.ShloMosaic.Lib.Pipeline.ReadBack
public import Idealize.ShloMosaic.Lib.Ring

@[expose] public section

set_option maxRecDepth 16384

noncomputable section

namespace Cert.Sgu.Block

open Cert.SguBwdIdeal Cert.SguBwdIdeal.Gen Cert.Sgu Idealize.ShloMosaic Idealize.ShloMosaic.TcCoe Idealize.SL.Sem

variable (w : FVec Ideal S8x128x128 .f32) (bt : FVec Ideal S128x8 .f32) (vn df : FVec Ideal S512x1024 .bf16)
variable (dy u : FVec Ideal S512x1024 .f32)

/-- A store into a block of 512 rows. -/
abbrev Store := View.Piece (Elt Ideal) S512x1024 .f32

/-- A tile lies in the block, and so does the slice it is computed from. -/
theorem inb_tile (c : Fin 4) (g : Fin 8) : ∀ a, (![128 * c.val, 128 * g.val] : Fin 2 → ℕ) a + S128x128.size a ≤ S512x1024.size a :=
  (by decide +kernel : ∀ (c : Fin 4) (g : Fin 8) (a : Fin 2), (![128 * c.val, 128 * g.val] : Fin 2 → ℕ) a + S128x128.size a ≤ S512x1024.size a) c g

/-- The slice of a tile. -/
theorem slices_tile (c : Fin 4) (g : Fin 8) : S512x1024.Slices ![128 * c.val, 128 * g.val] S128x128 := ⟨rfl, inb_tile c g⟩

/-- A group lies in the mixing weights, -/
theorem inb_group (g : Fin 8) : ∀ a, (![g.val, 0, 0] : Fin 3 → ℕ) a + S1x128x128.size a ≤ S8x128x128.size a :=
  (by decide +kernel : ∀ (g : Fin 8) (a : Fin 3), (![g.val, 0, 0] : Fin 3 → ℕ) a + S1x128x128.size a ≤ S8x128x128.size a) g

/-- and its column in the bias. -/
theorem inb_col (g : Fin 8) : ∀ a, (![0, g.val] : Fin 2 → ℕ) a + S128x1.size a ≤ S128x8.size a :=
  (by decide +kernel : ∀ (g : Fin 8) (a : Fin 2), (![0, g.val] : Fin 2 → ℕ) a + S128x1.size a ≤ S128x8.size a) g

/-- The weights of one group. -/
def wGroup (g : Fin 8) : FVec Ideal S1x128x128 .f32 :=
  fun x => w ((Rect.unit (s := S8x128x128) ![g.val, 0, 0] ![1, 128, 128] (inb_group g)).idx x)
/-- The bias column of one group. -/
def bGroup (g : Fin 8) : FVec Ideal S128x1 .f32 :=
  fun x => bt ((Rect.unit (s := S128x8) ![0, g.val] ![128, 1] (inb_col g)).idx x)

theorem wGroup_at (g : Fin 8) (t s : Fin 128) : wGroup w g (ix3 0 t s) = w (ix3 g t s) := by
  exact View.ld_unit_apply_of (Val := Elt Ideal) (S := S8x128x128) (e := .f32) w _ _ (inb_group g) (ix3 0 t s) (ix3 g t s) fun a => by fin_cases a <;> simp [ix3]
theorem bGroup_at (g : Fin 8) (t : Fin 128) : bGroup bt g (ix2 t 0) = bt (ix2 t g) := by
  exact View.ld_unit_apply_of (Val := Elt Ideal) (S := S128x8) (e := .f32) bt _ _ (inb_col g) (ix2 t 0) (ix2 t g) fun a => by fin_cases a <;> simp [ix2]

/-- The store of one tile of the gate. -/
def gateStore (g : Fin 8) (c : Fin 4) : Store :=
  ⟨Rect.unit ![128 * c.val, 128 * g.val] ![128, 128] (inb_tile c g), gateTile vn (wGroup w g) (bGroup bt g) _ _ (slices_tile c g)⟩

/-- The store of one tile of the normalised rows' cotangent. -/
def dnormStore (g : Fin 8) (c : Fin 4) : Store :=
  ⟨Rect.unit ![128 * c.val, 128 * g.val] ![128, 128] (inb_tile c g), dnormTile df (wGroup w g) _ _ (slices_tile c g)⟩

/-- Each tile of the gate is a block of the gate. -/
theorem gateStore_eq (g : Fin 8) (c : Fin 4) (x : (gateStore w bt vn g c).1.shape.Idx) :
    (gateStore w bt vn g c).2 x = gateArr w bt vn ((gateStore w bt vn g c).1.emb x) :=
  gate_tile w bt vn _ _ _ _ (slices_tile c g) g ⟨_, rfl⟩ rfl (wGroup_at w g) (bGroup_at bt g) x _
    (Rect.idx_unit_val (s := S512x1024) _ _ (inb_tile c g) x 0) (Rect.idx_unit_val (s := S512x1024) _ _ (inb_tile c g) x 1)

/-- Each tile of the normalised rows' cotangent is a block of it. -/
theorem dnormStore_eq (g : Fin 8) (c : Fin 4) (x : (dnormStore w df g c).1.shape.Idx) :
    (dnormStore w df g c).2 x = dnormArr w df ((dnormStore w df g c).1.emb x) :=
  dnorm_tile w df _ _ _ (slices_tile c g) g ⟨_, rfl⟩ rfl (wGroup_at w g) x _ (Rect.idx_unit_val (s := S512x1024) _ _ (inb_tile c g) x 0) (Rect.idx_unit_val (s := S512x1024) _ _ (inb_tile c g) x 1)

/-- One thing per tile, last store first. -/
def perTile {α : Type} (f : Fin 8 → Fin 4 → α) : List α :=
  [
  f 7 3, f 7 2, f 7 1, f 7 0,
    f 6 3, f 6 2, f 6 1, f 6 0,
    f 5 3, f 5 2, f 5 1, f 5 0,
    f 4 3, f 4 2, f 4 1, f 4 0,
    f 3 3, f 3 2, f 3 1, f 3 0,
    f 2 3, f 2 2, f 2 1, f 2 0,
    f 1 3, f 1 2, f 1 1, f 1 0,
    f 0 3, f 0 2, f 0 1, f 0 0]

/-- Stores that are, tile by tile, blocks of one array. -/
theorem piecesOf_perTile (G : FVec Ideal S512x1024 .f32) (f : Fin 8 → Fin 4 → Store) (h : ∀ g c x, (f g c).2 x = G ((f g c).1.emb x)) :
    View.PiecesOf (Val := Elt Ideal) (e := .f32) G (perTile f) :=
  ⟨
  h 7 3, h 7 2, h 7 1, h 7 0,
    h 6 3, h 6 2, h 6 1, h 6 0,
    h 5 3, h 5 2, h 5 1, h 5 0,
    h 4 3, h 4 2, h 4 1, h 4 0,
    h 3 3, h 3 2, h 3 1, h 3 0,
    h 2 3, h 2 2, h 2 1, h 2 0,
    h 1 3, h 1 2, h 1 1, h 1 0,
    h 0 3, h 0 2, h 0 1, h 0 0, trivial⟩

/-- The tiles of the gate, -/
theorem gate_pieces : View.PiecesOf (Val := Elt Ideal) (e := .f32) (gateArr w bt vn) (perTile (gateStore w bt vn)) :=
  piecesOf_perTile _ _ (gateStore_eq w bt vn)

/-- and those of the normalised rows' cotangent. -/
theorem dnorm_pieces : View.PiecesOf (Val := Elt Ideal) (e := .f32) (dnormArr w df) (perTile (dnormStore w df)) :=
  piecesOf_perTile _ _ (dnormStore_eq w df)

/-- A whole load of a buffer filled by tiles that are blocks of one array reads that array. -/
theorem readCov_tiles {κ : Kind} {sp : Space} (v : View sig κ sp S512x1024 .f32) (L : List Store) (G : FVec Ideal S512x1024 .f32)
    (inb : ∀ a, (![0, 0] : Fin 2 → ℕ) a + S512x1024.size a ≤ S512x1024.size a)
    (hp : View.PiecesOf (Val := Elt Ideal) (e := .f32) G L) (hc : View.Piece.tiledL L ![128, 128] = true) :
    v.readCov L (Rect.unit ![0, 0] S512x1024.size inb).toLoadRect = G := by
  rw [View.readCov_eq_canon_ld v L _ (View.cover_of_tiledL L ![128, 128] hc), View.ld_unit_zero (by decide)]
  refine funext fun y => ?_
  have h := View.canon_append_of_piecesOf (Val := Elt Ideal) (e := .f32) G [] L hp y (View.cover_of_tiledL L ![128, 128] hc y)
  rwa [List.append_nil] at h

/-- One group's update of the gradient of the mixing weights, as a store. -/
def dwStore (old : FVec Ideal S8x128x128 .f32) (g : Fin 8) : View.Piece (Elt Ideal) S8x128x128 .f32 :=
  ⟨Rect.unit ![g.val, 0, 0] ![1, 128, 128] (inb_group g),
    dwTile df vn (wGroup old g) (128 * g.val) (slices_tile 0 g) (slices_tile 1 g) (slices_tile 2 g) (slices_tile 3 g)⟩

/-- One group's update of the gradient of the bias, as a store. -/
def dbStore (old : FVec Ideal S128x8 .f32) (g : Fin 8) : View.Piece (Elt Ideal) S128x8 .f32 :=
  ⟨Rect.unit ![0, g.val] ![128, 1] (inb_col g),
    dbTile dy u (bGroup old g) (128 * g.val) (slices_tile 0 g) (slices_tile 1 g) (slices_tile 2 g) (slices_tile 3 g)⟩

/-- Each group's store is its slice of the updated gradient of the weights, -/
theorem dwStore_eq (old : FVec Ideal S8x128x128 .f32) (g : Fin 8) (x : (dwStore vn df old g).1.shape.Idx) :
    (dwStore vn df old g).2 x = old ((dwStore vn df old g).1.emb x) + dwArr df vn ((dwStore vn df old g).1.emb x) := by
  change S1x128x128.Idx at x
  idx_vars x
  have h : (dwStore vn df old g).1.emb (ix3 x0 x1 x2) = ix3 g x1 x2 := by
    funext a
    refine Fin.ext ((Rect.idx_unit_val (s := S8x128x128) _ _ (inb_group g) (ix3 x0 x1 x2) a).trans ?_)
    fin_cases a <;> simp [ix3]
  rw [h, show x0 = 0 from Subsingleton.elim _ _]
  exact dw_tile df vn (wGroup old g) old _ _ _ _ _ g rfl (wGroup_at old g) x1 x2

/-- and of the updated gradient of the bias. -/
theorem dbStore_eq (old : FVec Ideal S128x8 .f32) (g : Fin 8) (x : (dbStore dy u old g).1.shape.Idx) :
    (dbStore dy u old g).2 x = old ((dbStore dy u old g).1.emb x) + dbArr dy u ((dbStore dy u old g).1.emb x) := by
  change S128x1.Idx at x
  idx_vars x
  have h : (dbStore dy u old g).1.emb (ix2 x0 x1) = ix2 x0 g := by
    funext a
    refine Fin.ext ((Rect.idx_unit_val (s := S128x8) _ _ (inb_col g) (ix2 x0 x1) a).trans ?_)
    fin_cases a <;> simp [ix2]
  rw [h, show x1 = 0 from Subsingleton.elim _ _]
  exact db_tile dy u (bGroup old g) old _ _ _ _ _ g rfl (bGroup_at old g) x0

/-- One thing per group, last store first. -/
def perGroup {α : Type} (f : Fin 8 → α) : List α := [f 7, f 6, f 5, f 4, f 3, f 2, f 1, f 0]

/-- The groups' updates, over whatever was stored before them, leave the updated gradient of the weights, -/
theorem canon_dw (old : FVec Ideal S8x128x128 .f32) (L : List (View.Piece (Elt Ideal) S8x128x128 .f32)) :
    View.canon (perGroup (dwStore vn df old) ++ L) = fun y => old y + dwArr df vn y :=
  funext fun y => View.canon_append_of_piecesOf (Val := Elt Ideal) (e := .f32) (fun y => old y + dwArr df vn y) L
    (perGroup (dwStore vn df old))
    ⟨dwStore_eq vn df old 7, dwStore_eq vn df old 6, dwStore_eq vn df old 5, dwStore_eq vn df old 4, dwStore_eq vn df old 3,
      dwStore_eq vn df old 2, dwStore_eq vn df old 1, dwStore_eq vn df old 0, trivial⟩ y
    (View.cover_of_tiledL _ ![1, 128, 128] (by sl_kernel_rfl) y)

/-- and of the bias. -/
theorem canon_db (old : FVec Ideal S128x8 .f32) (L : List (View.Piece (Elt Ideal) S128x8 .f32)) :
    View.canon (perGroup (dbStore dy u old) ++ L) = fun y => old y + dbArr dy u y :=
  funext fun y => View.canon_append_of_piecesOf (Val := Elt Ideal) (e := .f32) (fun y => old y + dbArr dy u y) L
    (perGroup (dbStore dy u old))
    ⟨dbStore_eq dy u old 7, dbStore_eq dy u old 6, dbStore_eq dy u old 5, dbStore_eq dy u old 4, dbStore_eq dy u old 3,
      dbStore_eq dy u old 2, dbStore_eq dy u old 1, dbStore_eq dy u old 0, trivial⟩ y
    (View.cover_of_tiledL _ ![128, 1] (by sl_kernel_rfl) y)

/-- A whole load of a buffer the gate's tiles fill reads the gate, -/
theorem readCov_gate {κ : Kind} {sp : Space} (v : View sig κ sp S512x1024 .f32)
    (inb : ∀ a, (![0, 0] : Fin 2 → ℕ) a + S512x1024.size a ≤ S512x1024.size a) :
    v.readCov (perTile (gateStore w bt vn)) (Rect.unit ![0, 0] S512x1024.size inb).toLoadRect = gateArr w bt vn :=
  readCov_tiles v _ _ inb (gate_pieces w bt vn) (by sl_kernel_rfl)

/-- and of a buffer the other tiles fill the normalised rows' cotangent. -/
theorem readCov_dnorm {κ : Kind} {sp : Space} (v : View sig κ sp S512x1024 .f32)
    (inb : ∀ a, (![0, 0] : Fin 2 → ℕ) a + S512x1024.size a ≤ S512x1024.size a) :
    v.readCov (perTile (dnormStore w df)) (Rect.unit ![0, 0] S512x1024.size inb).toLoadRect = dnormArr w df :=
  readCov_tiles v _ _ inb (dnorm_pieces w df) (by sl_kernel_rfl)

end Cert.Sgu.Block

end
-- ==== Proof.Sgu.Point.lean ====
/-
  What the kernel's body leaves at one grid point, in terms of the whole arrays: the point computes the rows
  512 p … 512 p + 511, which are the chunks 4 p … 4 p + 3, and adds its share to the four sums.
-/
module

public import proofs.«01_k».proof.Proof.Sgu.Stores
public import proofs.«01_k».proof.Proof.Gen.SguBwdIdeal.Frame

@[expose] public section

set_option maxRecDepth 16384

noncomputable section

namespace Cert.Sgu.Block

open Cert.SguBwdIdeal Cert.SguBwdIdeal.Gen Cert.Sgu Idealize.ShloMosaic Idealize.ShloMosaic.TcCoe Idealize.SL.Sem

/-- Row `r` of the block of point `p`. -/
def rowAt (p : Fin 8) (r : Fin 512) : Fin 4096 := ⟨512 * p.val + r.val, by have := p.isLt; have := r.isLt; omega⟩
/-- Chunk `c` of the block of point `p`. -/
def chunkAt (p : Fin 8) (c : Fin 4) : Fin 32 := ⟨4 * p.val + c.val, by have := p.isLt; have := c.isLt; omega⟩

section Blocks

variable (p : Fin 8) (DY : FVec Ideal S512x1024 .f32) (ZU ZV : FVec Ideal S512x1024 .bf16) (LW LB : FVec Ideal S1x1024 .f32)
variable (W : FVec Ideal S8x128x128 .f32) (BT : FVec Ideal S128x8 .f32) (dy zu zv : Fin 4096 → Row)
variable (hdy : ∀ r, rowOf DY r = dy (rowAt p r)) (hzu : ∀ r, rowOf ZU r = zu (rowAt p r)) (hzv : ∀ r, rowOf ZV r = zv (rowAt p r))

/-- The normalised rows of the block. -/
abbrev vnOf : FVec Ideal S512x1024 .bf16 := k0_pay26 (F := Ideal) LW LB (k0_pay16 ZV) (k0_pay17 ZV) (k0_pay18 ZV)
/-- The cotangent of the block's gate. -/
abbrev dfOf : FVec Ideal S512x1024 .bf16 := k0_pay27 (F := Ideal) (k0_pay10 ZU) DY

/-- A block's row at position `s` of the chunk of row `r` is the array's. -/
theorem chunk_mate (x : Fin 4096 → Row) (r : Fin 512) (s : Fin 128) : x (rowAt p (mate r s)) = chunk x (chunkOf (rowAt p r)) s :=
  congrArg x (Fin.ext (by show 512 * p.val + (128 * (r.val / 128) + s.val) = 128 * ((512 * p.val + r.val) / 128) + s.val; omega))
/-- A block's row `t` of chunk `c` is the array's. -/
theorem chunk_at4 (x : Fin 4096 → Row) (c : Fin 4) (t : Fin 128) : x (rowAt p (at4 c t)) = chunk x (chunkAt p c) t :=
  congrArg x (Fin.ext (by show 512 * p.val + (128 * c.val + t.val) = 128 * (4 * p.val + c.val) + t.val; omega))
/-- A row keeps its position. -/
theorem pos_rowAt (r : Fin 512) : pos (rowAt p r) = pos r :=
  Fin.ext (by show (512 * p.val + r.val) % 128 = r.val % 128; omega)

include hzv in
/-- The gate of the block. -/
theorem gateArr_at (r : Fin 512) (j : Fin 1024) : gateArr W BT (vnOf ZV LW LB) (ix2 r j)
    = gate (rowOf LW 0) (rowOf LB 0) (wOf W) (bOf BT) (chunk zv (chunkOf (rowAt p r))) (pos (rowAt p r)) j := by
  show (∑ s, mix (wOf W) (grp j) (pos r) s * vnOf ZV LW LB (ix2 (mate r s) j)) + bOf BT (pos r) (grp j) = _
  simp only [norm_at, hzv, chunk_mate p zv, pos_rowAt, gate]

include hdy hzu in
/-- The cotangent of the block's gate. -/
theorem dfOf_at (r : Fin 512) (j : Fin 1024) : dfOf DY ZU (ix2 r j) = dy (rowAt p r) j * gelu (zu (rowAt p r) j) := by
  rw [← hdy, ← hzu]
  exact dgate_at DY ZU r j

include hdy hzu in
/-- The cotangent of the block's normalised rows. -/
theorem dnormArr_at (r : Fin 512) (j : Fin 1024) : dnormArr W (dfOf DY ZU) (ix2 r j) = cotNorm (wOf W) dy zu (rowAt p r) j := by
  show (∑ t, mix (wOf W) (grp j) t (pos r) * dfOf DY ZU (ix2 (mate r t) j)) = _
  simp only [dfOf_at p DY ZU dy zu hdy hzu, chunk_mate p dy, chunk_mate p zu, cotNorm, dnorm, dgate, pos_rowAt]

include hdy hzu hzv in
/-- The block's share of the gradient of the mixing weights. -/
theorem dwArr_at (g : Fin 8) (t s : Fin 128) : dwArr (dfOf DY ZU) (vnOf ZV LW LB) (ix3 g t s)
    = if s.val ≤ t.val then ∑ c, dw (rowOf LW 0) (rowOf LB 0) (chunk dy (chunkAt p c)) (chunk zu (chunkAt p c))
        (chunk zv (chunkAt p c)) g t s else 0 := by
  show (if s.val ≤ t.val then ∑ c, ∑ l, dfOf DY ZU (ix2 (at4 c t) (lane g l)) * vnOf ZV LW LB (ix2 (at4 c s) (lane g l)) else 0) = _
  simp only [dfOf_at p DY ZU dy zu hdy hzu, norm_at, hzv, chunk_at4 p dy, chunk_at4 p zu, chunk_at4 p zv, dw, dgate]

include hdy hzu in
/-- The block's share of the gradient of the bias. -/
theorem dbArr_at (t : Fin 128) (g : Fin 8) : dbArr DY (k0_pay10 (F := Ideal) ZU) (ix2 t g)
    = ∑ c, db (chunk dy (chunkAt p c)) (chunk zu (chunkAt p c)) t g := by
  show (∑ c, ∑ l, DY (ix2 (at4 c t) (lane g l)) * k0_pay10 (F := Ideal) ZU (ix2 (at4 c t) (lane g l))) = _
  have h1 : ∀ r j, DY (ix2 r j) = dy (rowAt p r) j := fun r j => by rw [← hdy]; rfl
  have h2 : ∀ r j, ZU (ix2 r j) = zu (rowAt p r) j := fun r j => by rw [← hzu]; rfl
  simp only [u_at, h1, h2, chunk_at4 p dy, chunk_at4 p zu, db, dgate]

include hdy hzu hzv in
/-- The gradient of the block's first half. -/
theorem gradU_at (r : Fin 512) (j : Fin 1024) :
    k0_pay248 (F := Ideal) (k0_pay240 (k0_pay6 ZU) (k0_pay8 ZU) (k0_pay9 ZU) DY (gateArr W BT (vnOf ZV LW LB))) (ix2 r j)
    = gradU (rowOf LW 0) (rowOf LB 0) (wOf W) (bOf BT) dy zu zv (rowAt p r) j := by
  have h1 : DY (ix2 r j) = dy (rowAt p r) j := by rw [← hdy]; rfl
  have h2 : ZU (ix2 r j) = zu (rowAt p r) j := by rw [← hzu]; rfl
  have e (x : Fin 4096 → Row) : chunk x (chunkOf (rowAt p r)) (pos (rowAt p r)) = x (rowAt p r) :=
    congrArg x (Fin.ext (by show 128 * ((512 * p.val + r.val) / 128) + (512 * p.val + r.val) % 128 = 512 * p.val + r.val; omega))
  simp only [dzu_at, gateArr_at p ZV LW LB W BT zv hzv, gradU, dzu, h1, h2, e]

include hdy hzu hzv in
/-- The gradient of the block's second half. -/
theorem gradV_at (r : Fin 512) (j : Fin 1024) :
    k0_pay249 (F := Ideal) (k0_pay12 ZV) (k0_pay14 ZV) (k0_pay15 ZV) (k0_pay20 (k0_pay16 ZV) (k0_pay18 ZV))
      (k0_pay245 LW (k0_pay23 (k0_pay16 ZV) (k0_pay18 ZV)) (dnormArr W (dfOf DY ZU)))
      (k0_pay246 LW (k0_pay21 (k0_pay16 ZV) (k0_pay17 ZV)) (k0_pay24 (k0_pay16 ZV) (k0_pay18 ZV)) (dnormArr W (dfOf DY ZU)))
      (k0_pay247 LW (k0_pay23 (k0_pay16 ZV) (k0_pay18 ZV)) (dnormArr W (dfOf DY ZU))) (Scalar.ofBits .f32 0x44800000#32) (ix2 r j)
    = gradV (rowOf LW 0) (wOf W) dy zu zv (rowAt p r) j := by
  have h2 : ZV (ix2 r j) = zv (rowAt p r) j := by rw [← hzv]; rfl
  have e (x : Fin 4096 → Row) : chunk x (chunkOf (rowAt p r)) (pos (rowAt p r)) = x (rowAt p r) :=
    congrArg x (Fin.ext (by show 128 * ((512 * p.val + r.val) / 128) + (512 * p.val + r.val) % 128 = 512 * p.val + r.val; omega))
  simp only [dzv_at, dnormArr_at p DY ZU W dy zu hdy hzu, gradV, dzv, h2, e, hzv, cotNorm]

include hdy hzu hzv in
/-- The block's share of the gradient of the norm's weight. -/
theorem gradLw_at (j : Fin 1024) :
    k0_pay243 (F := Ideal) (k0_pay25 (k0_pay16 ZV) (k0_pay17 ZV) (k0_pay18 ZV)) (dnormArr W (dfOf DY ZU)) (ix2 0 j)
    = ∑ r, xhat (act (zv (rowAt p r))) j * cotNorm (wOf W) dy zu (rowAt p r) j := by
  simp only [dlw_at, dnormArr_at p DY ZU W dy zu hdy hzu, hzv]

include hdy hzu in
/-- The block's share of the gradient of the norm's bias. -/
theorem gradLb_at (j : Fin 1024) :
    k0_pay242 (F := Ideal) (dnormArr W (dfOf DY ZU)) (ix2 0 j) = ∑ r, cotNorm (wOf W) dy zu (rowAt p r) j := by
  simp only [dlb_at, dnormArr_at p DY ZU W dy zu hdy hzu]

end Blocks

end Cert.Sgu.Block

end
-- ==== Proof.Sgu.Outputs.lean ====
/-
  The kernel's five arrays after its run, in terms of its arguments.
-/
module

public import proofs.«01_k».proof.Proof.Sgu.Point
public import proofs.«01_k».proof.Proof.Gen.SguBwdIdeal.Value
public import Idealize.ShloMosaic.Lib.Pointwise

@[expose] public section

set_option maxRecDepth 16384

noncomputable section

namespace Cert.Sgu.Kernel

open Cert.SguBwdIdeal Cert.SguBwdIdeal.Gen Cert.Sgu Cert.Sgu.Block Idealize.ShloMosaic Idealize.ShloMosaic.TcCoe Idealize.SL.Sem
open Idealize.ShloMosaic.Pipeline (Dat)

variable (m : (ℓ : Loc nD τ sig) → Buf (Elt Ideal) ℓ) (c : Dev nD)

/-! ## The arguments as functions -/

/-- The cotangent's rows, -/
def dyOf : Fin 4096 → Row := fun r j => (m ((c : Thread nD τ).loc main_arg0) : FVec Ideal S4096x1024 .f32) (ix2 r j)
/-- the first half of the projected rows, -/
def zuOf : Fin 4096 → Row := fun r j =>
  (m ((c : Thread nD τ).loc main_arg1) : FVec Ideal S4096x5376 .bf16) (ix2 r ⟨j.val, by have := j.isLt; omega⟩)
/-- their second half, -/
def zvOf : Fin 4096 → Row := fun r j =>
  (m ((c : Thread nD τ).loc main_arg1) : FVec Ideal S4096x5376 .bf16) (ix2 r ⟨1024 + j.val, by have := j.isLt; omega⟩)
/-- the norm's weight and bias, -/
def lwOf : Row := rowOf (φ := .f32) (m ((c : Thread nD τ).loc main_arg2) : FVec Ideal S1x1024 .f32) 0
def lbOf : Row := rowOf (φ := .f32) (m ((c : Thread nD τ).loc main_arg3) : FVec Ideal S1x1024 .f32) 0
/-- the mixing weights and the positions' bias. -/
def mwOf : Fin 8 → Fin 128 → Fin 128 → EReal := wOf (m ((c : Thread nD τ).loc main_arg4) : FVec Ideal S8x128x128 .f32)
def mbOf : Fin 128 → Fin 8 → EReal := bOf (m ((c : Thread nD τ).loc main_arg5) : FVec Ideal S128x8 .f32)

/-! ## The blocks of a point -/

/-- Where each window's block lies. -/
theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0, 0] ∧ win0_6.index t = ![0, 0]
    ∧ win0_7.index t = ![t.val, 0] :=
  (by decide +kernel : ∀ t : Fin grid0.N, _)

variable (t : Fin cfg0.N)

/-- The point as a number below 8. -/
def pt : Fin 8 := ⟨t.val, t.isLt⟩

theorem dy_rows (r : Fin 512) : rowOf (φ := .f32) (iblk m c 0 t : FVec Ideal S512x1024 .f32) r = dyOf m c (rowAt (pt t) r) := by
  funext j
  unfold rowOf dyOf rowAt pt
  blk_ext [iblk, V, idx t]

theorem zu_rows (r : Fin 512) : rowOf (φ := .bf16) (X0_1 m c t : FVec Ideal S512x1024 .bf16) r = zuOf m c (rowAt (pt t) r) := by
  funext j
  unfold rowOf zuOf rowAt pt X0_1 Pipeline.Window.fill
  rw [dif_pos (moved0_1 t _)]
  blk_ext [iblk, V, idx t]

theorem zv_rows (r : Fin 512) : rowOf (φ := .bf16) (X0_2 m c t : FVec Ideal S512x1024 .bf16) r = zvOf m c (rowAt (pt t) r) := by
  funext j
  unfold rowOf zvOf rowAt pt X0_2 Pipeline.Window.fill
  rw [dif_pos (moved0_2 t _)]
  blk_ext [iblk, V, idx t]

theorem lw_block : (iblk m c 3 t : FVec Ideal S1x1024 .f32) = m ((c : Thread nD τ).loc main_arg2) := by
  funext x
  blk_ext [iblk, V, idx t]
theorem lb_block : (iblk m c 4 t : FVec Ideal S1x1024 .f32) = m ((c : Thread nD τ).loc main_arg3) := by
  funext x
  blk_ext [iblk, V, idx t]
theorem w_block : (iblk m c 5 t : FVec Ideal S8x128x128 .f32) = m ((c : Thread nD τ).loc main_arg4) := by
  funext x
  blk_ext [iblk, V, idx t]
theorem b_block : (iblk m c 6 t : FVec Ideal S128x8 .f32) = m ((c : Thread nD τ).loc main_arg5) := by
  funext x
  blk_ext [iblk, V, idx t]

/-! ## What a point leaves -/

/-- The gradients of the two halves' rows, at a column of the projection's first 2048; the other columns hold `dproj`. -/
def dzArr : FVec Ideal S4096x5376 .bf16 := fun i =>
  if h : (i 1).val < 1024 then gradU (lwOf m c) (lbOf m c) (mwOf m c) (mbOf m c) (dyOf m c) (zuOf m c) (zvOf m c) (i 0) ⟨(i 1).val, h⟩
  else if h' : (i 1).val < 2048 then gradV (lwOf m c) (mwOf m c) (dyOf m c) (zuOf m c) (zvOf m c) (i 0) ⟨(i 1).val - 1024, by omega⟩
  else (m ((c : Thread nD τ).loc main_arg6) : FVec Ideal S4096x5376 .bf16) i

/-- The rows the point writes. -/
theorem dz_point (r : Fin 512) (j : Fin 2048) : ((outsAt0 m c t.val t.isLt).1 : FVec Ideal S512x2048 .bf16) (ix2 r j)
    = dzArr m c (ix2 (rowAt (pt t) r) ⟨j.val, by have := j.isLt; omega⟩) := by
  have key : (outsAt0 m c t.val t.isLt).1 = View.canon (Val := Elt Ideal) (s := S512x2048) (e := .bf16)
      [⟨Rect.unit ![0, 1024] S512x1024.size inb_S512x2048_S512x1024_0_1024, k0_pay249 (F := Ideal) (k0_pay12 (X0_2 m c t)) (k0_pay14 (X0_2 m c t))
        (k0_pay15 (X0_2 m c t)) (k0_pay20 (k0_pay16 (X0_2 m c t)) (k0_pay18 (X0_2 m c t)))
        (k0_pay245 (iblk m c 3 t) (k0_pay23 (k0_pay16 (X0_2 m c t)) (k0_pay18 (X0_2 m c t)))
          (dnormArr (iblk m c 5 t) (dfOf (iblk m c 0 t) (X0_1 m c t))))
        (k0_pay246 (iblk m c 3 t) (k0_pay21 (k0_pay16 (X0_2 m c t)) (k0_pay17 (X0_2 m c t)))
          (k0_pay24 (k0_pay16 (X0_2 m c t)) (k0_pay18 (X0_2 m c t))) (dnormArr (iblk m c 5 t) (dfOf (iblk m c 0 t) (X0_1 m c t))))
        (k0_pay247 (iblk m c 3 t) (k0_pay23 (k0_pay16 (X0_2 m c t)) (k0_pay18 (X0_2 m c t)))
          (dnormArr (iblk m c 5 t) (dfOf (iblk m c 0 t) (X0_1 m c t)))) (Scalar.ofBits .f32 0x44800000#32)⟩,
       ⟨Rect.unit ![0, 0] S512x1024.size inb_S512x2048_S512x1024_0_0, k0_pay248 (F := Ideal) (k0_pay240 (k0_pay6 (X0_1 m c t)) (k0_pay8 (X0_1 m c t))
        (k0_pay9 (X0_1 m c t)) (iblk m c 0 t) (gateArr (iblk m c 5 t) (iblk m c 6 t) (vnOf (X0_2 m c t) (iblk m c 3 t) (iblk m c 4 t))))⟩] := by
    by_cases h : t.val % 8 = 0
    · rw [outsAt0_A m c t h h h]
      frame_open
      simp (disch := decide) only [↓ View.readCov_skip, ↓ View.readCov_cons_toLoadRect, ↓ View.readCov_fill]
      frame_out
      simp only [← readCov_dnorm _ _ (View.whole cc0_scratch1) inb_S512x1024_S512x1024_0_0, ← readCov_gate _ _ _ (View.whole cc0_scratch0) inb_S512x1024_S512x1024_0_0]
      rfl
    · rw [outsAt0_B m c t h h h]
      frame_open
      simp (disch := decide) only [↓ View.readCov_skip, ↓ View.readCov_cons_toLoadRect, ↓ View.readCov_fill]
      frame_out
      simp only [← readCov_dnorm _ _ (View.whole cc0_scratch1) inb_S512x1024_S512x1024_0_0, ← readCov_gate _ _ _ (View.whole cc0_scratch0) inb_S512x1024_S512x1024_0_0]
      rfl
  rw [key]
  have l := t.isLt
  canon_tiles x h
  · idx_vars x
    have h1 : j.val = 1024 + x1.val := h1
    obtain rfl : r = x0 := Fin.ext h0
    refine (gradV_at (pt t) _ _ _ _ _ _ _ _ (dy_rows m c t) (zu_rows m c t) (zv_rows m c t) r x1).trans ?_
    rw [lw_block, w_block]
    unfold dzArr
    have n1 : ¬ j.val < 1024 := by omega
    have n2 : j.val < 2048 := j.isLt
    refine Eq.trans ?_ ((dif_neg (α := EReal) n1).trans (dif_pos n2)).symm
    exact congrArg (gradV _ _ _ _ _ _) (Fin.ext (by show x1.val = j.val - 1024; omega))
  · idx_vars x
    have h1 : j.val = x1.val := h1
    obtain rfl : r = x0 := Fin.ext h0
    refine (gradU_at (pt t) _ _ _ _ _ _ _ _ _ _ (dy_rows m c t) (zu_rows m c t) (zv_rows m c t) r x1).trans ?_
    rw [lw_block, lb_block, w_block, b_block]
    unfold dzArr
    have l1 : x1.val < 1024 := x1.isLt
    have n1 : j.val < 1024 := by omega
    refine Eq.trans ?_ (dif_pos (α := EReal) n1).symm
    exact congrArg (gradU _ _ _ _ _ _ _ _) (Fin.ext h1.symm)

/-- The zero an accumulated block starts from, and the share added to it. -/
theorem lw_step (old : FVec Ideal S1x1024 .f32) (d : FVec Ideal S1x1024 .f32) (j : Fin 1024) :
    k0_pay251 (F := Ideal) d old (ix2 0 j) = old (ix2 0 j) + d (ix2 0 j) := by
  pointwise [k0_pay251]
theorem lb_step (old : FVec Ideal S1x1024 .f32) (d : FVec Ideal S1x1024 .f32) (j : Fin 1024) :
    k0_pay2 (F := Ideal) d old (ix2 0 j) = old (ix2 0 j) + d (ix2 0 j) := by
  pointwise [k0_pay2]

/-- The point's share of the gradient of the norm's weight, -/
def lwShare : FVec Ideal S1x1024 .f32 := fun i => ∑ r, xhat (act (zvOf m c (rowAt (pt t) r))) (i 1) * cotNorm (mwOf m c) (dyOf m c) (zuOf m c) (rowAt (pt t) r) (i 1)
/-- of its bias, -/
def lbShare : FVec Ideal S1x1024 .f32 := fun i => ∑ r, cotNorm (mwOf m c) (dyOf m c) (zuOf m c) (rowAt (pt t) r) (i 1)
/-- of the mixing weights, -/
def wShare : FVec Ideal S8x128x128 .f32 := fun i =>
  if (i 2).val ≤ (i 1).val then ∑ k, dw (lwOf m c) (lbOf m c) (chunk (dyOf m c) (chunkAt (pt t) k)) (chunk (zuOf m c) (chunkAt (pt t) k))
    (chunk (zvOf m c) (chunkAt (pt t) k)) (i 0) (i 1) (i 2) else 0
/-- and of the positions' bias. -/
def bShare : FVec Ideal S128x8 .f32 := fun i =>
  ∑ k, db (chunk (dyOf m c) (chunkAt (pt t) k)) (chunk (zuOf m c) (chunkAt (pt t) k)) (i 0) (i 1)

theorem lw_share (j : Fin 1024) : k0_pay243 (F := Ideal) (k0_pay25 (k0_pay16 (X0_2 m c t)) (k0_pay17 (X0_2 m c t)) (k0_pay18 (X0_2 m c t)))
    (dnormArr (iblk m c 5 t) (dfOf (iblk m c 0 t) (X0_1 m c t))) (ix2 0 j) = lwShare m c t (ix2 0 j) := by
  refine (gradLw_at (pt t) _ _ _ _ _ _ _ (dy_rows m c t) (zu_rows m c t) (zv_rows m c t) j).trans ?_
  rw [w_block]; rfl
theorem lb_share (j : Fin 1024) : k0_pay242 (F := Ideal) (dnormArr (iblk m c 5 t) (dfOf (iblk m c 0 t) (X0_1 m c t))) (ix2 0 j)
    = lbShare m c t (ix2 0 j) := by
  refine (gradLb_at (pt t) _ _ _ _ _ (dy_rows m c t) (zu_rows m c t) j).trans ?_
  rw [w_block]; rfl
theorem w_share (i : S8x128x128.Idx) : dwArr (dfOf (iblk m c 0 t) (X0_1 m c t)) (vnOf (X0_2 m c t) (iblk m c 3 t) (iblk m c 4 t)) i
    = wShare m c t i := by
  idx_vars i
  refine (dwArr_at (pt t) _ _ _ _ _ _ _ _ (dy_rows m c t) (zu_rows m c t) (zv_rows m c t) i0 i1 i2).trans ?_
  rw [lw_block, lb_block]; rfl
theorem b_share (i : S128x8.Idx) : dbArr (iblk m c 0 t) (k0_pay10 (F := Ideal) (X0_1 m c t)) i = bShare m c t i := by
  idx_vars i
  exact dbArr_at (pt t) _ _ _ _ (dy_rows m c t) (zu_rows m c t) i0 i1

theorem lw_first (h : t.val % 8 = 0) (i : S1x1024.Idx) : (outsAt0 m c t.val t.isLt).2.1 i = (0 : EReal) + lwShare m c t i := by
  rw [outsAt0_A m c t h h h]
  frame_open
  simp (disch := decide) only [↓ View.readCov_skip, ↓ View.readCov_cons_toLoadRect, ↓ View.readCov_fill]
  frame_out
  refine (congrFun (congrArg (fun x => k0_pay251 (F := Ideal) (k0_pay243 _ x) _) (readCov_dnorm (iblk m c 5 t) (dfOf (iblk m c 0 t) (X0_1 m c t)) _ _)) i).trans ?_
  idx_vars i
  obtain rfl : i0 = 0 := Subsingleton.elim _ _
  exact (lw_step _ _ i1).trans (congrArg₂ (· + ·) (by pointwise [k0_pay250]) (lw_share m c t i1))

theorem lw_next (h : ¬ t.val % 8 = 0) (i : S1x1024.Idx) : (outsAt0 m c t.val t.isLt).2.1 i
    = ((outsAt0 m c (t.val - 1) (Nat.lt_of_le_of_lt (Nat.sub_le _ _) t.isLt)).2.1 i : EReal) + lwShare m c t i := by
  rw [outsAt0_B m c t h h h]
  frame_open
  simp (disch := decide) only [↓ View.readCov_skip, ↓ View.readCov_cons_toLoadRect, ↓ View.readCov_fill]
  frame_out
  refine (congrFun (congrArg (fun x => k0_pay251 (F := Ideal) (k0_pay243 _ x) _) (readCov_dnorm (iblk m c 5 t) (dfOf (iblk m c 0 t) (X0_1 m c t)) _ _)) i).trans ?_
  idx_vars i
  obtain rfl : i0 = 0 := Subsingleton.elim _ _
  exact (lw_step _ _ i1).trans (congrArg₂ (· + ·) rfl (lw_share m c t i1))

theorem lb_first (h : t.val % 8 = 0) (i : S1x1024.Idx) : (outsAt0 m c t.val t.isLt).2.2.1 i = (0 : EReal) + lbShare m c t i := by
  rw [outsAt0_A m c t h h h]
  frame_open
  simp (disch := decide) only [↓ View.readCov_skip, ↓ View.readCov_cons_toLoadRect, ↓ View.readCov_fill]
  frame_out
  refine (congrFun (congrArg (fun x => k0_pay2 (F := Ideal) (k0_pay242 x) _) (readCov_dnorm (iblk m c 5 t) (dfOf (iblk m c 0 t) (X0_1 m c t)) _ _)) i).trans ?_
  idx_vars i
  obtain rfl : i0 = 0 := Subsingleton.elim _ _
  exact (lb_step _ _ i1).trans (congrArg₂ (· + ·) (by pointwise [k0_pay1]) (lb_share m c t i1))

theorem lb_next (h : ¬ t.val % 8 = 0) (i : S1x1024.Idx) : (outsAt0 m c t.val t.isLt).2.2.1 i
    = ((outsAt0 m c (t.val - 1) (Nat.lt_of_le_of_lt (Nat.sub_le _ _) t.isLt)).2.2.1 i : EReal) + lbShare m c t i := by
  rw [outsAt0_B m c t h h h]
  frame_open
  simp (disch := decide) only [↓ View.readCov_skip, ↓ View.readCov_cons_toLoadRect, ↓ View.readCov_fill]
  frame_out
  refine (congrFun (congrArg (fun x => k0_pay2 (F := Ideal) (k0_pay242 x) _) (readCov_dnorm (iblk m c 5 t) (dfOf (iblk m c 0 t) (X0_1 m c t)) _ _)) i).trans ?_
  idx_vars i
  obtain rfl : i0 = 0 := Subsingleton.elim _ _
  exact (lb_step _ _ i1).trans (congrArg₂ (· + ·) rfl (lb_share m c t i1))

theorem w_first (h : t.val % 8 = 0) (i : S8x128x128.Idx) : (outsAt0 m c t.val t.isLt).2.2.2.1 i = (0 : EReal) + wShare m c t i := by
  rw [outsAt0_A m c t h h h]
  frame_open
  simp (disch := decide) only [↓ View.readCov_skip, ↓ View.readCov_cons_toLoadRect, ↓ View.readCov_fill]
  frame_out
  refine (congrFun (canon_dw (vnOf (X0_2 m c t) (iblk m c 3 t) (iblk m c 4 t)) (dfOf (iblk m c 0 t) (X0_1 m c t)) _ _) i).trans ?_
  exact congrArg₂ (· + ·) (by pointwise) (w_share m c t i)

theorem w_next (h : ¬ t.val % 8 = 0) (i : S8x128x128.Idx) : (outsAt0 m c t.val t.isLt).2.2.2.1 i
    = ((outsAt0 m c (t.val - 1) (Nat.lt_of_le_of_lt (Nat.sub_le _ _) t.isLt)).2.2.2.1 i : EReal) + wShare m c t i := by
  rw [outsAt0_B m c t h h h]
  frame_open
  simp (disch := decide) only [↓ View.readCov_skip, ↓ View.readCov_cons_toLoadRect, ↓ View.readCov_fill]
  frame_out
  refine (congrFun (canon_dw (vnOf (X0_2 m c t) (iblk m c 3 t) (iblk m c 4 t)) (dfOf (iblk m c 0 t) (X0_1 m c t)) _ []) i).trans ?_
  exact congrArg₂ (· + ·) rfl (w_share m c t i)

theorem b_first (h : t.val % 8 = 0) (i : S128x8.Idx) : (outsAt0 m c t.val t.isLt).2.2.2.2 i = (0 : EReal) + bShare m c t i := by
  rw [outsAt0_A m c t h h h]
  frame_open
  simp (disch := decide) only [↓ View.readCov_skip, ↓ View.readCov_cons_toLoadRect, ↓ View.readCov_fill]
  frame_out
  refine (congrFun (canon_db (iblk m c 0 t) (k0_pay10 (X0_1 m c t)) _ _) i).trans ?_
  exact congrArg₂ (· + ·) (by pointwise) (b_share m c t i)

theorem b_next (h : ¬ t.val % 8 = 0) (i : S128x8.Idx) : (outsAt0 m c t.val t.isLt).2.2.2.2 i
    = ((outsAt0 m c (t.val - 1) (Nat.lt_of_le_of_lt (Nat.sub_le _ _) t.isLt)).2.2.2.2 i : EReal) + bShare m c t i := by
  rw [outsAt0_B m c t h h h]
  frame_open
  simp (disch := decide) only [↓ View.readCov_skip, ↓ View.readCov_cons_toLoadRect, ↓ View.readCov_fill]
  frame_out
  refine (congrFun (canon_db (iblk m c 0 t) (k0_pay10 (X0_1 m c t)) _ []) i).trans ?_
  exact congrArg₂ (· + ·) rfl (b_share m c t i)

/-! ## The arrays after the run -/

/-- A sum over the points of sums over their rows is the sum over all rows. -/
theorem sum_rows (f : Fin 4096 → EReal) : ∑ p : Fin cfg0.N, ∑ r, f (rowAt (pt p) r) = ∑ r, f r := by
  rw [Fin.sum_univ_tiles 8 512 rfl f]
  exact Finset.sum_congr rfl fun p _ => Finset.sum_congr rfl fun r _ => congrArg f (Fin.ext (by show 512 * p.val + r.val = _; exact congrArg (· + _) (Nat.mul_comm _ _)))
/-- A sum over the points of sums over their chunks is the sum over all chunks. -/
theorem sum_chunks (f : Fin 32 → EReal) : ∑ p : Fin cfg0.N, ∑ k, f (chunkAt (pt p) k) = ∑ n, f n := by
  rw [Fin.sum_univ_tiles 8 4 rfl f]
  exact Finset.sum_congr rfl fun p _ => Finset.sum_congr rfl fun r _ => congrArg f (Fin.ext (by show 4 * p.val + r.val = _; exact congrArg (· + _) (Nat.mul_comm _ _)))

/-- Where the point's block lies in the array. -/
theorem dz_emb (t : Fin cfg0.N) (y : ((cfg0.win 7).xblock (cfg0.grid.coords t)).Idx) :
    (win0_7.blk t).view.emb y = ix2 (rowAt (pt t) ((cfg0.win 7).xinj (cfg0.grid.coords t) y 0))
      ⟨((cfg0.win 7).xinj (cfg0.grid.coords t) y 1).val, Nat.lt_of_lt_of_le ((cfg0.win 7).xinj (cfg0.grid.coords t) y 1).isLt (by decide)⟩ := by
  have e : ∀ a, ((win0_7.blk t).view.emb y a).val = win0_7.index t a * win0_7.size a + (y a).val :=
    fun a => ValueKit.rect_emb_unit_val _ _ _ y a
  have h := (idx t).2.2.2.2.2.2.2
  refine funext fun a => Fin.ext ((e a).trans ?_)
  rw [h]
  revert a
  refine Fin.forall_fin_two.2 ⟨?_, ?_⟩
  · exact congrArg (· + _) (Nat.mul_comm _ _)
  · exact (congrArg (· + _) (Nat.zero_mul _)).trans (Nat.zero_add _)

/-- The rows' gradients. -/
theorem dz_final : (dats m 0 c).arrAt 7 cfg0.N = dzArr m c := by
  refine (dats m 0 c).arrAt_eq_of_coversWhere_of_agree 7 (dzArr m c) (fun β => β (1 : Fin 2) = 0) (by decide +kernel) (fun t hf y => ?_) (fun j hj => ?_)
  · blk_simp
    rw [after0_7]
    refine Eq.trans (congrArg (outsAt0 m c t.val t.isLt).1 (ix2_eta (n0 := 512) (n1 := 2048) _).symm) ((dz_point m c t _ _).trans (congrArg (dzArr m c) ?_))
    exact (dz_emb t y).symm
  · rw [A_eq]
    entry_read
    have hj : ¬ (j 1).val / 2048 = 0 := hj
    have n1 : ¬ (j 1).val < 1024 := by omega
    have n2 : ¬ (j 1).val < 2048 := by omega
    exact ((dif_neg (α := EReal) n1).trans (dif_neg n2)).symm
/-- The gradient of the norm's weight. -/
theorem lw_final : (dats m 0 c).arrAt 8 cfg0.N = fun i : S1x1024.Idx => gradLw (mwOf m c) (dyOf m c) (zuOf m c) (zvOf m c) (i 1) := by
  refine (dats m 0 c).arrAt_eq_of_after_last 8 t0_7 (by decide +kernel) _ fun i => ?_
  blk_simp
  rw [after0_8]
  refine (Pipeline.eq_sum_fin_of_reset_step_apply_last (fun n h => ((outsAt0 m c n h).2.1 : S1x1024.Idx → EReal)) 8 (fun _ => 0) (lwShare m c)
    (fun t h i => lw_first m c t h i) (fun t h i => lw_next m c t h i) (by decide) t0_7 rfl i).trans ?_
  rw [zero_add]
  exact sum_rows fun r => xhat (act (zvOf m c r)) (i 1) * cotNorm (mwOf m c) (dyOf m c) (zuOf m c) r (i 1)

/-- The gradient of the norm's bias. -/
theorem lb_final : (dats m 0 c).arrAt 9 cfg0.N = fun i : S1x1024.Idx => gradLb (mwOf m c) (dyOf m c) (zuOf m c) (i 1) := by
  refine (dats m 0 c).arrAt_eq_of_after_last 9 t0_7 (by decide +kernel) _ fun i => ?_
  blk_simp
  rw [after0_9]
  refine (Pipeline.eq_sum_fin_of_reset_step_apply_last (fun n h => ((outsAt0 m c n h).2.2.1 : S1x1024.Idx → EReal)) 8 (fun _ => 0) (lbShare m c)
    (fun t h i => lb_first m c t h i) (fun t h i => lb_next m c t h i) (by decide) t0_7 rfl i).trans ?_
  rw [zero_add]
  exact sum_rows fun r => cotNorm (mwOf m c) (dyOf m c) (zuOf m c) r (i 1)

/-- The gradient of the mixing weights. -/
theorem w_final : (dats m 0 c).arrAt 10 cfg0.N
    = fun i : S8x128x128.Idx => gradW (lwOf m c) (lbOf m c) (dyOf m c) (zuOf m c) (zvOf m c) (i 0) (i 1) (i 2) := by
  refine (dats m 0 c).arrAt_eq_of_after_last 10 t0_7 (by decide +kernel) _ fun i => ?_
  blk_simp
  rw [after0_10]
  refine (Pipeline.eq_sum_fin_of_reset_step_apply_last (fun n h => ((outsAt0 m c n h).2.2.2.1 : S8x128x128.Idx → EReal)) 8 (fun _ => 0) (wShare m c)
    (fun t h i => w_first m c t h i) (fun t h i => w_next m c t h i) (by decide) t0_7 rfl i).trans ?_
  rw [zero_add]
  by_cases h : (i 2).val ≤ (i 1).val
  · refine (Finset.sum_congr rfl fun p _ => if_pos h).trans (Eq.trans ?_ (if_pos h).symm)
    exact sum_chunks fun n => dw (lwOf m c) (lbOf m c) (chunk (dyOf m c) n) (chunk (zuOf m c) n) (chunk (zvOf m c) n) (i 0) (i 1) (i 2)
  · refine (Finset.sum_congr rfl fun p _ => if_neg h).trans (Eq.trans ?_ (if_neg h).symm)
    exact Finset.sum_const_zero

/-- The gradient of the positions' bias. -/
theorem b_final : (dats m 0 c).arrAt 11 cfg0.N = fun i : S128x8.Idx => gradB (dyOf m c) (zuOf m c) (i 0) (i 1) := by
  refine (dats m 0 c).arrAt_eq_of_after_last 11 t0_7 (by decide +kernel) _ fun i => ?_
  blk_simp
  rw [after0_11]
  refine (Pipeline.eq_sum_fin_of_reset_step_apply_last (fun n h => ((outsAt0 m c n h).2.2.2.2 : S128x8.Idx → EReal)) 8 (fun _ => 0) (bShare m c)
    (fun t h i => b_first m c t h i) (fun t h i => b_next m c t h i) (by decide) t0_7 rfl i).trans ?_
  rw [zero_add]
  exact sum_chunks fun n => db (chunk (dyOf m c) n) (chunk (zuOf m c) n) (i 0) (i 1)

end Cert.Sgu.Kernel

end
-- ==== Proof.Sgu.Sums.lean ====
/-
  The reference's sums over several axes, read at an index.
-/
module
public import proofs.«01_k».proof.Proof.Gen.SguRefIdeal.Read
public import Idealize.ShloMosaic.Lib.Pointwise

@[expose] public section

noncomputable section

namespace Cert.Sgu.Ref
open Cert.SguRefIdeal Cert.SguRefIdeal.Gen Idealize.ShloMosaic Idealize.ShloMosaic.StableHlo

/-- A sum over the indices that drop to `j`, along a parametrisation `g` of them. -/
theorem reduce_of_fiber {s t : Shape} {axes : List (Fin s.rank)} {κ : Type} [Fintype κ] (h : s.ReducesTo axes t) (v : s.Idx → EReal)
    (init : EReal) (j : t.Idx) (g : κ → s.Idx) (hg : Function.Injective g) (hp : ∀ i, h.drop i = j ↔ ∃ k, g k = i) :
    Ideal.hostReduceAdd h v init j = init + ∑ k, v (g k) :=
  congrArg (init + ·) (Finset.sum_filter_eq_sum_of_fiber _ g hg hp v)

/-- The sum over the chunks and over the lanes of a group. -/
theorem sum_chunks_lanes (v : S1x32x128x8x128.Idx → EReal) (init : EReal) (t : Fin 128) (g : Fin 8) :
    Ideal.hostReduceAdd reducesTo_S1x32x128x8x128_S1x128x8_d1_4 v init (ix3 (0 : Fin 1) t g)
      = init + ∑ n, ∑ l, v (ix5 (0 : Fin 1) n t g l) := by
  rw [reduce_of_fiber (κ := Fin 32 × Fin 128) _ _ _ _ (fun k => ix5 (0 : Fin 1) k.1 t g k.2)
    (fun a b e => Prod.ext (congrFun e 1) (congrFun e 4)) ?_, Fintype.sum_prod_type]
  intro i
  constructor
  · intro e
    refine ⟨(i 1, i 4), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b; apply Fin.ext
    match b with
    | ⟨0, _⟩ => rfl
    | ⟨1, _⟩ => rfl
    | ⟨2, _⟩ => rfl

/-- A sum over three axes of size one. -/
theorem sum_ones (v : S1x1x128x8x1.Idx → EReal) (init : EReal) (t : Fin 128) (g : Fin 8) :
    Ideal.hostReduceAdd reducesTo_S1x1x128x8x1_S128x8_d0_1_4 v init (ix2 t g)
      = init + v (ix5 (0 : Fin 1) (0 : Fin 1) t g (0 : Fin 1)) := by
  rw [reduce_of_fiber (κ := Fin 1) _ _ _ _ (fun _ => ix5 (0 : Fin 1) (0 : Fin 1) t g (0 : Fin 1))
    (fun a b _ => Subsingleton.elim a b) ?_, Fin.sum_univ_one]
  intro i
  constructor
  · intro e
    refine ⟨0, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
    | ⟨3, _⟩ => exact Fin.ext (congrArg Fin.val (congrFun e 1)).symm
    | ⟨4, _⟩ => exact Subsingleton.elim (α := Fin 1) _ _
  · rintro ⟨k, rfl⟩
    funext b; apply Fin.ext
    match b with
    | ⟨0, _⟩ => rfl
    | ⟨1, _⟩ => rfl

/-- A sum over two axes of size one, of a row of lanes, -/
theorem sum_one_row (v : S1x1x1024.Idx → EReal) (init : EReal) (j : Fin 1024) :
    Ideal.hostReduceAdd reducesTo_S1x1x1024_S1024_d0_1 v init (ix1 j) = init + v (ix3 (0 : Fin 1) (0 : Fin 1) j) := by
  rw [reduce_of_fiber (κ := Fin 1) _ _ _ _ (fun _ => ix3 (0 : Fin 1) (0 : Fin 1) j)
    (fun a b _ => Subsingleton.elim a b) ?_, Fin.sum_univ_one]
  intro i
  constructor
  · intro e
    refine ⟨0, ?_⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0)).symm
  · rintro ⟨k, rfl⟩
    funext b; apply Fin.ext
    match b with
    | ⟨0, _⟩ => rfl

/-- and of a column of rows. -/
theorem sum_one_lane (v : S1x4096x1.Idx → EReal) (init : EReal) (r : Fin 4096) :
    Ideal.hostReduceAdd reducesTo_S1x4096x1_S4096_d0_2 v init (ix1 r) = init + v (ix3 (0 : Fin 1) r (0 : Fin 1)) := by
  rw [reduce_of_fiber (κ := Fin 1) _ _ _ _ (fun _ => ix3 (0 : Fin 1) r (0 : Fin 1))
    (fun a b _ => Subsingleton.elim a b) ?_, Fin.sum_univ_one]
  intro i
  constructor
  · intro e
    refine ⟨0, ?_⟩
    funext a
    match a with
    | ⟨0, _⟩ => exact Subsingleton.elim (α := Fin 1) _ _
    | ⟨1, _⟩ => exact Fin.ext (congrArg Fin.val (congrFun e 0)).symm
    | ⟨2, _⟩ => exact Subsingleton.elim (α := Fin 1) _ _
  · rintro ⟨k, rfl⟩
    funext b; apply Fin.ext
    match b with
    | ⟨0, _⟩ => rfl

/-- The product's numbers: it contracts the batch of one, the chunks and the lanes of a group. -/
abbrev wdims := dot_S8x1x32x128x128_S1x32x128x8x128_S8x128x128_123_014_4_2_0_3

theorem wdims_size (p : Fin wdims.contr.rank) : (if p.val = 0 then 1 else if p.val = 1 then 32 else 128) = wdims.contr.size p := by
  revert p
  decide

/-- A contracted position from its chunk and its lane. -/
def wIdx (n : Fin 32) (l : Fin 128) : wdims.contr.Idx := fun p =>
  if h : p.val = 0 then (0 : Fin 1).cast (by rw [← wdims_size p, if_pos h])
  else if h' : p.val = 1 then n.cast (by rw [← wdims_size p, if_neg h, if_pos h'])
  else l.cast (by rw [← wdims_size p, if_neg h, if_neg h'])

/-- The contracted positions are the pairs of a chunk and a lane. -/
def wEquiv : Fin 32 × Fin 128 ≃ wdims.contr.Idx where
  toFun k := wIdx k.1 k.2
  invFun kk := ((kk ⟨1, by decide⟩).cast (wdims_size ⟨1, by decide⟩).symm, (kk ⟨2, by decide⟩).cast (wdims_size ⟨2, by decide⟩).symm)
  left_inv _ := rfl
  right_inv kk := by
    funext p
    match p with
    | ⟨0, h⟩ =>
      apply Fin.ext
      have : (kk ⟨0, h⟩).val < 1 := lt_of_lt_of_eq (kk ⟨0, h⟩).isLt (wdims_size ⟨0, h⟩).symm
      exact (Nat.lt_one_iff.1 this).symm
    | ⟨1, _⟩ => rfl
    | ⟨2, _⟩ => rfl

/-- The product that contracts the chunks and the lanes of a group. -/
theorem weights_dot (v : S8x1x32x128x128.Idx → EReal) (w : S1x32x128x8x128.Idx → EReal) (acc : S8x128x128.Idx → EReal) (g : Fin 8)
    (t s : Fin 128) : Ideal.matmul wdims v w acc (ix3 g t s)
      = acc (ix3 g t s) + ∑ n, ∑ l, v (ix5 g (0 : Fin 1) n l t) * w (ix5 (0 : Fin 1) n s g l) := by
  refine congrArg (acc (ix3 g t s) + ·) ?_
  rw [← Fintype.sum_equiv wEquiv (fun k => v (wdims.lhsIdx (ix3 g t s) (wIdx k.1 k.2)) * w (wdims.rhsIdx (ix3 g t s) (wIdx k.1 k.2)))
    _ fun _ => rfl, Fintype.sum_prod_type]
  refine Finset.sum_congr rfl fun n _ => Finset.sum_congr rfl fun l _ => ?_
  refine congrArg₂ (fun a b => v a * w b) ?_ ?_
  · funext a; apply Fin.ext
    match a with
    | ⟨0, _⟩ => rfl
    | ⟨1, _⟩ => rfl
    | ⟨2, _⟩ => rfl
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => rfl
    | ⟨4, _⟩ => rfl

end Cert.Sgu.Ref

end
-- ==== Proof.Sgu.Reference.lean ====
/-
  The reference's results, read as the formulas of the gradient.
-/
module

public import proofs.«01_k».proof.Proof.Sgu.Spec
public import proofs.«01_k».proof.Proof.Sgu.Sums
public import Idealize.ShloMosaic.Lib.Pointwise
public import Idealize.ShloMosaic.Lib.WordCmp

@[expose] public section

noncomputable section

namespace Cert.Sgu.Ref

open Cert.SguRefIdeal Cert.SguRefIdeal.Gen Cert.SguRefIdeal.Read Idealize.ShloMosaic Idealize.ShloMosaic.StableHlo

variable (x0 : FVec Ideal S4096x1024 .f32) (x1 x6 : FVec Ideal S4096x5376 .bf16) (x2 x3 : FVec Ideal S1x1024 .f32)
  (x4 : FVec Ideal S8x128x128 .f32) (x5 : FVec Ideal S128x8 .f32)

/-! ## The arguments as functions -/

/-- The cotangent's rows, -/
def rowsDy : Fin 4096 → Row := fun r j => x0 (ix2 r j)
/-- the first half of the projected rows, -/
def rowsU : Fin 4096 → Row := fun r j => x1 (ix2 r ⟨j.val, by have := j.isLt; omega⟩)
/-- their second half, -/
def rowsV : Fin 4096 → Row := fun r j => x1 (ix2 r ⟨1024 + j.val, by have := j.isLt; omega⟩)
/-- the norm's weight or bias, -/
def lanesOf : Row := fun j => x2 (ix2 (0 : Fin 1) j)
/-- the mixing weights and the positions' bias. -/
def mixOf : Fin 8 → Fin 128 → Fin 128 → EReal := fun g t s => x4 (ix3 g t s)
def biasOf : Fin 128 → Fin 8 → EReal := fun t g => x5 (ix2 t g)

/-! ## The forward values -/

theorem gelu_at (r : Fin 4096) (k : Fin 2048) :
    val_main_v15 (F := Ideal) x1 (ix3 (0 : Fin 1) r k) = gelu (x1 (ix2 r ⟨k.val, by omega⟩)) := by
  pointwise [val_main_v15, val_main_v7, val_main_v6, val_main_cst, val_main_v2, val_main_v1, val_main_v0, val_main_v11,
    val_main_v10, val_main_v8, val_main_v9, val_main_cst_0]
  simp only [gelu, neg_mul, Ideal.erfc_neg]

theorem actU_at (r : Fin 4096) (j : Fin 1024) : val_main_v16 (F := Ideal) x1 (ix3 (0 : Fin 1) r j) = gelu (rowsU x1 r j) := by
  pointwise [val_main_v16]
  exact gelu_at x1 r ⟨j.val, by omega⟩

theorem act_at (r : Fin 4096) (j : Fin 1024) : val_main_v17 (F := Ideal) x1 (ix3 (0 : Fin 1) r j) = act (rowsV x1 r) j := by
  pointwise [val_main_v17]
  exact gelu_at x1 r ⟨1024 + j.val, by omega⟩

theorem mean_at (r : Fin 4096) : val_main_v21 (F := Ideal) x1 (ix3 (0 : Fin 1) r (0 : Fin 1)) = mean (act (rowsV x1 r)) := by
  pointwise [val_main_v21, val_main_v18, val_main_v19, val_main_v20, val_main_cst_1, val_main_cst_2]
  simp only [act_at, zero_add]
  rfl

/-- The row less its mean: the reference computes it twice, -/
theorem centred_at (r : Fin 4096) (j : Fin 1024) :
    val_main_v32 (F := Ideal) x1 (ix3 (0 : Fin 1) r j) = act (rowsV x1 r) j - mean (act (rowsV x1 r)) := by
  pointwise [val_main_v32, val_main_v31]
  simp only [act_at, mean_at]

theorem centred_at' (r : Fin 4096) (j : Fin 1024) :
    val_main_v23 (F := Ideal) x1 (ix3 (0 : Fin 1) r j) = act (rowsV x1 r) j - mean (act (rowsV x1 r)) := by
  pointwise [val_main_v23, val_main_v22]
  simp only [act_at, mean_at]

theorem twice_at (r : Fin 4096) (j : Fin 1024) :
    val_main_v26 (F := Ideal) x1 (ix3 (0 : Fin 1) r j) = cTwo * (act (rowsV x1 r) j - mean (act (rowsV x1 r))) := by
  pointwise [val_main_v26, val_main_v25, val_main_cst_3]
  simp only [centred_at']

theorem varEps_at (r : Fin 4096) : val_main_v34 (F := Ideal) x1 (ix3 (0 : Fin 1) r (0 : Fin 1)) = varEps (act (rowsV x1 r)) := by
  pointwise [val_main_v34, val_main_v33, val_main_v30, val_main_v29, val_main_v28, val_main_v27, val_main_v24,
    val_main_cst_4, val_main_cst_5, val_main_cst_6]
  simp only [centred_at', zero_add]
  rfl

theorem inv_at (r : Fin 4096) : val_main_v35 (F := Ideal) x1 (ix3 (0 : Fin 1) r (0 : Fin 1)) = inv (act (rowsV x1 r)) := by
  pointwise [val_main_v35]
  simp only [varEps_at]
  rfl

/-- The factor the derivative of the deviation contributes. -/
theorem factor_at (r : Fin 4096) : val_main_v38 (F := Ideal) x1 (ix3 (0 : Fin 1) r (0 : Fin 1))
    = cNegHalf * Ideal.div (inv (act (rowsV x1 r))) (varEps (act (rowsV x1 r))) := by
  pointwise [val_main_v38, val_main_v37, val_main_v36, val_main_cst_7]
  simp only [varEps_at, inv_at]

theorem xhat_at (r : Fin 4096) (j : Fin 1024) : val_main_v40 (F := Ideal) x1 (ix3 (0 : Fin 1) r j) = xhat (act (rowsV x1 r)) j := by
  pointwise [val_main_v40, val_main_v39]
  simp only [centred_at, inv_at]
  rfl

theorem norm_at (r : Fin 4096) (j : Fin 1024) :
    val_main_v46 (F := Ideal) x1 x2 x3 (ix3 (0 : Fin 1) r j) = norm (lanesOf x2) (lanesOf x3) (rowsV x1 r) j := by
  pointwise [val_main_v46, val_main_v45, val_main_v44, val_main_v43, val_main_v42, val_main_v41, val_main_v3, val_main_v4]
  simp only [xhat_at]
  rfl

theorem row_join (n : Fin 32) (s : Fin 128) (h : n.val * 128 + s.val < 4096) : (⟨n.val * 128 + s.val, h⟩ : Fin 4096)
    = ⟨128 * n.val + s.val, by rw [mul_comm]; exact h⟩ := Fin.ext (congrArg (· + s.val) (mul_comm _ _))
theorem lane_join (g : Fin 8) (l : Fin 128) (h : g.val * 128 + l.val < 1024) : (⟨g.val * 128 + l.val, h⟩ : Fin 1024) = lane g l :=
  Fin.ext (congrArg (· + l.val) (mul_comm _ _))

/-- Row `128 n + s` and lane `128 g + l` at position `s` of chunk `n` and offset `l` of group `g`. -/
theorem norm_split (n : Fin 32) (s : Fin 128) (g : Fin 8) (l : Fin 128) :
    val_main_v47 (F := Ideal) x1 x2 x3 (ix5 (0 : Fin 1) n s g l)
      = norm (lanesOf x2) (lanesOf x3) (chunk (rowsV x1) n s) (lane g l) := by
  pointwise [val_main_v47]
  rw [norm_at]
  exact congrArg₂ (fun r j => norm (lanesOf x2) (lanesOf x3) (rowsV x1 r) j) (row_join n s _) (lane_join g l _)

theorem causal_at (g : Fin 8) (t s : Fin 128) :
    val_main_v52_1 (F := Ideal) (ix3 g t s) = if s.val ≤ t.val then 1#1 else 0#1 := by
  pointwise [val_main_v52_1, val_main_v50, val_main_v49, val_main_call0_v4, val_main_call0_v5, val_main_call0_c_0,
    val_main_v48, val_main_c, val_main_call0_v2, val_main_call0_v1, val_main_call0_c, val_main_call0_v3, val_main_call0_v0]
  rw [show IntOp.addi (BitVec.ofNat 32 t.val) 0#32 = BitVec.ofNat 32 t.val from BitVec.add_zero _]
  word_cmp

theorem mix_at (g : Fin 8) (t s : Fin 128) : val_main_v52_0 (F := Ideal) x4 (ix3 g t s) = mix (mixOf x4) g t s := by
  pointwise [val_main_v52_0, val_main_v51, val_main_cst_8]
  rw [causal_at]
  unfold mix
  split <;> rfl

/-- A row is its position's row in its chunk. -/
theorem chunk_self (x : Fin 4096 → Row) (r : Fin 4096) : chunk x (chunkOf r) (pos r) = x r :=
  congrArg x (Fin.ext (Nat.div_add_mod r.val 128))
/-- A lane from its group and its offset. -/
theorem lane_split (j : Fin 1024) : lane (grp j) (pos j) = j := Fin.ext (Nat.div_add_mod _ _)

theorem gate_at (r : Fin 4096) (j : Fin 1024) : val_main_v59 (F := Ideal) x1 x2 x3 x4 x5 (ix3 (0 : Fin 1) r j)
    = gate (lanesOf x2) (lanesOf x3) (mixOf x4) (biasOf x5) (chunk (rowsV x1) (chunkOf r)) (pos r) j := by
  pointwise [val_main_v59, val_main_v58, val_main_v54, val_main_v53, val_main_v57, val_main_v56, val_main_v55, val_main_v5]
  unfold gate
  refine congrArg₂ (· + ·) (Finset.sum_congr rfl fun s _ => ?_) rfl
  rw [mix_at, norm_split, mul_comm]
  exact congrArg (fun k => mix (mixOf x4) (grp j) (pos r) s * norm _ _ (chunk (rowsV x1) (chunkOf r) s) k) (lane_split j)

/-! ## The cotangents -/

theorem cotGate_at (r : Fin 4096) (j : Fin 1024) :
    val_main_v62 (F := Ideal) x0 x1 (ix3 (0 : Fin 1) r j) = rowsDy x0 r j * gelu (rowsU x1 r j) := by
  pointwise [val_main_v62, val_main_v61]
  rw [actU_at, mul_comm]
  rfl

theorem cotGate_split (n : Fin 32) (t : Fin 128) (g : Fin 8) (l : Fin 128) :
    val_main_v64 (F := Ideal) x0 x1 (ix5 (0 : Fin 1) n t g l)
      = dgate (chunk (rowsDy x0) n) (chunk (rowsU x1) n) t (lane g l) := by
  pointwise [val_main_v64]
  rw [cotGate_at]
  exact congrArg₂ (fun r j => rowsDy x0 r j * gelu (rowsU x1 r j)) (row_join n t _) (lane_join g l _)

theorem cotU_at (r : Fin 4096) (j : Fin 1024) : val_main_v63 (F := Ideal) x0 x1 x2 x3 x4 x5 (ix3 (0 : Fin 1) r j)
    = rowsDy x0 r j * gate (lanesOf x2) (lanesOf x3) (mixOf x4) (biasOf x5) (chunk (rowsV x1) (chunkOf r)) (pos r) j := by
  pointwise [val_main_v63, val_main_v61]
  rw [gate_at]
  rfl

theorem cotNorm_at (r : Fin 4096) (j : Fin 1024) :
    val_main_v74 (F := Ideal) x0 x1 x4 (ix3 (0 : Fin 1) r j) = cotNorm (mixOf x4) (rowsDy x0) (rowsU x1) r j := by
  pointwise [val_main_v74, val_main_v72, val_main_v71, val_main_v69]
  unfold cotNorm dnorm
  refine Finset.sum_congr rfl fun t _ => ?_
  rw [mix_at, cotGate_split, mul_comm]
  exact congrArg (fun k => mix (mixOf x4) (grp j) t (pos r) * dgate _ _ t k) (lane_split j)

/-- The cotangent of the normalised row before its weight. -/
abbrev cotHat (r : Fin 4096) : Row := fun k => cotNorm (mixOf x4) (rowsDy x0) (rowsU x1) r k * lanesOf x2 k

theorem cotHat_at (r : Fin 4096) (j : Fin 1024) :
    val_main_v82 (F := Ideal) x0 x1 x2 x4 (ix3 (0 : Fin 1) r j) = cotHat x0 x1 x2 x4 r j := by
  pointwise [val_main_v82, val_main_v81, val_main_v41, val_main_v3]
  rw [cotNorm_at]
  rfl

theorem scaled_at (r : Fin 4096) (j : Fin 1024) : val_main_v88 (F := Ideal) x0 x1 x2 x4 (ix3 (0 : Fin 1) r j)
    = cotHat x0 x1 x2 x4 r j * inv (act (rowsV x1 r)) := by
  pointwise [val_main_v88, val_main_v87]
  rw [cotHat_at, inv_at]

theorem dvar_at (r : Fin 4096) : val_main_v94 (F := Ideal) x0 x1 x2 x4 (ix3 (0 : Fin 1) r (0 : Fin 1))
    = dvar (act (rowsV x1 r)) (cotHat x0 x1 x2 x4 r) := by
  pointwise [val_main_v94, val_main_v93, val_main_v89, val_main_v86, val_main_v85, val_main_v84, val_main_cst_15, val_main_cst_17]
  simp only [factor_at, centred_at, cotHat_at, zero_add]
  rfl

theorem varPart_at (r : Fin 4096) (j : Fin 1024) : val_main_v98 (F := Ideal) x0 x1 x2 x4 (ix3 (0 : Fin 1) r j)
    = dvar (act (rowsV x1 r)) (cotHat x0 x1 x2 x4 r) * (cTwo * (act (rowsV x1 r) j - mean (act (rowsV x1 r)))) := by
  pointwise [val_main_v98, val_main_v97, val_main_v96, val_main_v95]
  rw [sum_one_lane, dvar_at, twice_at]
  pointwise [val_main_cst_18]

theorem dmean_at (r : Fin 4096) : val_main_v105 (F := Ideal) x0 x1 x2 x4 (ix3 (0 : Fin 1) r (0 : Fin 1))
    = dmean (act (rowsV x1 r)) (cotHat x0 x1 x2 x4 r) := by
  pointwise [val_main_v105, val_main_v104, val_main_v103, val_main_v101, val_main_v100, val_main_v99, val_main_v92, val_main_v91,
    val_main_v90, val_main_cst_16, val_main_cst_19, val_main_cst_20]
  simp only [scaled_at, varPart_at, zero_add]
  rfl

theorem cotV_at (r : Fin 4096) (j : Fin 1024) : val_main_v109 (F := Ideal) x0 x1 x2 x4 (ix3 (0 : Fin 1) r j)
    = normBwd (act (rowsV x1 r)) (cotHat x0 x1 x2 x4 r) j := by
  pointwise [val_main_v109, val_main_v108, val_main_v107, val_main_v106, val_main_v102]
  rw [sum_one_lane, dmean_at, scaled_at, varPart_at]
  pointwise [val_main_cst_21]
  rfl

/-! ## The gradients of the parameters -/

theorem weights_at (g : Fin 8) (t s : Fin 128) : val_main_v73 (F := Ideal) x0 x1 x2 x3 (ix3 g t s)
    = gradW (lanesOf x2) (lanesOf x3) (rowsDy x0) (rowsU x1) (rowsV x1) g t s := by
  pointwise [val_main_v73, val_main_v70]
  rw [causal_at, weights_dot]
  pointwise [val_main_v69, val_main_call2_v0, val_main_call2_cst]
  simp only [norm_split, cotGate_split]
  unfold gradW
  split
  · rfl
  · rfl

theorem bias_at (t : Fin 128) (g : Fin 8) : val_main_v129 (F := Ideal) x0 x1 (ix2 t g) = gradB (rowsDy x0) (rowsU x1) t g := by
  pointwise [val_main_v129, val_main_v68, val_main_v67]
  rw [sum_ones]
  pointwise [val_main_v66, val_main_v65]
  rw [sum_chunks_lanes]
  pointwise [val_main_cst_9, val_main_cst_10]
  simp only [cotGate_split, zero_add]
  rfl

theorem normWeight_at (j : Fin 1024) : val_main_v127 (F := Ideal) x0 x1 x4 (ix2 (0 : Fin 1) j)
    = gradLw (mixOf x4) (rowsDy x0) (rowsU x1) (rowsV x1) j := by
  pointwise [val_main_v127, val_main_v83]
  rw [sum_one_row]
  pointwise [val_main_v80, val_main_v79, val_main_v78, val_main_cst_13, val_main_cst_14]
  simp only [xhat_at, cotNorm_at, zero_add]
  rfl

theorem normBias_at (j : Fin 1024) : val_main_v128 (F := Ideal) x0 x1 x4 (ix2 (0 : Fin 1) j)
    = gradLb (mixOf x4) (rowsDy x0) (rowsU x1) j := by
  pointwise [val_main_v128, val_main_v77]
  rw [sum_one_row]
  pointwise [val_main_v76, val_main_v75, val_main_cst_11, val_main_cst_12]
  simp only [cotNorm_at, zero_add]
  rfl

/-! ## The gradient of the projected rows -/

theorem cErf_pos : cErf = ((9465531 / 8388608 : ℝ) : EReal) := by
  simp [Ideal.ofBits, Ideal.ieee, -EReal.coe_mul]; norm_num
/-- The reference multiplies by −2/√π and negates. -/
theorem cErf_neg : Ideal.ofBits .f32 0xBF906EBB#32 = -cErf := by
  rw [cErf_pos, ← EReal.coe_neg]
  simp [Ideal.ofBits, Ideal.ieee, -EReal.coe_mul, -EReal.coe_neg]; norm_num

theorem geluBwd_at (r : Fin 4096) (k : Fin 2048) : val_main_v121 (F := Ideal) x0 x1 x2 x3 x4 x5 (ix3 (0 : Fin 1) r k)
    = geluBwd (x1 (ix2 r ⟨k.val, by omega⟩)) (val_main_v110 (F := Ideal) x0 x1 x2 x3 x4 x5 (ix3 (0 : Fin 1) r k)) := by
  pointwise [val_main_v121, val_main_v120, val_main_v119, val_main_v118, val_main_v117, val_main_v116, val_main_v115, val_main_v114,
   val_main_v113, val_main_v112, val_main_v111, val_main_v7, val_main_v6, val_main_cst, val_main_v2, val_main_v1, val_main_v0, val_main_v14, val_main_v13, val_main_v12, val_main_v11, val_main_v10, val_main_v9, val_main_v8, val_main_cst_0, val_main_cst_22, val_main_cst_23, val_main_cst_24]
  simp only [geluBwd, cErf_neg, neg_mul, Ideal.erfc_neg, mul_neg, neg_neg]
theorem left_at (r : Fin 4096) (j : Fin 1024) : val_main_v110 (F := Ideal) x0 x1 x2 x3 x4 x5 (ix3 (0 : Fin 1) r ⟨j.val, by omega⟩)
    = rowsDy x0 r j * gate (lanesOf x2) (lanesOf x3) (mixOf x4) (biasOf x5) (chunk (rowsV x1) (chunkOf r)) (pos r) j := by
  pointwise [val_main_v110]
  exact cotU_at ..

theorem right_at (r : Fin 4096) (j : Fin 1024) : val_main_v110 (F := Ideal) x0 x1 x2 x3 x4 x5 (ix3 (0 : Fin 1) r ⟨1024 + j.val, by omega⟩)
    = normBwd (act (rowsV x1 r)) (cotHat x0 x1 x2 x4 r) j := by
  pointwise [val_main_v110]
  exact cotV_at ..

theorem dz_at (r : Fin 4096) (k : Fin 5376) : val_main_v126 (F := Ideal) x0 x1 x2 x3 x4 x5 x6 (ix2 r k)
    = if h : k.val < 1024 then gradU (lanesOf x2) (lanesOf x3) (mixOf x4) (biasOf x5) (rowsDy x0) (rowsU x1) (rowsV x1) r ⟨k.val, h⟩
      else if h : k.val < 2048 then gradV (lanesOf x2) (mixOf x4) (rowsDy x0) (rowsU x1) (rowsV x1) r ⟨k.val - 1024, by omega⟩
      else x6 (ix2 r k) := by
  pointwise [val_main_v126, val_main_v125, val_main_v124, val_main_v123, val_main_v122]
  have hu := chunk_self (rowsU x1) r
  have hv := chunk_self (rowsV x1) r
  have hy := chunk_self (rowsDy x0) r
  by_cases h1 : k.val < 1024
  · have h2 : k.val < 2048 := by omega
    rw [dif_pos h1, dif_pos h2, geluBwd_at]
    refine (congrArg (geluBwd _) (left_at x0 x1 x2 x3 x4 x5 r ⟨k.val, h1⟩)).trans ?_
    unfold gradU dzu
    rw [hu, hy]
    rfl
  · rw [dif_neg h1]
    by_cases h2 : k.val < 2048
    · rw [dif_pos h2, dif_pos h2, geluBwd_at]
      have e : (⟨k.val, h2⟩ : Fin 2048) = ⟨1024 + (k.val - 1024), by omega⟩ := Fin.ext (by show k.val = 1024 + (k.val - 1024); omega)
      rw [e]
      refine (congrArg (geluBwd _) (right_at x0 x1 x2 x3 x4 x5 r ⟨k.val - 1024, by omega⟩)).trans ?_
      unfold gradV dzv
      rw [hv]
      rfl
    · rw [dif_neg h2, dif_neg h2]
      exact congrArg (fun q => x6 (ix2 r q)) (Fin.ext (by show 2048 + (k.val - 2048) = k.val; omega))

end Cert.Sgu.Ref

end
-- ==== Proof.Sgu.Claim.lean ====
/-
  The claims about the gradient of the spatial gating unit.
-/
module

public import proofs.«01_k».proof.Defs
public import proofs.«01_k».proof.Proof.Sgu.Outputs
public import proofs.«01_k».proof.Proof.Sgu.Reference
public import proofs.«01_k».proof.Proof.Gen.SguBwd.Frame
public import Idealize.ShloMosaic.Lib.Claim
public import Idealize.ShloMosaic.Lib.Quiescent

@[expose] public section

noncomputable section

namespace Cert.Sgu.Ref

open Cert.SguRefIdeal Cert.SguRefIdeal.Gen Cert.SguRefIdeal.Read Idealize.ShloMosaic Idealize.ShloMosaic.TcCoe Idealize.SL.Sem

variable (x0 : FVec Ideal S4096x1024 .f32) (x1 x6 : FVec Ideal S4096x5376 .bf16) (x2 x3 : FVec Ideal S1x1024 .f32)
  (x4 : FVec Ideal S8x128x128 .f32) (x5 : FVec Ideal S128x8 .f32)

/-! ## The reference's results as whole arrays -/

/-- The gradient of the projected rows. -/
theorem dz_arr : val_main_v126 (F := Ideal) x0 x1 x2 x3 x4 x5 x6 = fun i : S4096x5376.Idx =>
    if h : (i 1).val < 1024 then gradU (lanesOf x2) (lanesOf x3) (mixOf x4) (biasOf x5) (rowsDy x0) (rowsU x1) (rowsV x1) (i 0) ⟨(i 1).val, h⟩
    else if h' : (i 1).val < 2048 then gradV (lanesOf x2) (mixOf x4) (rowsDy x0) (rowsU x1) (rowsV x1) (i 0) ⟨(i 1).val - 1024, by omega⟩
    else x6 i := by
  funext i
  obtain ⟨r, k, rfl⟩ : ∃ (r : Fin 4096) (k : Fin 5376), i = ix2 r k := ⟨i 0, i 1, (ix2_eta i).symm⟩
  exact dz_at x0 x1 x6 x2 x3 x4 x5 r k

/-- The gradient of the norm's weight. -/
theorem normWeight_arr : val_main_v127 (F := Ideal) x0 x1 x4
    = fun i : S1x1024.Idx => gradLw (mixOf x4) (rowsDy x0) (rowsU x1) (rowsV x1) (i 1) := by
  funext i
  obtain ⟨r, k, rfl⟩ : ∃ (r : Fin 1) (k : Fin 1024), i = ix2 r k := ⟨i 0, i 1, (ix2_eta i).symm⟩
  obtain rfl : r = 0 := Subsingleton.elim _ _
  exact normWeight_at x0 x1 x4 k

/-- The gradient of the norm's bias. -/
theorem normBias_arr : val_main_v128 (F := Ideal) x0 x1 x4
    = fun i : S1x1024.Idx => gradLb (mixOf x4) (rowsDy x0) (rowsU x1) (i 1) := by
  funext i
  obtain ⟨r, k, rfl⟩ : ∃ (r : Fin 1) (k : Fin 1024), i = ix2 r k := ⟨i 0, i 1, (ix2_eta i).symm⟩
  obtain rfl : r = 0 := Subsingleton.elim _ _
  exact normBias_at x0 x1 x4 k

/-- The gradient of the mixing weights. -/
theorem weights_arr : val_main_v73 (F := Ideal) x0 x1 x2 x3
    = fun i : S8x128x128.Idx => gradW (lanesOf x2) (lanesOf x3) (rowsDy x0) (rowsU x1) (rowsV x1) (i 0) (i 1) (i 2) := by
  funext i
  obtain ⟨g, t, s, rfl⟩ : ∃ (g : Fin 8) (t s : Fin 128), i = ix3 g t s := ⟨i 0, i 1, i 2, (ix3_eta i).symm⟩
  exact weights_at x0 x1 x2 x3 g t s

/-- The gradient of the positions' bias. -/
theorem bias_arr : val_main_v129 (F := Ideal) x0 x1
    = fun i : S128x8.Idx => gradB (rowsDy x0) (rowsU x1) (i 0) (i 1) := by
  funext i
  obtain ⟨t, g, rfl⟩ : ∃ (t : Fin 128) (g : Fin 8), i = ix2 t g := ⟨i 0, i 1, (ix2_eta i).symm⟩
  exact bias_at x0 x1 t g

end Cert.Sgu.Ref

namespace Cert.Sgu

open Idealize.ShloMosaic Idealize.SL.Sem

/-- The kernel's frame, in machine values and in ideal ones, and the reference's. -/
theorem frame : Cert.quiescent_SguBwd := fun m ρ _ => Cert.SguBwd.Gen.frame m ρ
theorem frame_ideal : Cert.quiescent_SguBwdIdeal := fun m ρ _ => Cert.SguBwdIdeal.Gen.frame m ρ
theorem frame_ref : Cert.quiescent_SguRefIdeal := fun m ρ _ =>
  (θ_run Cert.SguRefIdeal.defs _ _).mono (fun r h => ⟨fun c => (h c).2.2.2.2.2, sem_eq_zero_of_no_sems (by decide) r.2⟩)
    (Cert.SguRefIdeal.Value.run (F := Ideal) m ρ)

/-- From equal arguments the kernel and the reference end with equal results. -/
theorem algebraic : Cert.algebraic_SguBwdIdeal_SguRefIdeal := by
  intro m g m' g' _ hagree
  refine ⟨_, _, _, _, _, Cert.SguBwdIdeal.Value.run_blocks m g,
    (θ_run Cert.SguRefIdeal.defs _ _).mono (fun r h c => ?_) (Cert.SguRefIdeal.Value.run (F := Ideal) m' g')⟩
  have hc := h c
  obtain ⟨a0, a1, a2, a3, a4, a5, a6⟩ := hagree c
  refine ⟨(hc.1.trans (Cert.SguRefIdeal.Read.val_main_v126_eq m' c)).trans ?_,
    (hc.2.1.trans (Cert.SguRefIdeal.Read.val_main_v127_eq m' c)).trans ?_,
    (hc.2.2.1.trans (Cert.SguRefIdeal.Read.val_main_v128_eq _ _ _)).trans ?_,
    (hc.2.2.2.1.trans (Cert.SguRefIdeal.Read.val_main_v73_eq m' c)).trans ?_,
    (hc.2.2.2.2.1.trans (Cert.SguRefIdeal.Read.val_main_v129_eq _ _)).trans ?_, hc.2.2.2.2.2⟩
  · rw [a0, a1, a2, a3, a4, a5, a6]
    exact (Ref.dz_arr ..).trans (Kernel.dz_final m c).symm
  · rw [a0, a1, a4]
    exact (Ref.normWeight_arr ..).trans (Kernel.lw_final m c).symm
  · rw [a0, a1, a4]
    exact (Ref.normBias_arr ..).trans (Kernel.lb_final m c).symm
  · rw [a0, a1, a2, a3]
    exact (Ref.weights_arr ..).trans (Kernel.w_final m c).symm
  · rw [a0, a1]
    exact (Ref.bias_arr ..).trans (Kernel.b_final m c).symm

end Cert.Sgu

end
-- ==== Proof.Products.FfnDw.lean ====
/-
  A projection of the feed-forward layer: the gradient of its weight, in two steps over the rows.
-/
module

public import proofs.«01_k».proof.Defs
public import proofs.«01_k».proof.Proof.Gen.FfnDw.Frame
public import proofs.«01_k».proof.Proof.Gen.FfnDwIdeal.Value
public import proofs.«01_k».proof.Proof.Gen.DownDwRefIdeal.Run
public import proofs.«01_k».proof.Proof.Gen.DownDwRefIdeal.Read
public import proofs.«01_k».proof.Proof.Gen.UpDwRefIdeal.Run
public import proofs.«01_k».proof.Proof.Gen.UpDwRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.Products.FfnDw

open Idealize.ShloMosaic Idealize.ShloMosaic.TcCoe Idealize.SL.Sem

section Kernel

open Cert.FfnDwIdeal Cert.FfnDwIdeal.Gen

/-- The product over one half of the rows, added to what the tile held. -/
theorem product (acc : FVec Ideal S1408x1024 .f32) (x : FVec Ideal S2048x1408 .bf16) (d : FVec Ideal S2048x1024 .bf16) (y : S1408x1024.Idx) :
    (k0_pay2 (F := Ideal) acc x d : FVec Ideal S1408x1024 .f32) y =
      acc y + ∑ k : Fin 2048, x (ix2 k (y 0)) * d (ix2 k (y 1)) := by
  unfold k0_pay2
  pointwise

/-- The accumulator starts at zero. -/
theorem start (y : S1408x1024.Idx) : (k0_pay1 (F := Ideal) : FVec Ideal S1408x1024 .f32) y = 0 := by
  unfold k0_pay1
  pointwise

variable (m : (ℓ : Loc nD τ sig) → Buf (Elt Ideal) ℓ) (c : Dev nD)

/-- The rows the weight was multiplied by (or the incoming gradient). -/
def left : FVec Ideal S4096x2816 .bf16 := m ((c : Thread nD τ).loc main_arg0)

/-- The incoming gradient (or those rows). -/
def right : FVec Ideal S4096x1024 .bf16 := m ((c : Thread nD τ).loc main_arg1)

/-- Which tile of each argument and of the result a grid point takes. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first of a tile's two points leaves the product over the first half of the rows in the accumulator. -/
theorem first (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  frame_open
  simp (disch := decide) only [↓ View.readCov_skip, ↓ View.readCov_cons_toLoadRect, ↓ View.readCov_fill]
  frame_out

/-- The second adds the other half and writes the tile. -/
theorem second (t : Fin cfg0.N) (h : t.val % 2 = 1) (hp : t.val - 1 < cfg0.N) :
    (outsAt0 m c t.val t.isLt).1 = k0_pay3 (F := Ideal) (k0_pay2 (F := Ideal) (outsAt0 m c (t.val - 1) hp).2 (iblk m c 0 t) (iblk m c 1 t)) := by
  rw [outsAt0_B m c t (by omega) h]
  frame_open
  simp (disch := decide) only [↓ View.readCov_skip, ↓ View.readCov_cons_toLoadRect, ↓ View.readCov_fill]
  frame_out
  rw [read_unread_whole]

/-- The sum over the rows, split in its two halves. -/
theorem halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- The result: the product over all the rows. -/
theorem final : (dats m 0 c).arrAt 2 cfg0.N =
    ((fun i => ∑ k : Fin 4096, left m c (ix2 k (i 0)) * right m c (ix2 k (i 1))) : FVec Ideal S2816x1024 .bf16) := by
  refine (dats m 0 c).arrAt_eq_of_covers 2 _ (by decide +kernel) fun t hf y => ?_
  have h : t.val % 2 = 1 := (flush0_2 t).mp hf
  have hp : t.val - 1 < cfg0.N := lt_of_le_of_lt (Nat.sub_le _ _) t.isLt
  have i1 := idx t
  have i0 := idx ⟨t.val - 1, hp⟩
  have e0 : (t.val - 1) % 2 = 0 := by omega
  have e1 : (t.val - 1) / 2 = t.val / 2 := by omega
  simp only [e0, e1] at i0
  simp only [h] at i1
  blk_simp
  rw [after0_2, second m c t h hp, first m c ⟨t.val - 1, hp⟩ e0, halves]
  refine (product _ _ _ y).trans (congrArg₂ (· + ·) (((product _ _ _ y).trans (congrArg (· + _) (start y))).trans (zero_add _) |>.trans
    (Finset.sum_congr rfl fun k _ => ?_)) (Finset.sum_congr rfl fun k _ => ?_))
  · congr 1
    · unfold left; blk_ext [iblk, V, i0, i1]
    · unfold right; blk_ext [iblk, V, i0, i1]
  · congr 1
    · unfold left; blk_ext [iblk, V, i0, i1]
    · unfold right; blk_ext [iblk, V, i0, i1]

end Kernel

/-- The down projection's reference states the same sum. -/
theorem reference_down (x : FVec Ideal Cert.DownDwRefIdeal.S4096x2816 .bf16) (d : FVec Ideal Cert.DownDwRefIdeal.S4096x1024 .bf16) :
    Cert.DownDwRefIdeal.Read.val_main_v6 (F := Ideal) x d = fun i => ∑ k : Fin 4096, x (ix2 k (i 0)) * d (ix2 k (i 1)) := by
  funext i
  refine Eq.trans ?_ (Finset.sum_congr rfl fun k _ => mul_comm _ _)
  pointwise [Cert.DownDwRefIdeal.Read.val_main_v6, Cert.DownDwRefIdeal.Read.val_main_v5, Cert.DownDwRefIdeal.Read.val_main_v4, Cert.DownDwRefIdeal.Read.val_main_v3, Cert.DownDwRefIdeal.Read.val_main_v1]

/-- So does the gate's and the up projection's. -/
theorem reference_up (x : FVec Ideal Cert.UpDwRefIdeal.S4096x2816 .bf16) (d : FVec Ideal Cert.UpDwRefIdeal.S4096x1024 .bf16) :
    Cert.UpDwRefIdeal.Read.val_main_v7 (F := Ideal) x d = fun i => ∑ k : Fin 4096, x (ix2 k (i 0)) * d (ix2 k (i 1)) := by
  funext i
  pointwise [Cert.UpDwRefIdeal.Read.val_main_v7, Cert.UpDwRefIdeal.Read.val_main_v6, Cert.UpDwRefIdeal.Read.val_main_v5, Cert.UpDwRefIdeal.Read.val_main_v4, Cert.UpDwRefIdeal.Read.val_main_v3, Cert.UpDwRefIdeal.Read.val_main_v1]

/-- The call as printed runs, leaves its arguments alone and no signal pending. -/
theorem frame : Cert.quiescent_FfnDw := fun m ρ _ => Cert.FfnDw.Gen.frame m ρ

/-- So does the idealized call. -/
theorem frame_ideal : Cert.quiescent_FfnDwIdeal := fun m ρ _ => Cert.FfnDwIdeal.Gen.frame m ρ

/-- So does the reference. -/
theorem frame_ref_down : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- On equal arguments the call and the reference end with equal results. -/
theorem algebraic_down : Cert.algebraic_FfnDwIdeal_DownDwRefIdeal := by
  intro m g m' g' _ hagree
  refine ⟨_, Cert.FfnDwIdeal.Value.run_blocks m g,
    (θ_run Cert.DownDwRefIdeal.defs _ _).mono (fun r h c => ⟨((h c).1.trans (Cert.DownDwRefIdeal.Read.val_main_v6_eq _ _)).trans ?_, (h c).2⟩)
      (Cert.DownDwRefIdeal.Value.run (F := Ideal) m' g')⟩
  rw [(hagree c).1, (hagree c).2]
  exact (reference_down ..).trans (final m c).symm

/-- So does the reference. -/
theorem frame_ref_up : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- On equal arguments the call and the reference end with equal results. -/
theorem algebraic_up : Cert.algebraic_FfnDwIdeal_UpDwRefIdeal := by
  intro m g m' g' _ hagree
  refine ⟨_, Cert.FfnDwIdeal.Value.run_blocks m g,
    (θ_run Cert.UpDwRefIdeal.defs _ _).mono (fun r h c => ⟨((h c).1.trans (Cert.UpDwRefIdeal.Read.val_main_v7_eq _ _)).trans ?_, (h c).2⟩)
      (Cert.UpDwRefIdeal.Value.run (F := Ideal) m' g')⟩
  rw [(hagree c).1, (hagree c).2]
  exact (reference_up ..).trans (final m c).symm

end Cert.Products.FfnDw

end
-- ==== Proof.Products.MixDw.lean ====
/-
  A branch's projection, or the merged output's: the gradient of its weight.
-/
module

public import proofs.«01_k».proof.Defs
public import proofs.«01_k».proof.Proof.Gen.MixDw.Frame
public import proofs.«01_k».proof.Proof.Gen.MixDwIdeal.Value
public import proofs.«01_k».proof.Proof.Gen.MixDwRefIdeal.Run
public import proofs.«01_k».proof.Proof.Gen.MixDwRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.Products.MixDw

open Idealize.ShloMosaic Idealize.ShloMosaic.TcCoe Idealize.SL.Sem

section Kernel

open Cert.MixDwIdeal Cert.MixDwIdeal.Gen

/-- One product of a tile, over all the rows. -/
theorem product (x : FVec Ideal S4096x1024 .bf16) (d : FVec Ideal S4096x1024 .bf16) (y : S1024x1024.Idx) :
    (k0_pay3 (F := Ideal) (k0_pay2 (F := Ideal) (k0_pay1 (F := Ideal)) x d) : FVec Ideal S1024x1024 .bf16) y = ∑ k : Fin 4096, x (ix2 k (y 0)) * d (ix2 k (y 1)) := by
  unfold k0_pay3 k0_pay2 k0_pay1
  pointwise

variable (m : (ℓ : Loc nD τ sig) → Buf (Elt Ideal) ℓ) (c : Dev nD)

/-- The rows the projection multiplied. -/
def left : FVec Ideal S4096x1024 .bf16 := m ((c : Thread nD τ).loc main_arg0)

/-- The incoming gradient. -/
def right : FVec Ideal S4096x1024 .bf16 := m ((c : Thread nD τ).loc main_arg1)

/-- Which tile of each argument and of the result a grid point takes. -/
theorem idx : ∀ t : Fin cfg0.N, win0_0.index t = ![0, 0] ∧ win0_1.index t = ![0, 0] ∧ win0_2.index t = ![0, 0] :=
  (by decide +kernel : ∀ t : Fin grid0.N, _)

/-- What a grid point leaves in its tile of the result. -/
theorem block (t : Fin cfg0.N) : outsAt0 m c t = k0_pay3 (F := Ideal) (k0_pay2 (F := Ideal) (k0_pay1 (F := Ideal)) (iblk m c 0 t) (iblk m c 1 t)) := by
  unfold outsAt0
  frame_open
  simp (disch := decide) only [↓ View.readCov_skip, ↓ View.readCov_cons_toLoadRect, ↓ View.readCov_fill]
  frame_out

/-- The result: the product over all the rows. -/
theorem final : (dats m 0 c).arrAt 2 cfg0.N =
    ((fun i => ∑ k : Fin 4096, left m c (ix2 k (i 0)) * right m c (ix2 k (i 1))) : FVec Ideal S1024x1024 .bf16) := by
  refine (dats m 0 c).arrAt_eq_of_covers 2 _ (by decide +kernel) fun t hf y => ?_
  blk_simp
  rw [after0_2, block]
  refine (product _ _ y).trans (Finset.sum_congr rfl fun k _ => ?_)
  congr 1
  · unfold left; blk_ext [iblk, V, idx t]
  · unfold right; blk_ext [iblk, V, idx t]

end Kernel

/-- The reference states the same sum. -/
theorem reference (x : FVec Ideal Cert.MixDwRefIdeal.S4096x1024 .bf16) (d : FVec Ideal Cert.MixDwRefIdeal.S4096x1024 .bf16) :
    Cert.MixDwRefIdeal.Read.val_main_v6 (F := Ideal) x d = fun i => ∑ k : Fin 4096, x (ix2 k (i 0)) * d (ix2 k (i 1)) := by
  funext i
  refine Eq.trans ?_ (Finset.sum_congr rfl fun k _ => mul_comm _ _)
  pointwise [Cert.MixDwRefIdeal.Read.val_main_v6, Cert.MixDwRefIdeal.Read.val_main_v5, Cert.MixDwRefIdeal.Read.val_main_v4, Cert.MixDwRefIdeal.Read.val_main_v3, Cert.MixDwRefIdeal.Read.val_main_v1]

/-- The call as printed runs, leaves its arguments alone and no signal pending. -/
theorem frame : Cert.quiescent_MixDw := fun m ρ _ => Cert.MixDw.Gen.frame m ρ

/-- So does the idealized call. -/
theorem frame_ideal : Cert.quiescent_MixDwIdeal := fun m ρ _ => Cert.MixDwIdeal.Gen.frame m ρ

/-- So does the reference. -/
theorem frame_ref : Cert.quiescent_MixDwRefIdeal := fun m ρ _ =>
  (θ_run Cert.MixDwRefIdeal.defs _ _).mono (fun r h => ⟨fun c => (h c).2, sem_eq_zero_of_no_sems (by decide) r.2⟩)
    (Cert.MixDwRefIdeal.Value.run (F := Ideal) m ρ)

/-- On equal arguments the call and the reference end with equal results. -/
theorem algebraic : Cert.algebraic_MixDwIdeal_MixDwRefIdeal := by
  intro m g m' g' _ hagree
  refine ⟨_, Cert.MixDwIdeal.Value.run_blocks m g,
    (θ_run Cert.MixDwRefIdeal.defs _ _).mono (fun r h c => ⟨((h c).1.trans (Cert.MixDwRefIdeal.Read.val_main_v6_eq _ _)).trans ?_, (h c).2⟩)
      (Cert.MixDwRefIdeal.Value.run (F := Ideal) m' g')⟩
  rw [(hagree c).1, (hagree c).2]
  exact (reference ..).trans (final m c).symm

end Cert.Products.MixDw

end
-- ==== Proof.Products.InDw.lean ====
/-
  The combined input projection: the gradient of its weight.
-/
module

public import proofs.«01_k».proof.Defs
public import proofs.«01_k».proof.Proof.Gen.InDw.Frame
public import proofs.«01_k».proof.Proof.Gen.InDwIdeal.Value
public import proofs.«01_k».proof.Proof.Gen.InDwRefIdeal.Run
public import proofs.«01_k».proof.Proof.Gen.InDwRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.Products.InDw

open Idealize.ShloMosaic Idealize.ShloMosaic.TcCoe Idealize.SL.Sem

section Kernel

open Cert.InDwIdeal Cert.InDwIdeal.Gen

/-- One product of a tile, over all the rows. -/
theorem product (x : FVec Ideal S4096x896 .bf16) (d : FVec Ideal S4096x1024 .bf16) (y : S896x1024.Idx) :
    (k0_pay3 (F := Ideal) (k0_pay2 (F := Ideal) (k0_pay1 (F := Ideal)) x d) : FVec Ideal S896x1024 .bf16) y = ∑ k : Fin 4096, x (ix2 k (y 0)) * d (ix2 k (y 1)) := by
  unfold k0_pay3 k0_pay2 k0_pay1
  pointwise

variable (m : (ℓ : Loc nD τ sig) → Buf (Elt Ideal) ℓ) (c : Dev nD)

/-- The incoming gradient. -/
def left : FVec Ideal S4096x5376 .bf16 := m ((c : Thread nD τ).loc main_arg0)

/-- The rows the projection multiplied. -/
def right : FVec Ideal S4096x1024 .bf16 := m ((c : Thread nD τ).loc main_arg1)

/-- Which tile of each argument and of the result a grid point takes. -/
theorem idx : ∀ t : Fin cfg0.N, win0_0.index t = ![0, t.val] ∧ win0_1.index t = ![0, 0] ∧ win0_2.index t = ![t.val, 0] :=
  (by decide +kernel : ∀ t : Fin grid0.N, _)

/-- What a grid point leaves in its tile of the result. -/
theorem block (t : Fin cfg0.N) : outsAt0 m c t = k0_pay3 (F := Ideal) (k0_pay2 (F := Ideal) (k0_pay1 (F := Ideal)) (iblk m c 0 t) (iblk m c 1 t)) := by
  unfold outsAt0
  frame_open
  simp (disch := decide) only [↓ View.readCov_skip, ↓ View.readCov_cons_toLoadRect, ↓ View.readCov_fill]
  frame_out

/-- The result: the product over all the rows. -/
theorem final : (dats m 0 c).arrAt 2 cfg0.N =
    ((fun i => ∑ k : Fin 4096, left m c (ix2 k (i 0)) * right m c (ix2 k (i 1))) : FVec Ideal S5376x1024 .bf16) := by
  refine (dats m 0 c).arrAt_eq_of_covers 2 _ (by decide +kernel) fun t hf y => ?_
  blk_simp
  rw [after0_2, block]
  refine (product _ _ y).trans (Finset.sum_congr rfl fun k _ => ?_)
  congr 1
  · unfold left; blk_ext [iblk, V, idx t]
  · unfold right; blk_ext [iblk, V, idx t]

end Kernel

/-- The reference states the same sum. -/
theorem reference (x : FVec Ideal Cert.InDwRefIdeal.S4096x5376 .bf16) (d : FVec Ideal Cert.InDwRefIdeal.S4096x1024 .bf16) :
    Cert.InDwRefIdeal.Read.val_main_v7 (F := Ideal) x d = fun i => ∑ k : Fin 4096, x (ix2 k (i 0)) * d (ix2 k (i 1)) := by
  funext i
  pointwise [Cert.InDwRefIdeal.Read.val_main_v7, Cert.InDwRefIdeal.Read.val_main_v6, Cert.InDwRefIdeal.Read.val_main_v5, Cert.InDwRefIdeal.Read.val_main_v4, Cert.InDwRefIdeal.Read.val_main_v3, Cert.InDwRefIdeal.Read.val_main_v1]

/-- The call as printed runs, leaves its arguments alone and no signal pending. -/
theorem frame : Cert.quiescent_InDw := fun m ρ _ => Cert.InDw.Gen.frame m ρ

/-- So does the idealized call. -/
theorem frame_ideal : Cert.quiescent_InDwIdeal := fun m ρ _ => Cert.InDwIdeal.Gen.frame m ρ

/-- So does the reference. -/
theorem frame_ref : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- On equal arguments the call and the reference end with equal results. -/
theorem algebraic : Cert.algebraic_InDwIdeal_InDwRefIdeal := by
  intro m g m' g' _ hagree
  refine ⟨_, Cert.InDwIdeal.Value.run_blocks m g,
    (θ_run Cert.InDwRefIdeal.defs _ _).mono (fun r h c => ⟨((h c).1.trans (Cert.InDwRefIdeal.Read.val_main_v7_eq _ _)).trans ?_, (h c).2⟩)
      (Cert.InDwRefIdeal.Value.run (F := Ideal) m' g')⟩
  rw [(hagree c).1, (hagree c).2]
  exact (reference ..).trans (final m c).symm

end Cert.Products.InDw

end
-- ==== Proof.Products.InDx.lean ====
/-
  The combined input projection: the gradient of its rows.
-/
module

public import proofs.«01_k».proof.Defs
public import proofs.«01_k».proof.Proof.Gen.InDx.Frame
public import proofs.«01_k».proof.Proof.Gen.InDxIdeal.Value
public import proofs.«01_k».proof.Proof.Gen.InDxRefIdeal.Run
public import proofs.«01_k».proof.Proof.Gen.InDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.InDx

open Idealize.ShloMosaic Idealize.ShloMosaic.TcCoe Idealize.SL.Sem

section Kernel

open Cert.InDxIdeal Cert.InDxIdeal.Gen

/-- What a point writes: the product of its rows and its columns. -/
theorem block (x : FVec Ideal S512x5376 .bf16) (w : FVec Ideal S5376x1024 .bf16) (y : S512x1024.Idx) :
    (out0_2 (F := Ideal) x w : FVec Ideal S512x1024 .f32) y = ∑ k : Fin 5376, x (ix2 (y 0) k) * w (ix2 k (y 1)) := by
  frame_out
  unfold k0_pay1
  pointwise

variable (m : (ℓ : Loc nD τ sig) → Buf (Elt Ideal) ℓ) (c : Dev nD)

/-- The arguments as arrays. -/
def rows : FVec Ideal S4096x5376 .bf16 := m ((c : Thread nD τ).loc main_arg0)
def wt : FVec Ideal S5376x1024 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The array after the run. -/
theorem final : (dats m 0 c).arrAt 2 cfg0.N = ((fun i => ∑ k : Fin 5376, rows m c (ix2 (i 0) k) * wt m c (ix2 k (i 1))) : FVec Ideal S4096x1024 .f32) := by
  refine (dats m 0 c).arrAt_eq_of_covers 2 _ (by decide +kernel) fun t hf y => ?_
  blk_simp
  rw [after0_2]
  refine (block _ _ y).trans (Finset.sum_congr rfl fun k _ => ?_)
  congr 1
  · unfold rows; blk_ext [iblk, V, idx t]
  · unfold wt; blk_ext [iblk, V, idx t]

end Kernel

/-- The derivative of `h ↦ h @ w`, read at an entry. -/
theorem reference (x : FVec Ideal Cert.InDxRefIdeal.S4096x5376 .bf16) (w : FVec Ideal Cert.InDxRefIdeal.S5376x1024 .bf16) :
    Cert.InDxRefIdeal.Read.val_main_v5 (F := Ideal) x w
      = fun i => ∑ k : Fin 5376, x (ix2 (i 0) k) * w (ix2 k (i 1)) := by
  funext i
  pointwise [Cert.InDxRefIdeal.Read.val_main_v5, Cert.InDxRefIdeal.Read.val_main_v4, Cert.InDxRefIdeal.Read.val_main_v3,
    Cert.InDxRefIdeal.Read.val_main_v2, Cert.InDxRefIdeal.Read.val_main_v1]

theorem frame : Cert.quiescent_InDx := fun m ρ _ => Cert.InDx.Gen.frame m ρ
theorem frame_ideal : Cert.quiescent_InDxIdeal := fun m ρ _ => Cert.InDxIdeal.Gen.frame m ρ
theorem frame_ref : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem algebraic : Cert.algebraic_InDxIdeal_InDxRefIdeal := by
  intro m g m' g' _ hagree
  refine ⟨_, Cert.InDxIdeal.Value.run_blocks m g,
    (θ_run Cert.InDxRefIdeal.defs _ _).mono (fun r h c => ⟨((h c).1.trans (Cert.InDxRefIdeal.Read.val_main_v5_eq _ _)).trans ?_, (h c).2⟩)
      (Cert.InDxRefIdeal.Value.run (F := Ideal) m' g')⟩
  rw [(hagree c).1, (hagree c).2]
  exact (reference ..).trans (final m c).symm

end Cert.Products.InDx

end
-- ==== Proof.Products.FfnDx.lean ====
/-
  The gate and the up projection together: the gradient of their common rows.
-/
module

public import proofs.«01_k».proof.Defs
public import proofs.«01_k».proof.Proof.Gen.FfnDx.Frame
public import proofs.«01_k».proof.Proof.Gen.FfnDxIdeal.Value
public import proofs.«01_k».proof.Proof.Gen.FfnDxRefIdeal.Run
public import proofs.«01_k».proof.Proof.Gen.FfnDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.FfnDx

open Idealize.ShloMosaic Idealize.ShloMosaic.TcCoe Idealize.SL.Sem

section Kernel

open Cert.FfnDxIdeal Cert.FfnDxIdeal.Gen

/-- A tile of the result: the two products, summed. -/
theorem block (a b : FVec Ideal S512x2816 .bf16) (v w : FVec Ideal S2816x1024 .bf16) (y : S512x1024.Idx) :
    (out0_4 (F := Ideal) a b v w : FVec Ideal S512x1024 .f32) y = (∑ k : Fin 2816, a (ix2 (y 0) k) * v (ix2 k (y 1))) + ∑ k : Fin 2816, b (ix2 (y 0) k) * w (ix2 k (y 1)) := by
  frame_out
  unfold k0_pay1
  pointwise

variable (m : (ℓ : Loc nD τ sig) → Buf (Elt Ideal) ℓ) (c : Dev nD)

/-- The gate's incoming gradient. -/
def gateRows : FVec Ideal S4096x2816 .bf16 := m ((c : Thread nD τ).loc main_arg0)

/-- The up projection's incoming gradient. -/
def upRows : FVec Ideal S4096x2816 .bf16 := m ((c : Thread nD τ).loc main_arg1)

/-- The gate's weight, transposed. -/
def gateWt : FVec Ideal S2816x1024 .bf16 := m ((c : Thread nD τ).loc main_arg2)

/-- The up projection's weight, transposed. -/
def upWt : FVec Ideal S2816x1024 .bf16 := m ((c : Thread nD τ).loc main_arg3)

/-- Which tile of each argument and of the result a grid point takes. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- The result: the two products, summed. -/
theorem final : (dats m 0 c).arrAt 4 cfg0.N =
    ((fun i => (∑ k : Fin 2816, gateRows m c (ix2 (i 0) k) * gateWt m c (ix2 k (i 1))) + ∑ k : Fin 2816, upRows m c (ix2 (i 0) k) * upWt m c (ix2 k (i 1))) : FVec Ideal S4096x1024 .f32) := by
  refine (dats m 0 c).arrAt_eq_of_covers 4 _ (by decide +kernel) fun t hf y => ?_
  blk_simp
  rw [after0_4]
  refine (block _ _ _ _ y).trans (congrArg₂ (· + ·) (Finset.sum_congr rfl fun k _ => ?_) (Finset.sum_congr rfl fun k _ => ?_))
  · congr 1
    · unfold gateRows; blk_ext [iblk, V, idx t]
    · unfold gateWt; blk_ext [iblk, V, idx t]
  · congr 1
    · unfold upRows; blk_ext [iblk, V, idx t]
    · unfold upWt; blk_ext [iblk, V, idx t]

end Kernel

/-- The reference sums the same two products, the up projection's first. -/
theorem reference (a b : FVec Ideal Cert.FfnDxRefIdeal.S4096x2816 .bf16) (v w : FVec Ideal Cert.FfnDxRefIdeal.S2816x1024 .bf16) :
    Cert.FfnDxRefIdeal.Read.val_main_v11 (F := Ideal) a b v w = fun i => (∑ k : Fin 2816, a (ix2 (i 0) k) * v (ix2 k (i 1))) + ∑ k : Fin 2816, b (ix2 (i 0) k) * w (ix2 k (i 1)) := by
  funext i
  rw [add_comm]
  pointwise [Cert.FfnDxRefIdeal.Read.val_main_v11, Cert.FfnDxRefIdeal.Read.val_main_v10, Cert.FfnDxRefIdeal.Read.val_main_v9, Cert.FfnDxRefIdeal.Read.val_main_v8, Cert.FfnDxRefIdeal.Read.val_main_v7, Cert.FfnDxRefIdeal.Read.val_main_v5, Cert.FfnDxRefIdeal.Read.val_main_v4, Cert.FfnDxRefIdeal.Read.val_main_v2, Cert.FfnDxRefIdeal.Read.val_main_v1]

/-- The call as printed runs, leaves its arguments alone and no signal pending. -/
theorem frame : Cert.quiescent_FfnDx := fun m ρ _ => Cert.FfnDx.Gen.frame m ρ

/-- So does the idealized call. -/
theorem frame_ideal : Cert.quiescent_FfnDxIdeal := fun m ρ _ => Cert.FfnDxIdeal.Gen.frame m ρ

/-- So does the reference. -/
theorem frame_ref : Cert.quiescent_FfnDxRefIdeal := fun m ρ _ =>
  (θ_run Cert.FfnDxRefIdeal.defs _ _).mono (fun r h => ⟨fun c => (h c).2, sem_eq_zero_of_no_sems (by decide) r.2⟩)
    (Cert.FfnDxRefIdeal.Value.run (F := Ideal) m ρ)

/-- On equal arguments the call and the reference end with equal results. -/
theorem algebraic : Cert.algebraic_FfnDxIdeal_FfnDxRefIdeal := by
  intro m g m' g' _ hagree
  refine ⟨_, Cert.FfnDxIdeal.Value.run_blocks m g,
    (θ_run Cert.FfnDxRefIdeal.defs _ _).mono (fun r h c => ⟨((h c).1.trans (Cert.FfnDxRefIdeal.Read.val_main_v11_eq _ _ _ _)).trans ?_, (h c).2⟩)
      (Cert.FfnDxRefIdeal.Value.run (F := Ideal) m' g')⟩
  rw [(hagree c).1, (hagree c).2.1, (hagree c).2.2.1, (hagree c).2.2.2]
  exact (reference ..).trans (final m c).symm

end Cert.Products.FfnDx

end
-- ==== Proof.Products.DownDx.lean ====
/-
  The down projection: the gradient of its rows.
-/
module

public import proofs.«01_k».proof.Defs
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.DownDx

open Idealize.ShloMosaic Idealize.ShloMosaic.TcCoe Idealize.SL.Sem

section Kernel

open Cert.DownDxIdeal Cert.DownDxIdeal.Gen

/-- A tile of the result: rows of the incoming gradient against rows of the weight. -/
theorem block (x : FVec Ideal S1024x1024 .bf16) (w : FVec Ideal S1408x1024 .bf16) (y : S1024x1408.Idx) :
    (out0_2 (F := Ideal) x w : FVec Ideal S1024x1408 .bf16) y = ∑ k : Fin 1024, x (ix2 (y 0) k) * w (ix2 (y 1) k) := by
  frame_out
  unfold k0_pay1
  pointwise

variable (m : (ℓ : Loc nD τ sig) → Buf (Elt Ideal) ℓ) (c : Dev nD)

/-- The incoming gradient. -/
def rows : FVec Ideal S4096x1024 .bf16 := m ((c : Thread nD τ).loc main_arg0)

/-- The weight. -/
def weight : FVec Ideal S2816x1024 .bf16 := m ((c : Thread nD τ).loc main_arg1)

/-- Which tile of each argument and of the result a grid point takes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result: the incoming gradient times the transposed weight. -/
theorem final : (dats m 0 c).arrAt 2 cfg0.N =
    ((fun i => ∑ k : Fin 1024, rows m c (ix2 (i 0) k) * weight m c (ix2 (i 1) k)) : FVec Ideal S4096x2816 .bf16) := by
  refine (dats m 0 c).arrAt_eq_of_covers 2 _ (by decide +kernel) fun t hf y => ?_
  blk_simp
  rw [after0_2]
  refine (block _ _ y).trans (Finset.sum_congr rfl fun k _ => ?_)
  congr 1
  · unfold rows; blk_ext [iblk, V, idx t]
  · unfold weight; blk_ext [iblk, V, idx t]

end Kernel

/-- The reference states the same sum. -/
theorem reference (x : FVec Ideal Cert.DownDxRefIdeal.S4096x1024 .bf16) (w : FVec Ideal Cert.DownDxRefIdeal.S2816x1024 .bf16) :
    Cert.DownDxRefIdeal.Read.val_main_v5 (F := Ideal) x w = fun i => ∑ k : Fin 1024, x (ix2 (i 0) k) * w (ix2 (i 1) k) := by
  funext i
  pointwise [Cert.DownDxRefIdeal.Read.val_main_v5, Cert.DownDxRefIdeal.Read.val_main_v4, Cert.DownDxRefIdeal.Read.val_main_v3, Cert.DownDxRefIdeal.Read.val_main_v1]

/-- The call as printed runs, leaves its arguments alone and no signal pending. -/
theorem frame : Cert.quiescent_DownDx := fun m ρ _ => Cert.DownDx.Gen.frame m ρ

/-- So does the idealized call. -/
theorem frame_ideal : Cert.quiescent_DownDxIdeal := fun m ρ _ => Cert.DownDxIdeal.Gen.frame m ρ

/-- So does the reference. -/
theorem frame_ref : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- On equal arguments the call and the reference end with equal results. -/
theorem algebraic : Cert.algebraic_DownDxIdeal_DownDxRefIdeal := by
  intro m g m' g' _ hagree
  refine ⟨_, Cert.DownDxIdeal.Value.run_blocks m g,
    (θ_run Cert.DownDxRefIdeal.defs _ _).mono (fun r h c => ⟨((h c).1.trans (Cert.DownDxRefIdeal.Read.val_main_v5_eq _ _)).trans ?_, (h c).2⟩)
      (Cert.DownDxRefIdeal.Value.run (F := Ideal) m' g')⟩
  rw [(hagree c).1, (hagree c).2]
  exact (reference ..).trans (final m c).symm

end Cert.Products.DownDx

end
-- ==== Proof.Products.GatingDx.lean ====
/-
  The projection of the spatial gating unit: the gradient of its rows.
-/
module

public import proofs.«01_k».proof.Defs
public import proofs.«01_k».proof.Proof.Gen.GatingDx.Frame
public import proofs.«01_k».proof.Proof.Gen.GatingDxIdeal.Value
public import proofs.«01_k».proof.Proof.Gen.GatingDxRefIdeal.Run
public import proofs.«01_k».proof.Proof.Gen.GatingDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.GatingDx

open Idealize.ShloMosaic Idealize.ShloMosaic.TcCoe Idealize.SL.Sem

section Kernel

open Cert.GatingDxIdeal Cert.GatingDxIdeal.Gen

/-- A tile of the result: rows of the incoming gradient against rows of the weight. -/
theorem block (x : FVec Ideal S1024x1024 .bf16) (w : FVec Ideal S1024x1024 .bf16) (y : S1024x1024.Idx) :
    (out0_2 (F := Ideal) x w : FVec Ideal S1024x1024 .f32) y = ∑ k : Fin 1024, x (ix2 (y 0) k) * w (ix2 (y 1) k) := by
  frame_out
  unfold k0_pay1
  pointwise

variable (m : (ℓ : Loc nD τ sig) → Buf (Elt Ideal) ℓ) (c : Dev nD)

/-- The incoming gradient. -/
def rows : FVec Ideal S4096x1024 .bf16 := m ((c : Thread nD τ).loc main_arg0)

/-- The weight. -/
def weight : FVec Ideal S1024x1024 .bf16 := m ((c : Thread nD τ).loc main_arg1)

/-- Which tile of each argument and of the result a grid point takes. -/
theorem idx : ∀ t : Fin cfg0.N, win0_0.index t = ![t.val, 0] ∧ win0_1.index t = ![0, 0] ∧ win0_2.index t = ![t.val, 0] :=
  (by decide +kernel : ∀ t : Fin grid0.N, _)

/-- The result: the incoming gradient times the transposed weight. -/
theorem final : (dats m 0 c).arrAt 2 cfg0.N =
    ((fun i => ∑ k : Fin 1024, rows m c (ix2 (i 0) k) * weight m c (ix2 (i 1) k)) : FVec Ideal S4096x1024 .f32) := by
  refine (dats m 0 c).arrAt_eq_of_covers 2 _ (by decide +kernel) fun t hf y => ?_
  blk_simp
  rw [after0_2]
  refine (block _ _ y).trans (Finset.sum_congr rfl fun k _ => ?_)
  congr 1
  · unfold rows; blk_ext [iblk, V, idx t]
  · unfold weight; blk_ext [iblk, V, idx t]

end Kernel

/-- The reference states the same sum. -/
theorem reference (x : FVec Ideal Cert.GatingDxRefIdeal.S4096x1024 .bf16) (w : FVec Ideal Cert.GatingDxRefIdeal.S1024x1024 .bf16) :
    Cert.GatingDxRefIdeal.Read.val_main_v4 (F := Ideal) x w = fun i => ∑ k : Fin 1024, x (ix2 (i 0) k) * w (ix2 (i 1) k) := by
  funext i
  pointwise [Cert.GatingDxRefIdeal.Read.val_main_v4, Cert.GatingDxRefIdeal.Read.val_main_v3, Cert.GatingDxRefIdeal.Read.val_main_v1]

/-- The call as printed runs, leaves its arguments alone and no signal pending. -/
theorem frame : Cert.quiescent_GatingDx := fun m ρ _ => Cert.GatingDx.Gen.frame m ρ

/-- So does the idealized call. -/
theorem frame_ideal : Cert.quiescent_GatingDxIdeal := fun m ρ _ => Cert.GatingDxIdeal.Gen.frame m ρ

/-- So does the reference. -/
theorem frame_ref : Cert.quiescent_GatingDxRefIdeal := fun m ρ _ =>
  (θ_run Cert.GatingDxRefIdeal.defs _ _).mono (fun r h => ⟨fun c => (h c).2, sem_eq_zero_of_no_sems (by decide) r.2⟩)
    (Cert.GatingDxRefIdeal.Value.run (F := Ideal) m ρ)

/-- On equal arguments the call and the reference end with equal results. -/
theorem algebraic : Cert.algebraic_GatingDxIdeal_GatingDxRefIdeal := by
  intro m g m' g' _ hagree
  refine ⟨_, Cert.GatingDxIdeal.Value.run_blocks m g,
    (θ_run Cert.GatingDxRefIdeal.defs _ _).mono (fun r h c => ⟨((h c).1.trans (Cert.GatingDxRefIdeal.Read.val_main_v4_eq _ _)).trans ?_, (h c).2⟩)
      (Cert.GatingDxRefIdeal.Value.run (F := Ideal) m' g')⟩
  rw [(hagree c).1, (hagree c).2]
  exact (reference ..).trans (final m c).symm

end Cert.Products.GatingDx

end
-- ==== Proof.Products.AttnDx.lean ====
/-
  The attention's projection: the gradient of its rows.
-/
module

public import proofs.«01_k».proof.Defs
public import proofs.«01_k».proof.Proof.Gen.AttnDx.Frame
public import proofs.«01_k».proof.Proof.Gen.AttnDxIdeal.Value
public import proofs.«01_k».proof.Proof.Gen.AttnDxRefIdeal.Run
public import proofs.«01_k».proof.Proof.Gen.AttnDxRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.AttnDx

open Idealize.ShloMosaic Idealize.ShloMosaic.TcCoe Idealize.SL.Sem

section Kernel

open Cert.AttnDxIdeal Cert.AttnDxIdeal.Gen

/-- A tile of the result: rows of the incoming gradient against rows of the weight. -/
theorem block (x : FVec Ideal S1024x1024 .bf16) (w : FVec Ideal S1024x1024 .bf16) (y : S1024x1024.Idx) :
    (out0_2 (F := Ideal) x w : FVec Ideal S1024x1024 .bf16) y = ∑ k : Fin 1024, x (ix2 (y 0) k) * w (ix2 (y 1) k) := by
  frame_out
  unfold k0_pay1
  pointwise

variable (m : (ℓ : Loc nD τ sig) → Buf (Elt Ideal) ℓ) (c : Dev nD)

/-- The incoming gradient. -/
def rows : FVec Ideal S4096x1024 .bf16 := m ((c : Thread nD τ).loc main_arg0)

/-- The weight. -/
def weight : FVec Ideal S1024x1024 .bf16 := m ((c : Thread nD τ).loc main_arg1)

/-- Which tile of each argument and of the result a grid point takes. -/
theorem idx : ∀ t : Fin cfg0.N, win0_0.index t = ![t.val, 0] ∧ win0_1.index t = ![0, 0] ∧ win0_2.index t = ![t.val, 0] :=
  (by decide +kernel : ∀ t : Fin grid0.N, _)

/-- The result: the incoming gradient times the transposed weight. -/
theorem final : (dats m 0 c).arrAt 2 cfg0.N =
    ((fun i => ∑ k : Fin 1024, rows m c (ix2 (i 0) k) * weight m c (ix2 (i 1) k)) : FVec Ideal S4096x1024 .bf16) := by
  refine (dats m 0 c).arrAt_eq_of_covers 2 _ (by decide +kernel) fun t hf y => ?_
  blk_simp
  rw [after0_2]
  refine (block _ _ y).trans (Finset.sum_congr rfl fun k _ => ?_)
  congr 1
  · unfold rows; blk_ext [iblk, V, idx t]
  · unfold weight; blk_ext [iblk, V, idx t]

end Kernel

/-- The reference states the same sum. -/
theorem reference (x : FVec Ideal Cert.AttnDxRefIdeal.S4096x1024 .bf16) (w : FVec Ideal Cert.AttnDxRefIdeal.S1024x1024 .bf16) :
    Cert.AttnDxRefIdeal.Read.val_main_v5 (F := Ideal) x w = fun i => ∑ k : Fin 1024, x (ix2 (i 0) k) * w (ix2 (i 1) k) := by
  funext i
  pointwise [Cert.AttnDxRefIdeal.Read.val_main_v5, Cert.AttnDxRefIdeal.Read.val_main_v4, Cert.AttnDxRefIdeal.Read.val_main_v3, Cert.AttnDxRefIdeal.Read.val_main_v1]

/-- The call as printed runs, leaves its arguments alone and no signal pending. -/
theorem frame : Cert.quiescent_AttnDx := fun m ρ _ => Cert.AttnDx.Gen.frame m ρ

/-- So does the idealized call. -/
theorem frame_ideal : Cert.quiescent_AttnDxIdeal := fun m ρ _ => Cert.AttnDxIdeal.Gen.frame m ρ

/-- So does the reference. -/
theorem frame_ref : Cert.quiescent_AttnDxRefIdeal := fun m ρ _ =>
  (θ_run Cert.AttnDxRefIdeal.defs _ _).mono (fun r h => ⟨fun c => (h c).2, sem_eq_zero_of_no_sems (by decide) r.2⟩)
    (Cert.AttnDxRefIdeal.Value.run (F := Ideal) m ρ)

/-- On equal arguments the call and the reference end with equal results. -/
theorem algebraic : Cert.algebraic_AttnDxIdeal_AttnDxRefIdeal := by
  intro m g m' g' _ hagree
  refine ⟨_, Cert.AttnDxIdeal.Value.run_blocks m g,
    (θ_run Cert.AttnDxRefIdeal.defs _ _).mono (fun r h c => ⟨((h c).1.trans (Cert.AttnDxRefIdeal.Read.val_main_v5_eq _ _)).trans ?_, (h c).2⟩)
      (Cert.AttnDxRefIdeal.Value.run (F := Ideal) m' g')⟩
  rw [(hagree c).1, (hagree c).2]
  exact (reference ..).trans (final m c).symm

end Cert.Products.AttnDx

end
-- ==== Proof.Merge.Bwd.lean ====
/-
  The gated merge `sigmoid(gₐ)·a + sigmoid(g_b)·b` with the output projection behind it: the gradients of `a`, of `b` and of the
  two gates. The gates are columns 2048 to 4095 of the combined projection, and the third result is written there.
-/
module

public import proofs.«01_k».proof.Defs
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent
public import Idealize.ShloMosaic.Lib.WordCmp

@[expose] public section

set_option maxRecDepth 16384

noncomputable section

namespace Cert.Merge.Bwd

open Idealize.ShloMosaic Idealize.ShloMosaic.TcCoe Idealize.SL.Sem

section Spec

variable (d : FVec Ideal ⟨2, ![4096, 1024]⟩ .bf16) (w : FVec Ideal ⟨2, ![1024, 1024]⟩ .bf16)
  (a b : FVec Ideal ⟨2, ![4096, 1024]⟩ .bf16) (p : FVec Ideal ⟨2, ![4096, 5376]⟩ .bf16)

/-- The gradient of the merged rows: the incoming gradient times the transposed output projection. -/
def merged (r : Fin 4096) (j : Fin 1024) : EReal := ∑ k : Fin 1024, d (ix2 r k) * w (ix2 j k)

/-- The gradient of one half, its gate in the columns from `o` on. -/
def half (o : ℕ) (ho : o + 1024 ≤ 5376) : FVec Ideal ⟨2, ![4096, 1024]⟩ .bf16 := fun i =>
  merged d w (i 0) (i 1) * Ideal.logistic (p (ix2 (i 0) ⟨o + (i 1).val, by have : (i 1).val < 1024 := (i 1).isLt; omega⟩))

/-- The gradient of a gate, from the gradient of the merged rows, the gated half and the gate. -/
def gate (g x q : EReal) : EReal := g * x * Ideal.logistic q * (1 - Ideal.logistic q)

/-- The gradient of the combined projection: the two gates' columns, zero elsewhere. -/
def gates : FVec Ideal ⟨2, ![4096, 5376]⟩ .bf16 := fun i =>
  if h : 2048 ≤ (i 1).val ∧ (i 1).val < 3072 then
    gate (merged d w (i 0) ⟨(i 1).val - 2048, by omega⟩) (a (ix2 (i 0) ⟨(i 1).val - 2048, by omega⟩)) (p i)
  else if h : 3072 ≤ (i 1).val ∧ (i 1).val < 4096 then
    gate (merged d w (i 0) ⟨(i 1).val - 3072, by omega⟩) (b (ix2 (i 0) ⟨(i 1).val - 3072, by omega⟩)) (p i)
  else 0

end Spec

section Kernel

open Cert.MergeBwdIdeal Cert.MergeBwdIdeal.Gen

/-! ## What a point computes -/

/-- Rows of the incoming gradient against rows of the weight, in a block. -/
def rowDot (d : FVec Ideal S512x1024 .bf16) (w : FVec Ideal S1024x1024 .bf16) (r : Fin 512) (j : Fin 1024) : EReal :=
  ∑ k : Fin 1024, d (ix2 r k) * w (ix2 j k)

theorem product (d : FVec Ideal S512x1024 .bf16) (w : FVec Ideal S1024x1024 .bf16) (y : S512x1024.Idx) :
    (k0_pay2 (F := Ideal) d w : FVec Ideal S512x1024 .f32) y = rowDot d w (y 0) (y 1) := by
  unfold k0_pay2 rowDot
  pointwise

theorem gate_a (q : FVec Ideal S512x1024 .bf16) (y : S512x1024.Idx) :
    (k0_pay3 (F := Ideal) q : FVec Ideal S512x1024 .f32) y = Ideal.logistic (q y) := by
  pointwise [k0_pay3]
  rw [zero_sub]
  rfl

theorem gate_b (q : FVec Ideal S512x1024 .bf16) (y : S512x1024.Idx) :
    (k0_pay4 (F := Ideal) q : FVec Ideal S512x1024 .f32) y = Ideal.logistic (q y) := gate_a q y

/-- The gradient of either half. -/
theorem half_at (d : FVec Ideal S512x1024 .bf16) (w : FVec Ideal S1024x1024 .bf16) (q : FVec Ideal S512x1024 .bf16) (y : S512x1024.Idx) :
    (k0_pay5 (F := Ideal) d w q : FVec Ideal S512x1024 .bf16) y
      = rowDot d w (y 0) (y 1) * Ideal.logistic (q y) :=
  congrArg₂ (· * ·) (product d w y) (gate_a q y)

/-- The gradient of either gate. -/
theorem gate_at (d : FVec Ideal S512x1024 .bf16) (w : FVec Ideal S1024x1024 .bf16) (q x : FVec Ideal S512x1024 .bf16) (y : S512x1024.Idx) :
    (k0_pay7 (F := Ideal) d w q x : FVec Ideal S512x1024 .bf16) y
      = gate (rowDot d w (y 0) (y 1)) (x y) (q y) := by
  rw [← product d w y]
  unfold gate
  rw [← gate_a q y]
  pointwise [k0_pay7]

variable (m : (ℓ : Loc nD τ sig) → Buf (Elt Ideal) ℓ) (c : Dev nD)

/-! ## The arguments -/

/-- The incoming gradient. -/
def dout : FVec Ideal S4096x1024 .bf16 := m ((c : Thread nD τ).loc main_arg0)
/-- The output projection. -/
def wout : FVec Ideal S1024x1024 .bf16 := m ((c : Thread nD τ).loc main_arg1)
/-- The spatial half. -/
def halfA : FVec Ideal S4096x1024 .bf16 := m ((c : Thread nD τ).loc main_arg2)
/-- The attention half. -/
def halfB : FVec Ideal S4096x1024 .bf16 := m ((c : Thread nD τ).loc main_arg3)
/-- The combined projection. -/
def proj : FVec Ideal S4096x5376 .bf16 := m ((c : Thread nD τ).loc main_arg4)

/-- Which tile of each argument and result a grid point takes. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 2] ∧ win0_5.index t = ![t.val, 3] ∧ win0_6.index t = ![t.val, 0] ∧ win0_7.index t = ![t.val, 0] ∧ win0_8.index t = ![t.val, 1] :=
  (by decide +kernel : ∀ t : Fin grid0.N, _)

variable (t : Fin cfg0.N)

/-- A row of the point's block, as a row of the array. -/
def rowAt (r : Fin 512) : Fin 4096 := ⟨512 * t.val + r.val, by have : t.val < 8 := t.isLt; have := r.isLt; omega⟩

theorem dout_block (r : Fin 512) (k : Fin 1024) : (iblk m c 0 t : FVec Ideal S512x1024 .bf16) (ix2 r k) = dout m c (ix2 (rowAt t r) k) := by
  unfold dout rowAt; blk_ext [iblk, V, idx t]
theorem wout_block (j k : Fin 1024) : (iblk m c 1 t : FVec Ideal S1024x1024 .bf16) (ix2 j k) = wout m c (ix2 j k) := by
  unfold wout; blk_ext [iblk, V, idx t]
theorem a_block (r : Fin 512) (k : Fin 1024) : (iblk m c 2 t : FVec Ideal S512x1024 .bf16) (ix2 r k) = halfA m c (ix2 (rowAt t r) k) := by
  unfold halfA rowAt; blk_ext [iblk, V, idx t]
theorem b_block (r : Fin 512) (k : Fin 1024) : (iblk m c 3 t : FVec Ideal S512x1024 .bf16) (ix2 r k) = halfB m c (ix2 (rowAt t r) k) := by
  unfold halfB rowAt; blk_ext [iblk, V, idx t]
theorem ga_block (r : Fin 512) (k : Fin 1024) : (X0_4 m c t : FVec Ideal S512x1024 .bf16) (ix2 r k)
    = proj m c (ix2 (rowAt t r) ⟨2048 + k.val, by have := k.isLt; omega⟩) := by
  unfold proj rowAt X0_4 Pipeline.Window.fill
  rw [dif_pos (moved0_4 t _)]
  blk_ext [iblk, V, idx t]
theorem gb_block (r : Fin 512) (k : Fin 1024) : (X0_5 m c t : FVec Ideal S512x1024 .bf16) (ix2 r k)
    = proj m c (ix2 (rowAt t r) ⟨3072 + k.val, by have := k.isLt; omega⟩) := by
  unfold proj rowAt X0_5 Pipeline.Window.fill
  rw [dif_pos (moved0_5 t _)]
  blk_ext [iblk, V, idx t]

/-- The gradient of the merged rows, of the point's rows. -/
theorem merged_block (r : Fin 512) (j : Fin 1024) : rowDot (iblk m c 0 t) (iblk m c 1 t) r j = merged (dout m c) (wout m c) (rowAt t r) j :=
  Finset.sum_congr rfl fun k _ => congrArg₂ (· * ·) (dout_block m c t r k) (wout_block m c t j k)

/-! ## What a point leaves -/

theorem da_point (r : Fin 512) (j : Fin 1024) : ((outsAt0 m c t).1 : FVec Ideal S512x1024 .bf16) (ix2 r j)
    = half (dout m c) (wout m c) (proj m c) 2048 (by decide) (ix2 (rowAt t r) j) := by
  have key : (outsAt0 m c t).1 = k0_pay5 (F := Ideal) (iblk m c 0 t) (iblk m c 1 t) (X0_4 m c t) := by
    unfold outsAt0
    frame_open
    simp (disch := decide) only [↓ View.readCov_skip, ↓ View.readCov_cons_toLoadRect, ↓ View.readCov_fill]
    frame_out
  rw [key]
  exact (half_at _ _ _ _).trans (congrArg₂ (fun x y => x * Ideal.logistic y) (merged_block m c t r j) (ga_block m c t r j))

theorem db_point (r : Fin 512) (j : Fin 1024) : ((outsAt0 m c t).2.1 : FVec Ideal S512x1024 .bf16) (ix2 r j)
    = half (dout m c) (wout m c) (proj m c) 3072 (by decide) (ix2 (rowAt t r) j) := by
  have key : (outsAt0 m c t).2.1 = k0_pay6 (F := Ideal) (iblk m c 0 t) (iblk m c 1 t) (X0_5 m c t) := by
    unfold outsAt0
    frame_open
    simp (disch := decide) only [↓ View.readCov_skip, ↓ View.readCov_cons_toLoadRect, ↓ View.readCov_fill]
    frame_out
  rw [key]
  exact (half_at _ _ _ _).trans (congrArg₂ (fun x y => x * Ideal.logistic y) (merged_block m c t r j) (gb_block m c t r j))

/-- The gates' columns the point writes. -/
theorem gates_point (r : Fin 512) (j : Fin 2048) : ((outsAt0 m c t).2.2 : FVec Ideal S512x2048 .bf16) (ix2 r j)
    = gates (dout m c) (wout m c) (halfA m c) (halfB m c) (proj m c) (ix2 (rowAt t r) ⟨2048 + j.val, by have := j.isLt; omega⟩) := by
  have key : (outsAt0 m c t).2.2 = View.canon (Val := Elt Ideal) (s := S512x2048) (e := .bf16)
      [⟨Rect.unit ![0, 1024] S512x1024.size inb_S512x2048_S512x1024_0_1024, k0_pay7 (F := Ideal) (iblk m c 0 t) (iblk m c 1 t) (X0_5 m c t) (iblk m c 3 t)⟩,
       ⟨Rect.unit ![0, 0] S512x1024.size inb_S512x2048_S512x1024_0_0, k0_pay7 (F := Ideal) (iblk m c 0 t) (iblk m c 1 t) (X0_4 m c t) (iblk m c 2 t)⟩] := by
    unfold outsAt0
    frame_open
    simp (disch := decide) only [↓ View.readCov_skip, ↓ View.readCov_cons_toLoadRect, ↓ View.readCov_fill]
    frame_out
    rfl
  rw [key]
  canon_tiles x h
  · idx_vars x
    have h1 : j.val = 1024 + x1.val := h1
    obtain rfl : r = x0 := Fin.ext h0
    have l1 : x1.val < 1024 := x1.isLt
    refine (gate_at _ _ _ _ _).trans ?_
    refine (congr (congrArg₂ gate (merged_block m c t r x1) (b_block m c t r x1)) (gb_block m c t r x1)).trans ?_
    have n1 : ¬ (2048 ≤ 2048 + j.val ∧ 2048 + j.val < 3072) := by omega
    have n2 : 3072 ≤ 2048 + j.val ∧ 2048 + j.val < 4096 := by omega
    have e : (⟨2048 + j.val - 3072, by omega⟩ : Fin 1024) = x1 := Fin.ext (by show 2048 + j.val - 3072 = x1.val; omega)
    have e' : (⟨2048 + j.val, by omega⟩ : Fin 5376) = ⟨3072 + x1.val, by omega⟩ := Fin.ext (by show 2048 + j.val = 3072 + x1.val; omega)
    refine Eq.trans ?_ ((dif_neg (α := EReal) n1).trans (dif_pos n2)).symm
    show gate _ _ _ = gate (merged _ _ _ (⟨2048 + j.val - 3072, _⟩ : Fin 1024)) (halfB m c (ix2 _ (⟨2048 + j.val - 3072, _⟩ : Fin 1024))) (proj m c (ix2 _ (⟨2048 + j.val, _⟩ : Fin 5376)))
    rw [e, e']
    rfl
  · idx_vars x
    have h1 : j.val = x1.val := h1
    obtain rfl : r = x0 := Fin.ext h0
    have l1 : x1.val < 1024 := x1.isLt
    refine (gate_at _ _ _ _ _).trans ?_
    refine (congr (congrArg₂ gate (merged_block m c t r x1) (a_block m c t r x1)) (ga_block m c t r x1)).trans ?_
    have n1 : 2048 ≤ 2048 + j.val ∧ 2048 + j.val < 3072 := by omega
    have e : (⟨2048 + j.val - 2048, by omega⟩ : Fin 1024) = x1 := Fin.ext (by show 2048 + j.val - 2048 = x1.val; omega)
    have e' : (⟨2048 + j.val, by omega⟩ : Fin 5376) = ⟨2048 + x1.val, by omega⟩ := Fin.ext (by show 2048 + j.val = 2048 + x1.val; omega)
    refine Eq.trans ?_ (dif_pos (α := EReal) n1).symm
    show gate _ _ _ = gate (merged _ _ _ (⟨2048 + j.val - 2048, _⟩ : Fin 1024)) (halfA m c (ix2 _ (⟨2048 + j.val - 2048, _⟩ : Fin 1024))) (proj m c (ix2 _ (⟨2048 + j.val, _⟩ : Fin 5376)))
    rw [e, e']
    rfl

/-! ## The results -/

/-- The gradient of the spatial half. -/
theorem da_final : (dats m 0 c).arrAt 6 cfg0.N = half (dout m c) (wout m c) (proj m c) 2048 (by decide) := by
  refine (dats m 0 c).arrAt_eq_of_covers 6 _ (by decide +kernel) fun t hf y => ?_
  blk_simp
  rw [after0_6]
  refine Eq.trans (congrArg (outsAt0 m c t).1 (ix2_eta (n0 := 512) (n1 := 1024) _).symm) ((da_point m c t _ _).trans ?_)
  unfold rowAt
  blk_ext [idx t]

/-- The gradient of the attention half. -/
theorem db_final : (dats m 0 c).arrAt 7 cfg0.N = half (dout m c) (wout m c) (proj m c) 3072 (by decide) := by
  refine (dats m 0 c).arrAt_eq_of_covers 7 _ (by decide +kernel) fun t hf y => ?_
  blk_simp
  rw [after0_7]
  refine Eq.trans (congrArg (outsAt0 m c t).2.1 (ix2_eta (n0 := 512) (n1 := 1024) _).symm) ((db_point m c t _ _).trans ?_)
  unfold rowAt
  blk_ext [idx t]

/-- Where the point's block of the third result lies. -/
theorem gates_emb (t : Fin cfg0.N) (y : ((cfg0.win 8).xblock (cfg0.grid.coords t)).Idx) :
    (win0_8.blk t).view.emb y = ix2 (rowAt t ((cfg0.win 8).xinj (cfg0.grid.coords t) y 0))
      ⟨2048 + ((cfg0.win 8).xinj (cfg0.grid.coords t) y 1).val, by have : ((cfg0.win 8).xinj (cfg0.grid.coords t) y 1).val < 2048 := ((cfg0.win 8).xinj (cfg0.grid.coords t) y 1).isLt; omega⟩ := by
  have e : ∀ a, ((win0_8.blk t).view.emb y a).val = win0_8.index t a * win0_8.size a + (y a).val :=
    fun a => ValueKit.rect_emb_unit_val _ _ _ y a
  have h := (idx t).2.2.2.2.2.2.2.2
  refine funext fun a => Fin.ext ((e a).trans ?_)
  rw [h]
  revert a
  refine Fin.forall_fin_two.2 ⟨?_, ?_⟩
  · exact congrArg (· + _) (Nat.mul_comm _ _)
  · exact congrArg (· + _) (Nat.one_mul _)

/-- The gradient of the gates, in the columns the call writes. -/
theorem gates_final (i : S4096x5376.Idx) (h : (i 1).val / 2048 = 1) : (dats m 0 c).arrAt 8 cfg0.N i
    = gates (dout m c) (wout m c) (halfA m c) (halfB m c) (proj m c) i := by
  refine ((dats m 0 c).arrAt_apply_of_coversWhere 8 (gates (dout m c) (wout m c) (halfA m c) (halfB m c) (proj m c))
    (P := fun j : S4096x5376.Idx => (j 1).val / 2048 = 1) (fun β => β (1 : Fin 2) = 1) (by decide +kernel) (fun t hf y => ?_) (fun j => Iff.rfl) i).trans (if_pos h)
  blk_simp
  rw [after0_8]
  refine Eq.trans (congrArg (outsAt0 m c t).2.2 (ix2_eta (n0 := 512) (n1 := 2048) _).symm) ((gates_point m c t _ _).trans (congrArg (gates _ _ _ _ _) ?_))
  exact (gates_emb t y).symm

end Kernel

section Reference

open Cert.MergeBwdRefIdeal Cert.MergeBwdRefIdeal.Read

variable (d : FVec Ideal S4096x1024 .bf16) (w : FVec Ideal S1024x1024 .bf16) (a b : FVec Ideal S4096x1024 .bf16) (p : FVec Ideal S4096x5376 .bf16)

/-- The gradient of the merged rows. -/
theorem ref_merged (i : S4096x1024.Idx) : val_main_v21 (F := Ideal) d w i = merged d w (i 0) (i 1) := by
  unfold merged
  pointwise [val_main_v21, val_main_v20, val_main_v18]

/-- The gates, at a column of their own. -/
theorem ref_gate (r : Fin 4096) (j : Fin 2048) : val_main_v9 (F := Ideal) p (ix2 r j)
    = Ideal.logistic (p (ix2 r ⟨2048 + j.val, by have := j.isLt; omega⟩)) := by
  pointwise [val_main_v9, val_main_v8, val_main_v7, val_main_v6, val_main_v5, val_main_v4, val_main_v1, val_main_v0, val_main_cst, val_main_cst_0]
  rfl

/-- The gradient of the spatial half. -/
theorem ref_a : val_main_v31 (F := Ideal) d w p = half d w p 2048 (by decide) := by
  funext i
  idx_vars i
  pointwise [val_main_v31, val_main_v24, val_main_v13]
  rw [ref_gate, ref_merged]
  exact mul_comm _ _

/-- The gradient of the attention half. -/
theorem ref_b : val_main_v32 (F := Ideal) d w p = half d w p 3072 (by decide) := by
  funext i
  idx_vars i
  pointwise [val_main_v32, val_main_v22, val_main_v14]
  rw [ref_gate, ref_merged]
  refine (mul_comm _ _).trans (congrArg (fun k : Fin 5376 => merged d w i0 i1 * Ideal.logistic (p (ix2 i0 k))) (Fin.ext ?_))
  show 2048 + (1024 + i1.val) = 3072 + i1.val
  omega

theorem ref_prod_a (i : S4096x1024.Idx) : val_main_v25 (F := Ideal) d w a i = merged d w (i 0) (i 1) * a i := by
  rw [← ref_merged]
  pointwise [val_main_v25, val_main_v2]

theorem ref_prod_b (i : S4096x1024.Idx) : val_main_v23 (F := Ideal) d w b i = merged d w (i 0) (i 1) * b i := by
  rw [← ref_merged]
  pointwise [val_main_v23, val_main_v3]

/-- The gradient of the gates. -/
theorem ref_gates (i : S4096x5376.Idx) (h : (i 1).val / 2048 = 1) : val_main_v33 (F := Ideal) d w a b p i = gates d w a b p i := by
  idx_vars i
  pointwise [val_main_v33, val_main_v30, val_main_v28, val_main_v29, val_main_cst_3, val_main_cst_2, val_main_v27, val_main_v26, val_main_v12, val_main_v11, val_main_v10, val_main_cst_1]
  have h : i1.val / 2048 = 1 := h
  rw [dif_neg (by omega), dif_pos (by omega), ref_gate]
  have e : (⟨2048 + (i1.val - 2048), by omega⟩ : Fin 5376) = i1 := Fin.ext (by show 2048 + (i1.val - 2048) = i1.val; omega)
  rw [show (⟨2048 + (⟨i1.val - 2048, by omega⟩ : Fin 2048).val, by omega⟩ : Fin 5376) = i1 from e]
  by_cases q : i1.val < 3072
  · rw [dif_pos (by omega), ref_prod_a]
    have k : 2048 ≤ i1.val ∧ i1.val < 3072 := by omega
    refine (mul_assoc _ _ _).symm.trans (Eq.trans ?_ (dif_pos (α := EReal) k).symm)
    rfl
  · have e3 : (⟨i1.val - 2048 - 1024, by omega⟩ : Fin 1024) = ⟨i1.val - 3072, by omega⟩ := Fin.ext (by show i1.val - 2048 - 1024 = i1.val - 3072; omega)
    rw [dif_neg (by omega), e3, ref_prod_b]
    have k : ¬ (2048 ≤ i1.val ∧ i1.val < 3072) := by omega
    have k' : 3072 ≤ i1.val ∧ i1.val < 4096 := by omega
    refine (mul_assoc _ _ _).symm.trans (Eq.trans ?_ ((dif_neg (α := EReal) k).trans (dif_pos k')).symm)
    rfl

end Reference

section Mask

/-- The facts the predicate states. -/
theorem mask_facts : Cert.On_merge_bwd_written.Facts := by
  constructor <;> decide

/-- The predicate selects the gates' columns of the third result. -/
theorem mask_gates [Cert.On_merge_bwd_written.Facts] (d : FVec Ideal ⟨2, ![4096, 1024]⟩ .bf16) (w : FVec Ideal ⟨2, ![1024, 1024]⟩ .bf16)
    (a b : FVec Ideal ⟨2, ![4096, 1024]⟩ .bf16) (p : FVec Ideal ⟨2, ![4096, 5376]⟩ .bf16) (i : (⟨2, ![4096, 5376]⟩ : Shape).Idx)
    (h : (Cert.On_merge_bwd_written.fn (F := Ideal) d w a b p).2.2 i = 1#1) : (i 1).val / 2048 = 1 := by
  have l : (i 1).val < 5376 := (i 1).isLt
  pointwise [Cert.On_merge_bwd_written.fn] at h
  word_cmp at h

end Mask

/-- The call as printed runs, leaves its arguments alone and no signal pending. -/
theorem frame : Cert.quiescent_MergeBwd := fun m ρ _ => Cert.MergeBwd.Gen.frame m ρ

/-- So does the idealized call. -/
theorem frame_ideal : Cert.quiescent_MergeBwdIdeal := fun m ρ _ => Cert.MergeBwdIdeal.Gen.frame m ρ

/-- So does the reference. -/
theorem frame_ref : Cert.quiescent_MergeBwdRefIdeal := fun m ρ _ =>
  (θ_run Cert.MergeBwdRefIdeal.defs _ _).mono (fun r h => ⟨fun c => (h c).2.2.2, sem_eq_zero_of_no_sems (by decide) r.2⟩)
    (Cert.MergeBwdRefIdeal.Value.run (F := Ideal) m ρ)

/-- On equal arguments the call and the reference end with equal gradients of the two halves, and with equal gradients of the
    gates in the gates' columns. -/
theorem algebraic [Cert.On_merge_bwd_written.Facts] : Cert.algebraic_MergeBwdIdeal_MergeBwdRefIdeal_on_merge_bwd_written := by
  intro m g m' g' _ hagree
  refine ⟨_, _, _,
    (θ_run Cert.MergeBwdIdeal.defs _ _).mono (fun r h c =>
      ⟨fun i _ => congrFun (h c).1 i, fun i _ => congrFun (h c).2.1 i, fun i _ => congrFun (h c).2.2.1 i, (h c).2.2.2⟩)
      (Cert.MergeBwdIdeal.Value.run_blocks m g),
    (θ_run Cert.MergeBwdRefIdeal.defs _ _).mono (fun r h c =>
      ⟨fun i _ => (congrFun ((h c).1.trans (Cert.MergeBwdRefIdeal.Read.val_main_v31_eq _ _ _)) i).trans ?_,
        fun i _ => (congrFun ((h c).2.1.trans (Cert.MergeBwdRefIdeal.Read.val_main_v32_eq _ _ _)) i).trans ?_,
        fun i hi => (congrFun ((h c).2.2.1.trans (Cert.MergeBwdRefIdeal.Read.val_main_v33_eq _ _ _ _ _)) i).trans ?_, (h c).2.2.2⟩)
      (Cert.MergeBwdRefIdeal.Value.run (F := Ideal) m' g')⟩
  · rw [(hagree c).1, (hagree c).2.1, (hagree c).2.2.2.2]
    exact congrFun ((ref_a ..).trans (da_final m c).symm) i
  · rw [(hagree c).1, (hagree c).2.1, (hagree c).2.2.2.2]
    exact congrFun ((ref_b ..).trans (db_final m c).symm) i
  · rw [(hagree c).1, (hagree c).2.1, (hagree c).2.2.1, (hagree c).2.2.2.1, (hagree c).2.2.2.2]
    have k := mask_gates _ _ _ _ _ i hi
    exact (ref_gates _ _ _ _ _ i k).trans (gates_final m c i k).symm

end Cert.Merge.Bwd

end
-- ==== Proof.Norm.Spec.lean ====
/-
  The normalised and modulated rows `x / sqrt(mean(x²) + ε) · w · (1 + s) + b`, and their product with a matrix of weights, each
  row of the weights one column of the result.
-/
module

public import Idealize.ShloMosaic.Lib.ValueIdx
public import Idealize.ShloMosaic.Lib.Pointwise

@[expose] public section

noncomputable section

namespace Cert.Norm

open Idealize.ShloMosaic

variable {n : ℕ} (x : FVec Ideal ⟨2, ![n, 1024]⟩ .f32) (w s b : FVec Ideal ⟨2, ![1, 1024]⟩ .f32)

/-- What a row is scaled by: one over the root of its mean square plus a millionth. -/
def scale (r : Fin n) : EReal :=
  Ideal.rsqrt (Ideal.div (∑ k : Fin 1024, x (ix2 r k) * x (ix2 r k)) (Ideal.ofBits .f32 0x44800000#32) + Ideal.ofBits .f32 0x358637BD#32)

/-- A row scaled, weighted, and modulated. -/
def normed (r : Fin n) (k : Fin 1024) : EReal :=
  x (ix2 r k) * scale x r * w (ix2 0 k) * (1 + s (ix2 0 k)) + b (ix2 0 k)

/-- All the rows. -/
def normedRows : FVec Ideal ⟨2, ![n, 1024]⟩ .bf16 := fun i => normed x w s b (i 0) (i 1)

/-- All the rows, each times each row of the weights. -/
def normedProduct {k : ℕ} (u : FVec Ideal ⟨2, ![k, 1024]⟩ .bf16) : FVec Ideal ⟨2, ![n, k]⟩ .bf16 := fun i =>
  ∑ a : Fin 1024, normed x w s b (i 0) a * u (ix2 (i 1) a)

/-- Rows of two arrays with the same entries, weighted and modulated alike, are the same when normalised. -/
theorem normed_congr {n n' : ℕ} {x : FVec Ideal ⟨2, ![n, 1024]⟩ .f32} {x' : FVec Ideal ⟨2, ![n', 1024]⟩ .f32} {w w' s s' b b' : FVec Ideal ⟨2, ![1, 1024]⟩ .f32}
    {r : Fin n} {r' : Fin n'} (hx : ∀ k, x (ix2 r k) = x' (ix2 r' k)) (hw : w = w') (hs : s = s') (hb : b = b') (k : Fin 1024) :
    normed x w s b r k = normed x' w' s' b' r' k := by
  subst hw hs hb
  unfold normed scale
  simp only [hx]

end Cert.Norm

end
-- ==== Proof.Norm.InRun.lean ====
/-
  The normalised input and its product, point by point. At the first point of a block of rows the call normalises the block,
  keeps it in a buffer of its own and in the result's buffer; at every point it multiplies the kept rows by the point's block of
  weights. So at each point both buffers hold the normalised rows of the point's block.
-/
module

public import proofs.«01_k».proof.Proof.Gen.NormInIdeal.Frame
public import proofs.«01_k».proof.Proof.Gen.NormInIdeal.Skeleton
public import Idealize.ShloMosaic.Lib.Pipeline.ValueKit
public import Idealize.ShloMosaic.Lib.Pipeline.ReadBack
public import Idealize.ShloMosaic.Lib.Pipeline.TableIdle
public import Idealize.ShloMosaic.Lib.VecWindow
public import Idealize.ShloMosaic.Lib.Claim
public import Idealize.ShloMosaic.Lib.Quiescent

@[expose] public section

set_option maxRecDepth 16384

noncomputable section

namespace Cert.Norm.In

open Cert.NormInIdeal Cert.NormInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The states the assertions speak of. -/
abbrev World (F : FTy → Type) : Type := MT nD τ sig Unit (Elt F) ℕ (UR sig nD τ) ℕ

/-! ## Where a block of rows begins -/

/-- A point begins a block of rows. -/
abbrev begins (i : grid0.Coords) : Prop := (Scalar.cmpi .ne (Scalar.extui (Scalar.cmpi .eq (BitVec.ofNat 32 (i 1).val) 0#32)) 0#32) = 1#1

theorem begins_iff (t : Fin grid0.N) : begins (grid0.coords t) ↔ t.val % 7 = 0 := by
  have ht : t.val < 14 := Nat.lt_of_lt_of_eq t.isLt N_0
  have e1 : (grid0.coords t 1).val = t.val / 1 % 7 := Pipeline.Grid.coords_val t 1 (by decide) rfl
  simp only [begins, e1]
  word_cmp

/-- A load of a whole buffer reads what the buffer holds. -/
theorem load_whole {sp : Space} {d : Shape} {e : EltTy} {r : Memref sig .tc sp d e} (h : r.IsWhole) (X : Vec F d e) {off : Fin d.rank → ℕ}
    (inb : ∀ a, off a + d.size a ≤ d.size a) : r.view.readAt (Elt F) (Rect.unit off d.size inb).toLoadRect (h.unread X) = X := by
  rw [View.readAt_full, h.read_unread]

/-! ## The body -/

section Body

variable (c : Dev nD) (i : grid0.Coords) (arg2 : Memref sig .tc .vmem S2048x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S768x1024 .bf16) (harg6 : arg6.IsWhole)
  (arg7 : Memref sig .tc .vmem S2048x1024 .bf16) (harg7 : arg7.IsWhole) (arg8 : Memref sig .tc .vmem S2048x768 .bf16) (harg8 : arg8.IsWhole)
  (arg9 : Memref sig .tc .vmem S2048x1024 .bf16) (harg9 : arg9.IsWhole)
  (x : Vec F S2048x1024 .f32) (w s b : Vec F S1x1024 .f32) (k : Vec F S768x1024 .bf16)

/-- What the body holds: the five inputs, the two results' buffers and its own. -/
def held (x : Vec F S2048x1024 .f32) (w s b : Vec F S1x1024 .f32) (k : Vec F S768x1024 .bf16) (P7 P8 P9 : sProp (World F)) : sProp (World F) :=
  iprop(owns (c : Thread nD τ) arg2 fullShare x ∗ owns (c : Thread nD τ) arg3 fullShare w ∗ owns (c : Thread nD τ) arg4 fullShare s
    ∗ owns (c : Thread nD τ) arg5 fullShare b ∗ owns (c : Thread nD τ) arg6 fullShare k ∗ P7 ∗ P8 ∗ P9)

/-- Where a block begins, the body leaves the normalised rows in the first result's buffer and its own, and their product in the second's. -/
theorem body_begins (hc : begins i) (E : Set ℕ) (K : PUnit → sProp (World F)) :
    iprop(held c arg2 arg3 arg4 arg5 arg6 x w s b k (iprop(∃ d, owns (c : Thread nD τ) arg7 fullShare d)) (iprop(∃ d, owns (c : Thread nD τ) arg8 fullShare d))
          (iprop(∃ d, owns (c : Thread nD τ) arg9 fullShare d))
        ∗ (held c arg2 arg3 arg4 arg5 arg6 x w s b k (owns (c : Thread nD τ) arg7 fullShare (k0_pay1 x w s b))
            (owns (c : Thread nD τ) arg8 fullShare (k0_pay3 (k0_pay2 x w s b) k)) (owns (c : Thread nD τ) arg9 fullShare (k0_pay2 x w s b)) -∗ K ⟨⟩))
      ⊢ wp frame (wpE (defs₀ (F := F)) Variants.none c none) E (cc0_mm_in i arg2 harg2 arg3 harg3 arg4 harg4 arg5 harg5 arg6 harg6 arg7 harg7 arg8 harg8 arg9 harg9) K := by
  simp only [cc0_mm_in_eq_skeleton]; unfold cc0_mm_in_skel held
  unfold owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_full, load_whole, load_whole, load_whole, load_whole]
  isplitl [H6]
  · iexists _; isplitr
    swap; · iexact H6
    ipureintro
    unfold body_begins.sl.v3 body_begins.sl.HS0_1
    rw [View.read_writes_full, load_whole, View.readCov_full, load_whole, load_whole, load_whole, load_whole]
  iexists _; isplitr
  swap; · iexact HS0
  ipureintro
  unfold body_begins.sl.HS0_1
  rw [View.read_writes_full, load_whole, load_whole, load_whole, load_whole]

/-- Elsewhere, the body leaves the first result's buffer and its own as they are, and the product of the kept rows in the second's. -/
theorem body_goes_on (hc : ¬begins i) (h h' : Vec F S2048x1024 .bf16) (E : Set ℕ) (K : PUnit → sProp (World F)) :
    iprop(held c arg2 arg3 arg4 arg5 arg6 x w s b k (owns (c : Thread nD τ) arg7 fullShare h) (iprop(∃ d, owns (c : Thread nD τ) arg8 fullShare d))
          (owns (c : Thread nD τ) arg9 fullShare h')
        ∗ (held c arg2 arg3 arg4 arg5 arg6 x w s b k (owns (c : Thread nD τ) arg7 fullShare h)
            (owns (c : Thread nD τ) arg8 fullShare (k0_pay3 h' k)) (owns (c : Thread nD τ) arg9 fullShare h') -∗ K ⟨⟩))
      ⊢ wp frame (wpE (defs₀ (F := F)) Variants.none c none) E (cc0_mm_in i arg2 harg2 arg3 harg3 arg4 harg4 arg5 harg5 arg6 harg6 arg7 harg7 arg8 harg8 arg9 harg9) K := by
  simp only [cc0_mm_in_eq_skeleton]; unfold cc0_mm_in_skel held
  unfold owns
  iintro ⟨⟨H0, H1, H2, H3, ⟨%f4, %hf4, H4⟩, H5, ⟨%d6, %f6, -, H6⟩, ⟨%fs0, %hfs0, HS0⟩⟩, Hk⟩
  obtain rfl := harg6.eq_unread hf4; obtain rfl := harg9.eq_unread hfs0
  sl_exec (disch := first | sl_exact hc)
  sl_step
  iapply Hk
  isplitl [H0]; · iexact H0
  isplitl [H1]; · iexact H1
  isplitl [H2]; · iexact H2
  isplitl [H3]; · iexact H3
  isplitl [H4]
  · iexists _; isplitr; · ipureintro; exact harg6.read_unread _
    iexact H4
  isplitl [H5]; · iexact H5
  isplitl [H6]
  · iexists _; isplitr
    swap; · iexact H6
    ipureintro
    rw [View.read_writes_full, load_whole, load_whole]
  iexists _; isplitr; · ipureintro; exact harg9.read_unread _
  iexact HS0

end Body

/-! ## What the points leave -/

variable (m : (ℓ : Loc nD τ sig) → Buf (Elt F) ℓ) (ρ : Dev nD → PrngReg) (c : Dev nD)

/-- The normalised rows of the point's block. -/
def rows (t : Fin cfg0.N) : Vec F S2048x1024 .bf16 := k0_pay1 (iblk m c 0 t) (iblk m c 1 t) (iblk m c 2 t) (iblk m c 3 t)
/-- The same rows, as the body keeps them. -/
def kept (t : Fin cfg0.N) : Vec F S2048x1024 .bf16 := k0_pay2 (iblk m c 0 t) (iblk m c 1 t) (iblk m c 2 t) (iblk m c 3 t)

/-- The point before. -/
def prev (t : Fin cfg0.N) : Fin cfg0.N := ⟨t.val - 1, Nat.lt_of_le_of_lt (Nat.sub_le _ _) t.isLt⟩

/-- Which block of rows a point takes. -/
theorem rowIdx : ∀ t : Fin cfg0.N, win0_0.index t = ![t.val / 7, 0] ∧ win0_1.index t = ![0, 0] ∧ win0_2.index t = ![0, 0] ∧ win0_3.index t = ![0, 0] :=
  (by decide +kernel : ∀ t : Fin grid0.N, _)

/-- Within a block of rows the point before has the same rows and vectors. -/
theorem same (t : Fin cfg0.N) (h : ¬t.val % 7 = 0) : (iblk m c 0 (prev t) : Vec F S2048x1024 .f32) = iblk m c 0 t ∧ (iblk m c 1 (prev t) : Vec F S1x1024 .f32) = iblk m c 1 t
    ∧ (iblk m c 2 (prev t) : Vec F S1x1024 .f32) = iblk m c 2 t ∧ (iblk m c 3 (prev t) : Vec F S1x1024 .f32) = iblk m c 3 t := by
  have e : (prev t).val / 7 = t.val / 7 := by show (t.val - 1) / 7 = t.val / 7; omega
  refine ⟨?_, ?_, ?_, ?_⟩ <;> funext i <;> blk_ext [iblk, V, rowIdx t, rowIdx (prev t), e]

theorem rows_prev (t : Fin cfg0.N) (h : ¬t.val % 7 = 0) : rows m c (prev t) = rows m c t := by
  obtain ⟨h0, h1, h2, h3⟩ := same m c t h
  unfold rows
  rw [h0, h1, h2, h3]

theorem kept_prev (t : Fin cfg0.N) (h : ¬t.val % 7 = 0) : kept m c (prev t) = kept m c t := by
  obtain ⟨h0, h1, h2, h3⟩ := same m c t h
  unfold kept
  rw [h0, h1, h2, h3]

/-- Before the first point the body's own buffer holds anything; before another, the rows kept at the point before. -/
def between : (n : ℕ) → n ≤ cfg0.N → sProp (World F)
  | 0, _ => Pipeline.ΦA spec0 c
  | n + 1, hn => iprop(owns (c : Thread nD τ) (Memref.whole cc0_scratch0) fullShare (kept m c ⟨n, hn⟩) ∗ (∃ r, prngReg c r))

theorem between_zero (n : ℕ) (h : n ≤ cfg0.N) (hz : n = 0) : between m c n h = Pipeline.ΦA spec0 c := by subst hz; rfl

theorem between_pos (t : Fin cfg0.N) (hz : t.val ≠ 0) : between m c t.val (Nat.le_of_lt t.isLt)
    = iprop(owns (c : Thread nD τ) (Memref.whole cc0_scratch0) fullShare (kept m c (prev t)) ∗ (∃ r, prngReg c r)) := by
  obtain ⟨n, hn⟩ := t
  cases n with
  | zero => exact absurd rfl hz
  | succ n => rfl

/-- Before the first point: the body's own buffer at anything, and the generator's register. -/
theorem start_eq : (Pipeline.ΦA spec0 c : sProp (World F))
    = iprop((∃ d, owns (c : Thread nD τ) (Memref.whole cc0_scratch0) fullShare d) ∗ (∃ r, prngReg c r)) := by
  unfold Pipeline.ΦA; rw [scopedRest0_eq]; simp only [owns_whole]; try rfl

/-- The arrays as the call finds them; after each point the inputs' blocks, the normalised rows and their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c t
    | ⟨6, _⟩ => k0_pay3 (kept m c t) (iblk m c 4 t)
  Φ t := between m c t.val (Nat.le_of_lt_succ t.isLt)
  q _ := fullShare
  owed _ := 0

theorem entry (w : Fin cfg0.W) : (dats m 0 c).A w = V m c (Pipeline.arrRef spec0 w) := by dsimp only [dats]
theorem before_point (t : Fin cfg0.N) : (dats m 0 c).Φ t.castSucc = between m c t.val (Nat.le_of_lt t.isLt) := by
  dsimp only [dats]; exact Pipeline.Dat.Φ_castSucc (between m c) t

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = rows m c t := by dsimp only [dats]
theorem after6 (t : Fin cfg0.N) : (dats m 0 c).after 6 t = k0_pay3 (kept m c t) (iblk m c 4 t) := by dsimp only [dats]

theorem before0 (t : Fin cfg0.N) (d) : (dats m 0 c).before 0 t d = iblk m c 0 t := before0_0_of m (dats m 0 c) (entry m c 0) (after0 m c) t d
theorem before1 (t : Fin cfg0.N) (d) : (dats m 0 c).before 1 t d = iblk m c 1 t := before0_1_of m (dats m 0 c) (entry m c 1) (after1 m c) t d
theorem before2 (t : Fin cfg0.N) (d) : (dats m 0 c).before 2 t d = iblk m c 2 t := before0_2_of m (dats m 0 c) (entry m c 2) (after2 m c) t d
theorem before3 (t : Fin cfg0.N) (d) : (dats m 0 c).before 3 t d = iblk m c 3 t := before0_3_of m (dats m 0 c) (entry m c 3) (after3 m c) t d
theorem before4 (t : Fin cfg0.N) (d) : (dats m 0 c).before 4 t d = iblk m c 4 t := before0_4_of m (dats m 0 c) (entry m c 4) (after4 m c) t d

/-- Only where a block of rows begins does the first result's buffer hold nothing of the block. -/
theorem empty_at (n : ℕ) (hn : n ≤ cfg0.N) : cfg0.fresh 5 n = decide (n % 7 = 0) :=
  Cfg.fresh_tab (cfg := cfg0) 5 (fun n => decide (n % 7 = 0)) rfl (by decide +kernel) n hn

/-- Within a block of rows the first result's buffer still holds the rows. -/
theorem before5 (t : Fin cfg0.N) (h : ¬t.val % 7 = 0) (d) : (dats m 0 c).before 5 t d = rows m c t := by
  have hcarry : ∀ (u : Fin cfg0.N) (_ : u.val ≠ 0), cfg0.idle 5 (cfg0.grid.coords u) = true → cfg0.fresh 5 u.val = false →
      (dats m 0 c).after 5 u = (dats m 0 c).after 5 (prev u) := fun u _ _ hf => by
    rw [empty_at _ (Nat.le_of_lt u.isLt)] at hf
    rw [after5, after5, rows_prev m c u (of_decide_eq_false hf)]
  rw [(dats m 0 c).before_out_traj 5 rfl (fun _ _ => rfl) hcarry t.val t rfl d, empty_at _ (Nat.le_of_lt t.isLt), if_neg (by simpa using h)]
  exact (after5 m c (prev t)).trans (rows_prev m c t h)

/-! ## The points in turn -/

abbrev st0 (t : Fin cfg0.N) : Memref sig .tc .vmem S2048x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1x1024 .f32 := win0_2.stage (cfg0.slots t 2)
abbrev st3 (t : Fin cfg0.N) : Memref sig .tc .vmem S1x1024 .f32 := win0_3.stage (cfg0.slots t 3)
abbrev st4 (t : Fin cfg0.N) : Memref sig .tc .vmem S768x1024 .bf16 := win0_4.stage (cfg0.slots t 4)
abbrev st5 (t : Fin cfg0.N) : Memref sig .tc .vmem S2048x1024 .bf16 := win0_5.stage (cfg0.slots t 5)
abbrev st6 (t : Fin cfg0.N) : Memref sig .tc .vmem S2048x768 .bf16 := win0_6.stage (cfg0.slots t 6)

/-- What the body is called with at a point, -/
def given (t : Fin cfg0.N) : sProp (World F) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- What it gives back of the first result: where it stores nothing and nothing is written back, the buffer as found. -/
def first (t : Fin cfg0.N) : sProp (World F) :=
  match cfg0.idle 5 (cfg0.grid.coords t) with
  | true =>
    match (cfg0.win 5).flush t with
    | false => iprop(∃ d, owns (c : Thread nD τ) (st5 t) fullShare ((dats m 0 c).before 5 t d))
    | true => owns (c : Thread nD τ) (st5 t) fullShare ((dats m 0 c).after 5 t)
  | false => owns (c : Thread nD τ) (st5 t) fullShare ((dats m 0 c).after 5 t)

/-- The rows in the first result's buffer are what is asked. -/
theorem first_of_rows (t : Fin cfg0.N) : owns (c : Thread nD τ) (st5 t) fullShare (rows m c t) ⊢ first m c t := by
  unfold first
  split
  · rename_i hi
    have h : ¬t.val % 7 = 0 := fun e => by
      have hb := (begins_iff t).mpr e
      have hi' : (!(k0_cond1 (grid0.coords t) == 1#1)) = true := hi
      rw [show k0_cond1 (grid0.coords t) = 1#1 from hb] at hi'
      exact absurd hi' (by decide)
    split
    · simp only [before5 m c t h]
      iintro H
      iexists (fun _ => default)
      iexact H
    · rw [after5]
  · rw [after5]

/-- and what it gives back. -/
def returned (t : Fin cfg0.N) : sProp (World F) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ first m c t
    ∗ owns (c : Thread nD τ) (st6 t) fullShare ((dats m 0 c).after 6 t))

/-- Before any point the body's own buffer holds something. -/
theorem between_any (t : Fin cfg0.N) : between m c t.val (Nat.le_of_lt t.isLt)
    ⊢ iprop((∃ d, owns (c : Thread nD τ) (Memref.whole cc0_scratch0) fullShare d) ∗ (∃ r, prngReg c r)) := by
  by_cases hz : t.val = 0
  · rw [between_zero m c _ _ hz, start_eq]
  · rw [between_pos m c t hz]
    iintro ⟨HS, Hg⟩
    isplitl [HS]; · iexists _; iexact HS
    iexact Hg

/-- At any point the body gives back the inputs, the rows and their product. -/
theorem point (t : Fin cfg0.N) :
    given m c t ⊢ wp frame (wpE (defs₀ (F := F)) Variants.none c none) Set.univ (bodyAt0 t) (fun _ => returned m c t) := by
  unfold given returned bodyAt0
  simp only [before0, before1, before2, before3, before4]
  rw [show (dats m 0 c).owesAt () t.succ = (dats m 0 c).owesAt () t.castSucc from rfl,
    after0, after1, after2, after3, after4, after6, before_point,
    show (dats m 0 c).Φ t.succ = iprop(owns (c : Thread nD τ) (Memref.whole cc0_scratch0) fullShare (kept m c t) ∗ (∃ r, prngReg c r)) from rfl]
  by_cases h : t.val % 7 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := (between_any m c t) $$ HΦ
    icases HΦ with ⟨HS, Hg⟩
    iapply (body_begins c (grid0.coords t) _ _ _ _ _ _ _ _ _ _ _ _ _ _ _ _ (iblk m c 0 t) (iblk m c 1 t) (iblk m c 2 t) (iblk m c 3 t) (iblk m c 4 t)
      ((begins_iff t).mpr h) Set.univ _)
    unfold held
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (first_of_rows m c t); iexact H5
    iexact H6
  · have hz : t.val ≠ 0 := fun e => h (by rw [e])
    simp only [before5 m c t h]
    rw [between_pos m c t hz, kept_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_goes_on c (grid0.coords t) _ _ _ _ _ _ _ _ _ _ _ _ _ _ _ _ (iblk m c 0 t) (iblk m c 1 t) (iblk m c 2 t) (iblk m c 3 t) (iblk m c 4 t)
      (fun e => h ((begins_iff t).mp e)) (rows m c t) (kept m c t) Set.univ _)
    unfold held
    isplitl [H0 H1 H2 H3 H4 H5 H6 HS]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (first_of_rows m c t); iexact H5
    iexact H6

theorem row_of_table (t : Fin cfg0.N) : defs₀ (F := F) .tc cfg0.body (cfg0.bodyArgs t (cfg0.slots t)) = bodyAt0 t := by
  unfold defs₀; rw [Defs.onTc_tc]

/-- So every point does what is asked of it. -/
theorem obligation : BodyObligation (dats (F := F) m 0 c) (defs₀ (F := F)) Variants.none () Set.univ := fun t => by
  rw [bigSep_W0, bigSep_W0, row_of_table]
  exact triple_restated (point m c t) rfl .rfl fun _ => .rfl

theorem enter : Pipeline.ΦA spec0 c ⊢ (dats m 0 c).Φ 0 := by
  rw [show (dats m 0 c).Φ 0 = between m c 0 (Nat.zero_le _) from rfl, between_zero m c 0 _ rfl]

theorem leave : (dats m 0 c).Φ (Fin.last cfg0.N) ⊢ Pipeline.ΦA spec0 c := by
  rw [show (dats m 0 c).Φ (Fin.last cfg0.N) = iprop(owns (c : Thread nD τ) (Memref.whole cc0_scratch0) fullShare (kept m c ⟨13, by decide⟩) ∗ (∃ r, prngReg c r)) from rfl,
    start_eq]
  iintro ⟨HS, Hg⟩
  isplitl [HS]; · iexists _; iexact HS
  iexact Hg

/-! ## The call -/

set_option backward.isDefEq.respectTransparency.types false in
/-- The call runs, ends with every array at what the points leave in it, and no signal pending. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hin := enter m) (hout := leave m)

/-- The call runs, leaves its arguments alone and no signal pending. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (entry m) ((θ_run defs _ _).mono (fun _ h => h.1) (run m ρ))) ((θ_run defs _ _).mono (fun _ h => h.2) (run m ρ))

/-- The call runs and ends with its results at what the points leave in them and its arguments as they were. -/
theorem run_blocks : θ_run defs (onTc (τ := τ) (main (F := F))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.2.1 c).1 5, (h.2.1 c).1 6, h.1.1 c⟩) (θ_run_and (frame_any m ρ) (run m ρ))

end Cert.Norm.In

end
-- ==== Proof.Norm.In.lean ====
/-
  The normalised rows and their product with the weights of the combined projection, as the call computes them.
-/
module

public import proofs.«01_k».proof.Defs
public import proofs.«01_k».proof.Proof.Norm.Spec
public import proofs.«01_k».proof.Proof.Norm.InRun
public import proofs.«01_k».proof.Proof.Gen.NormIn.Frame
public import proofs.«01_k».proof.Proof.Gen.NormInRefIdeal.Run
public import proofs.«01_k».proof.Proof.Gen.NormInRefIdeal.Read

@[expose] public section

set_option maxRecDepth 16384

noncomputable section

namespace Cert.Norm.In

open Idealize.ShloMosaic Idealize.ShloMosaic.TcCoe Idealize.SL.Sem

section Kernel

open Cert.NormInIdeal Cert.NormInIdeal.Gen

/-! ## What a point computes -/

theorem rows_at (x : FVec Ideal S2048x1024 .f32) (w s b : FVec Ideal S1x1024 .f32) (i : S2048x1024.Idx) :
    (k0_pay1 (F := Ideal) x w s b : FVec Ideal S2048x1024 .bf16) i = normed x w s b (i 0) (i 1) := by
  idx_vars i
  unfold normed scale
  pointwise [k0_pay1]

theorem kept_at (x : FVec Ideal S2048x1024 .f32) (w s b : FVec Ideal S1x1024 .f32) (i : S2048x1024.Idx) :
    (k0_pay2 (F := Ideal) x w s b : FVec Ideal S2048x1024 .bf16) i = normed x w s b (i 0) (i 1) := by
  rw [← rows_at]
  unfold k0_pay2
  rw [shapeCast_self]

/-- The kept rows against the rows of the weights. -/
def rowDot (h : FVec Ideal S2048x1024 .bf16) (u : FVec Ideal S768x1024 .bf16) (r : Fin 2048) (j : Fin 768) : EReal :=
  ∑ k : Fin 1024, h (ix2 r k) * u (ix2 j k)

theorem product_at (h : FVec Ideal S2048x1024 .bf16) (u : FVec Ideal S768x1024 .bf16) (i : S2048x768.Idx) :
    (k0_pay3 (F := Ideal) h u : FVec Ideal S2048x768 .bf16) i = rowDot h u (i 0) (i 1) := by
  unfold rowDot
  pointwise [k0_pay3]

/-! ## The arguments -/

variable (m : (ℓ : Loc nD τ sig) → Buf (Elt Ideal) ℓ) (c : Dev nD)

/-- The rows to normalise. -/
def x : FVec Ideal S4096x1024 .f32 := m ((c : Thread nD τ).loc main_arg0)
/-- The weights of the normalisation. -/
def nw : FVec Ideal S1x1024 .f32 := m ((c : Thread nD τ).loc main_arg1)
/-- The modulation's scales. -/
def sc : FVec Ideal S1x1024 .f32 := m ((c : Thread nD τ).loc main_arg2)
/-- The modulation's shifts. -/
def sh : FVec Ideal S1x1024 .f32 := m ((c : Thread nD τ).loc main_arg3)
/-- The weights of the projection, transposed. -/
def wt : FVec Ideal S5376x1024 .bf16 := m ((c : Thread nD τ).loc main_arg4)

/-- Which tile of each argument and result a grid point takes. -/
theorem idx : ∀ t : Fin cfg0.N, win0_0.index t = ![t.val / 7, 0] ∧ win0_1.index t = ![0, 0] ∧ win0_2.index t = ![0, 0] ∧ win0_3.index t = ![0, 0]
    ∧ win0_4.index t = ![t.val % 7, 0] ∧ win0_5.index t = ![t.val / 7, 0] ∧ win0_6.index t = ![t.val / 7, t.val % 7] :=
  (by decide +kernel : ∀ t : Fin grid0.N, _)

variable (t : Fin cfg0.N)

/-- A row of the point's block, as a row of the array. -/
def rowAt (r : Fin 2048) : Fin 4096 := ⟨2048 * (t.val / 7) + r.val, by have : t.val < 14 := t.isLt; have := r.isLt; omega⟩
/-- A column of the point's block, as a column of the array. -/
def colAt (j : Fin 768) : Fin 5376 := ⟨768 * (t.val % 7) + j.val, by have := j.isLt; omega⟩

theorem x_block (r : Fin 2048) (k : Fin 1024) : (iblk m c 0 t : FVec Ideal S2048x1024 .f32) (ix2 r k) = x m c (ix2 (rowAt t r) k) := by
  unfold x rowAt; blk_ext [iblk, V, idx t]
theorem nw_block (i : S1x1024.Idx) : (iblk m c 1 t : FVec Ideal S1x1024 .f32) i = nw m c i := by
  unfold nw; blk_ext [iblk, V, idx t]
theorem sc_block (i : S1x1024.Idx) : (iblk m c 2 t : FVec Ideal S1x1024 .f32) i = sc m c i := by
  unfold sc; blk_ext [iblk, V, idx t]
theorem sh_block (i : S1x1024.Idx) : (iblk m c 3 t : FVec Ideal S1x1024 .f32) i = sh m c i := by
  unfold sh; blk_ext [iblk, V, idx t]
theorem wt_block (j : Fin 768) (k : Fin 1024) : (iblk m c 4 t : FVec Ideal S768x1024 .bf16) (ix2 j k) = wt m c (ix2 (colAt t j) k) := by
  unfold wt colAt; blk_ext [iblk, V, idx t]

/-- A block's normalised row is the array's. -/
theorem normed_block (r : Fin 2048) (k : Fin 1024) : normed (n := 2048) (iblk m c 0 t) (iblk m c 1 t) (iblk m c 2 t) (iblk m c 3 t) r k
    = normed (x m c) (nw m c) (sc m c) (sh m c) (rowAt t r) k :=
  normed_congr (fun k => x_block m c t r k) (funext (nw_block m c t)) (funext (sc_block m c t)) (funext (sh_block m c t)) k

/-! ## What a point leaves -/

theorem rows_point (r : Fin 2048) (k : Fin 1024) : (rows m c t : FVec Ideal S2048x1024 .bf16) (ix2 r k)
    = normedRows (x m c) (nw m c) (sc m c) (sh m c) (ix2 (rowAt t r) k) :=
  (rows_at _ _ _ _ _).trans (normed_block m c t r k)

theorem kept_point (r : Fin 2048) (k : Fin 1024) : (kept m c t : FVec Ideal S2048x1024 .bf16) (ix2 r k)
    = normed (x m c) (nw m c) (sc m c) (sh m c) (rowAt t r) k :=
  (kept_at _ _ _ _ _).trans (normed_block m c t r k)

theorem product_point (r : Fin 2048) (j : Fin 768) : (k0_pay3 (F := Ideal) (kept m c t) (iblk m c 4 t) : FVec Ideal S2048x768 .bf16) (ix2 r j)
    = normedProduct (x m c) (nw m c) (sc m c) (sh m c) (wt m c) (ix2 (rowAt t r) (colAt t j)) :=
  (product_at _ _ _).trans (Finset.sum_congr rfl fun k _ => congrArg₂ (· * ·) (kept_point m c t r k) (wt_block m c t j k))

/-! ## The results -/

theorem rows_final : (dats m 0 c).arrAt 5 cfg0.N = normedRows (x m c) (nw m c) (sc m c) (sh m c) := by
  refine (dats m 0 c).arrAt_eq_of_covers 5 _ (by decide +kernel) fun t hf y => ?_
  blk_simp
  rw [after5]
  refine Eq.trans (congrArg (rows m c t) (ix2_eta (n0 := 2048) (n1 := 1024) _).symm) ((rows_point m c t _ _).trans ?_)
  unfold rowAt
  blk_ext [idx t]

theorem product_final : (dats m 0 c).arrAt 6 cfg0.N = normedProduct (x m c) (nw m c) (sc m c) (sh m c) (wt m c) := by
  refine (dats m 0 c).arrAt_eq_of_covers 6 _ (by decide +kernel) fun t hf y => ?_
  blk_simp
  rw [after6]
  refine Eq.trans (congrArg (k0_pay3 (F := Ideal) (kept m c t) (iblk m c 4 t)) (ix2_eta (n0 := 2048) (n1 := 768) _).symm) ((product_point m c t _ _).trans ?_)
  unfold rowAt colAt
  blk_ext [idx t]

end Kernel

section Reference

open Cert.NormInRefIdeal Cert.NormInRefIdeal.Read

variable (x : FVec Ideal S4096x1024 .f32) (w s b : FVec Ideal S1x1024 .f32) (u : FVec Ideal S5376x1024 .bf16)

theorem ref_rows (i : S4096x1024.Idx) : val_main_v19 (F := Ideal) x w s b i = normed x w s b (i 0) (i 1) := by
  idx_vars i
  unfold normed scale
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem ref_result : val_main_v20 (F := Ideal) x w s b = normedRows x w s b := funext fun i => ref_rows x w s b i

theorem ref_product : val_main_v24 (F := Ideal) x w s b u = normedProduct x w s b u := by
  funext i
  idx_vars i
  unfold normedProduct
  pointwise [val_main_v24, val_main_v23, val_main_v22, val_main_v21]
  exact Finset.sum_congr rfl fun k _ => congrArg (· * u (ix2 i1 k)) (ref_rows x w s b (ix2 i0 k))

end Reference

/-- The call as printed has the bodies of the idealized call's text, -/
theorem bodies : Cert.NormIn.defs₀ (F := Bits) = Cert.NormInIdeal.defs₀ (F := Bits) := by
  unfold Cert.NormIn.defs₀ Cert.NormInIdeal.defs₀
  refine congrArg Defs.onTc (funext fun l => funext fun a => ?_)
  match l, a with
  | 0, (t, s) => rfl

/-- and so all its functions. -/
theorem functions : Cert.NormIn.defs (F := Bits) = Cert.NormInIdeal.defs (F := Bits) :=
  congrArg (Pipeline.defs Cert.NormInIdeal.pcfgs) bodies

/-- The call as printed runs, leaves its arguments alone and no signal pending. -/
theorem frame : Cert.quiescent_NormIn := fun m ρ _ => functions ▸ frame_any (F := Bits) m ρ

/-- So does the idealized call. -/
theorem frame_ideal : Cert.quiescent_NormInIdeal := fun m ρ _ => frame_any (F := Ideal) m ρ

/-- So does the reference. -/
theorem frame_ref : Cert.quiescent_NormInRefIdeal := fun m ρ _ =>
  (θ_run Cert.NormInRefIdeal.defs _ _).mono (fun r h => ⟨fun c => (h c).2.2, sem_eq_zero_of_no_sems (by decide) r.2⟩)
    (Cert.NormInRefIdeal.Value.run (F := Ideal) m ρ)

/-- On equal arguments the call and the reference end with equal normalised rows and equal products. -/
theorem algebraic : Cert.algebraic_NormInIdeal_NormInRefIdeal := by
  intro m g m' g' _ hagree
  refine ⟨_, _, run_blocks m g,
    (θ_run Cert.NormInRefIdeal.defs _ _).mono (fun r h c =>
      ⟨((h c).1.trans (Cert.NormInRefIdeal.Read.val_main_v20_eq _ _ _ _)).trans ?_,
        ((h c).2.1.trans (Cert.NormInRefIdeal.Read.val_main_v24_eq _ _ _ _ _)).trans ?_, (h c).2.2⟩)
      (Cert.NormInRefIdeal.Value.run (F := Ideal) m' g')⟩
  · rw [(hagree c).1, (hagree c).2.1, (hagree c).2.2.1, (hagree c).2.2.2.1]
    exact (ref_result ..).trans (rows_final m c).symm
  · rw [(hagree c).1, (hagree c).2.1, (hagree c).2.2.1, (hagree c).2.2.2.1, (hagree c).2.2.2.2]
    exact (ref_product ..).trans (product_final m c).symm

end Cert.Norm.In

end
-- ==== Proof.Norm.FfnRun.lean ====
/-
  The normalised rows and their two products, point by point. At the first point of a block of rows the call normalises the
  block, keeps it in a buffer of its own and in the first result's buffer; at every point it multiplies the kept rows by the
  point's block of each of two matrices of weights. So at each point both buffers hold the normalised rows of the point's block.
-/
module

public import proofs.«01_k».proof.Proof.Gen.NormFfnIdeal.Frame
public import proofs.«01_k».proof.Proof.Gen.NormFfnIdeal.Skeleton
public import Idealize.ShloMosaic.Lib.Pipeline.ValueKit
public import Idealize.ShloMosaic.Lib.Pipeline.ReadBack
public import Idealize.ShloMosaic.Lib.Pipeline.TableIdle
public import Idealize.ShloMosaic.Lib.VecWindow
public import Idealize.ShloMosaic.Lib.Claim
public import Idealize.ShloMosaic.Lib.Quiescent

@[expose] public section

set_option maxRecDepth 16384

noncomputable section

namespace Cert.Norm.Ffn

open Cert.NormFfnIdeal Cert.NormFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The states the assertions speak of. -/
abbrev World (F : FTy → Type) : Type := MT nD τ sig Unit (Elt F) ℕ (UR sig nD τ) ℕ

/-! ## Where a block of rows begins -/

/-- A point begins a block of rows. -/
abbrev begins (i : grid0.Coords) : Prop := (Scalar.cmpi .ne (Scalar.extui (Scalar.cmpi .eq (BitVec.ofNat 32 (i 1).val) 0#32)) 0#32) = 1#1

theorem begins_iff (t : Fin grid0.N) : begins (grid0.coords t) ↔ t.val % 2 = 0 := by
  have ht : t.val < 8 := Nat.lt_of_lt_of_eq t.isLt N_0
  have e1 : (grid0.coords t 1).val = t.val / 1 % 2 := Pipeline.Grid.coords_val t 1 (by decide) rfl
  simp only [begins, e1]
  word_cmp

/-- A load of a whole buffer reads what the buffer holds. -/
theorem load_whole {sp : Space} {d : Shape} {e : EltTy} {r : Memref sig .tc sp d e} (h : r.IsWhole) (X : Vec F d e) {off : Fin d.rank → ℕ}
    (inb : ∀ a, off a + d.size a ≤ d.size a) : r.view.readAt (Elt F) (Rect.unit off d.size inb).toLoadRect (h.unread X) = X := by
  rw [View.readAt_full, h.read_unread]

/-! ## The body -/

section Body

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1408x1024 .bf16) (harg6 : arg6.IsWhole)
  (arg7 : Memref sig .tc .vmem S1408x1024 .bf16) (harg7 : arg7.IsWhole)
  (arg8 : Memref sig .tc .vmem S1024x1024 .bf16) (harg8 : arg8.IsWhole) (arg9 : Memref sig .tc .vmem S1024x1408 .bf16) (harg9 : arg9.IsWhole)
  (arg10 : Memref sig .tc .vmem S1024x1408 .bf16) (harg10 : arg10.IsWhole) (arg11 : Memref sig .tc .vmem S1024x1024 .bf16) (harg11 : arg11.IsWhole)
  (x : Vec F S1024x1024 .f32) (w s b : Vec F S1x1024 .f32) (k l : Vec F S1408x1024 .bf16)

/-- What the body holds: the six inputs, the three results' buffers and its own. -/
def held (x : Vec F S1024x1024 .f32) (w s b : Vec F S1x1024 .f32) (k l : Vec F S1408x1024 .bf16) (P8 P9 P10 P11 : sProp (World F)) : sProp (World F) :=
  iprop(owns (c : Thread nD τ) arg2 fullShare x ∗ owns (c : Thread nD τ) arg3 fullShare w ∗ owns (c : Thread nD τ) arg4 fullShare s
    ∗ owns (c : Thread nD τ) arg5 fullShare b ∗ owns (c : Thread nD τ) arg6 fullShare k ∗ owns (c : Thread nD τ) arg7 fullShare l ∗ P8 ∗ P9 ∗ P10 ∗ P11)

/-- Where a block begins, the body leaves the normalised rows in the first result's buffer and its own, and their products in the other two's. -/
theorem body_begins (hc : begins i) (E : Set ℕ) (K : PUnit → sProp (World F)) :
    iprop(held c arg2 arg3 arg4 arg5 arg6 arg7 x w s b k l (iprop(∃ d, owns (c : Thread nD τ) arg8 fullShare d)) (iprop(∃ d, owns (c : Thread nD τ) arg9 fullShare d))
          (iprop(∃ d, owns (c : Thread nD τ) arg10 fullShare d)) (iprop(∃ d, owns (c : Thread nD τ) arg11 fullShare d))
        ∗ (held c arg2 arg3 arg4 arg5 arg6 arg7 x w s b k l (owns (c : Thread nD τ) arg8 fullShare (k0_pay1 x w s b))
            (owns (c : Thread nD τ) arg9 fullShare (k0_pay3 (k0_pay2 x w s b) k)) (owns (c : Thread nD τ) arg10 fullShare (k0_pay4 (k0_pay2 x w s b) l))
            (owns (c : Thread nD τ) arg11 fullShare (k0_pay2 x w s b)) -∗ K ⟨⟩))
      ⊢ wp frame (wpE (defs₀ (F := F)) Variants.none c none) E (cc0_mm_gu i arg2 harg2 arg3 harg3 arg4 harg4 arg5 harg5 arg6 harg6 arg7 harg7 arg8 harg8 arg9 harg9 arg10 harg10 arg11 harg11) K := by
  simp only [cc0_mm_gu_eq_skeleton]; unfold cc0_mm_gu_skel held
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full, load_whole, load_whole, load_whole, load_whole]
  isplitl [H7]
  · iexists _; isplitr
    swap; · iexact H7
    ipureintro
    unfold body_begins.sl.v3 body_begins.sl.HS0_1
    rw [View.read_writes_full, load_whole, View.readCov_full, load_whole, load_whole, load_whole, load_whole]
  isplitl [H8]
  · iexists _; isplitr
    swap; · iexact H8
    ipureintro
    unfold body_begins.sl.v3 body_begins.sl.HS0_1
    rw [View.read_writes_full, load_whole, View.readCov_full, load_whole, load_whole, load_whole, load_whole]
  iexists _; isplitr
  swap; · iexact HS0
  ipureintro
  unfold body_begins.sl.HS0_1
  rw [View.read_writes_full, load_whole, load_whole, load_whole, load_whole]

/-- Elsewhere, the body leaves the first result's buffer and its own as they are, and the products of the kept rows in the other two's. -/
theorem body_goes_on (hc : ¬begins i) (h h' : Vec F S1024x1024 .bf16) (E : Set ℕ) (K : PUnit → sProp (World F)) :
    iprop(held c arg2 arg3 arg4 arg5 arg6 arg7 x w s b k l (owns (c : Thread nD τ) arg8 fullShare h) (iprop(∃ d, owns (c : Thread nD τ) arg9 fullShare d))
          (iprop(∃ d, owns (c : Thread nD τ) arg10 fullShare d)) (owns (c : Thread nD τ) arg11 fullShare h')
        ∗ (held c arg2 arg3 arg4 arg5 arg6 arg7 x w s b k l (owns (c : Thread nD τ) arg8 fullShare h)
            (owns (c : Thread nD τ) arg9 fullShare (k0_pay3 h' k)) (owns (c : Thread nD τ) arg10 fullShare (k0_pay4 h' l)) (owns (c : Thread nD τ) arg11 fullShare h') -∗ K ⟨⟩))
      ⊢ wp frame (wpE (defs₀ (F := F)) Variants.none c none) E (cc0_mm_gu i arg2 harg2 arg3 harg3 arg4 harg4 arg5 harg5 arg6 harg6 arg7 harg7 arg8 harg8 arg9 harg9 arg10 harg10 arg11 harg11) K := by
  simp only [cc0_mm_gu_eq_skeleton]; unfold cc0_mm_gu_skel held
  unfold owns
  iintro ⟨⟨H0, H1, H2, H3, ⟨%f4, %hf4, H4⟩, ⟨%f5, %hf5, H5⟩, H6, ⟨%d7, %f7, -, H7⟩, ⟨%d8, %f8, -, H8⟩, ⟨%fs0, %hfs0, HS0⟩⟩, Hk⟩
  obtain rfl := harg6.eq_unread hf4; obtain rfl := harg7.eq_unread hf5; obtain rfl := harg11.eq_unread hfs0
  sl_exec (disch := first | sl_exact hc)
  sl_step
  iapply Hk
  isplitl [H0]; · iexact H0
  isplitl [H1]; · iexact H1
  isplitl [H2]; · iexact H2
  isplitl [H3]; · iexact H3
  isplitl [H4]
  · iexists _; isplitr; · ipureintro; exact harg6.read_unread _
    iexact H4
  isplitl [H5]
  · iexists _; isplitr; · ipureintro; exact harg7.read_unread _
    iexact H5
  isplitl [H6]; · iexact H6
  isplitl [H7]
  · iexists _; isplitr
    swap; · iexact H7
    ipureintro
    rw [View.read_writes_full, load_whole, load_whole]
  isplitl [H8]
  · iexists _; isplitr
    swap; · iexact H8
    ipureintro
    rw [View.read_writes_full, load_whole, load_whole]
  iexists _; isplitr; · ipureintro; exact harg11.read_unread _
  iexact HS0

end Body

/-! ## What the points leave -/

variable (m : (ℓ : Loc nD τ sig) → Buf (Elt F) ℓ) (ρ : Dev nD → PrngReg) (c : Dev nD)

/-- The normalised rows of the point's block. -/
def rows (t : Fin cfg0.N) : Vec F S1024x1024 .bf16 := k0_pay1 (iblk m c 0 t) (iblk m c 1 t) (iblk m c 2 t) (iblk m c 3 t)
/-- The same rows, as the body keeps them. -/
def kept (t : Fin cfg0.N) : Vec F S1024x1024 .bf16 := k0_pay2 (iblk m c 0 t) (iblk m c 1 t) (iblk m c 2 t) (iblk m c 3 t)

/-- The point before. -/
def prev (t : Fin cfg0.N) : Fin cfg0.N := ⟨t.val - 1, Nat.lt_of_le_of_lt (Nat.sub_le _ _) t.isLt⟩

/-- Which block of rows a point takes. -/
theorem rowIdx : ∀ t : Fin cfg0.N, win0_0.index t = ![t.val / 2, 0] ∧ win0_1.index t = ![0, 0] ∧ win0_2.index t = ![0, 0] ∧ win0_3.index t = ![0, 0] :=
  (by decide +kernel : ∀ t : Fin grid0.N, _)

/-- Within a block of rows the point before has the same rows and vectors. -/
theorem same (t : Fin cfg0.N) (h : ¬t.val % 2 = 0) : (iblk m c 0 (prev t) : Vec F S1024x1024 .f32) = iblk m c 0 t ∧ (iblk m c 1 (prev t) : Vec F S1x1024 .f32) = iblk m c 1 t
    ∧ (iblk m c 2 (prev t) : Vec F S1x1024 .f32) = iblk m c 2 t ∧ (iblk m c 3 (prev t) : Vec F S1x1024 .f32) = iblk m c 3 t := by
  have e : (prev t).val / 2 = t.val / 2 := by show (t.val - 1) / 2 = t.val / 2; omega
  refine ⟨?_, ?_, ?_, ?_⟩ <;> funext i <;> blk_ext [iblk, V, rowIdx t, rowIdx (prev t), e]

theorem rows_prev (t : Fin cfg0.N) (h : ¬t.val % 2 = 0) : rows m c (prev t) = rows m c t := by
  obtain ⟨h0, h1, h2, h3⟩ := same m c t h
  unfold rows
  rw [h0, h1, h2, h3]

theorem kept_prev (t : Fin cfg0.N) (h : ¬t.val % 2 = 0) : kept m c (prev t) = kept m c t := by
  obtain ⟨h0, h1, h2, h3⟩ := same m c t h
  unfold kept
  rw [h0, h1, h2, h3]

/-- Before the first point the body's own buffer holds anything; before another, the rows kept at the point before. -/
def between : (n : ℕ) → n ≤ cfg0.N → sProp (World F)
  | 0, _ => Pipeline.ΦA spec0 c
  | n + 1, hn => iprop(owns (c : Thread nD τ) (Memref.whole cc0_scratch0) fullShare (kept m c ⟨n, hn⟩) ∗ (∃ r, prngReg c r))

theorem between_zero (n : ℕ) (h : n ≤ cfg0.N) (hz : n = 0) : between m c n h = Pipeline.ΦA spec0 c := by subst hz; rfl

theorem between_pos (t : Fin cfg0.N) (hz : t.val ≠ 0) : between m c t.val (Nat.le_of_lt t.isLt)
    = iprop(owns (c : Thread nD τ) (Memref.whole cc0_scratch0) fullShare (kept m c (prev t)) ∗ (∃ r, prngReg c r)) := by
  obtain ⟨n, hn⟩ := t
  cases n with
  | zero => exact absurd rfl hz
  | succ n => rfl

/-- Before the first point: the body's own buffer at anything, and the generator's register. -/
theorem start_eq : (Pipeline.ΦA spec0 c : sProp (World F))
    = iprop((∃ d, owns (c : Thread nD τ) (Memref.whole cc0_scratch0) fullShare d) ∗ (∃ r, prngReg c r)) := by
  unfold Pipeline.ΦA; rw [scopedRest0_eq]; simp only [owns_whole]; try rfl

/-- The arrays as the call finds them; after each point the inputs' blocks, the normalised rows and their products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t
    | ⟨7, _⟩ => k0_pay3 (kept m c t) (iblk m c 4 t)
    | ⟨8, _⟩ => k0_pay4 (kept m c t) (iblk m c 5 t)
  Φ t := between m c t.val (Nat.le_of_lt_succ t.isLt)
  q _ := fullShare
  owed _ := 0

theorem entry (w : Fin cfg0.W) : (dats m 0 c).A w = V m c (Pipeline.arrRef spec0 w) := by dsimp only [dats]
theorem before_point (t : Fin cfg0.N) : (dats m 0 c).Φ t.castSucc = between m c t.val (Nat.le_of_lt t.isLt) := by
  dsimp only [dats]; exact Pipeline.Dat.Φ_castSucc (between m c) t

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = rows m c t := by dsimp only [dats]
theorem after7 (t : Fin cfg0.N) : (dats m 0 c).after 7 t = k0_pay3 (kept m c t) (iblk m c 4 t) := by dsimp only [dats]
theorem after8 (t : Fin cfg0.N) : (dats m 0 c).after 8 t = k0_pay4 (kept m c t) (iblk m c 5 t) := by dsimp only [dats]

theorem before0 (t : Fin cfg0.N) (d) : (dats m 0 c).before 0 t d = iblk m c 0 t := before0_0_of m (dats m 0 c) (entry m c 0) (after0 m c) t d
theorem before1 (t : Fin cfg0.N) (d) : (dats m 0 c).before 1 t d = iblk m c 1 t := before0_1_of m (dats m 0 c) (entry m c 1) (after1 m c) t d
theorem before2 (t : Fin cfg0.N) (d) : (dats m 0 c).before 2 t d = iblk m c 2 t := before0_2_of m (dats m 0 c) (entry m c 2) (after2 m c) t d
theorem before3 (t : Fin cfg0.N) (d) : (dats m 0 c).before 3 t d = iblk m c 3 t := before0_3_of m (dats m 0 c) (entry m c 3) (after3 m c) t d
theorem before4 (t : Fin cfg0.N) (d) : (dats m 0 c).before 4 t d = iblk m c 4 t := before0_4_of m (dats m 0 c) (entry m c 4) (after4 m c) t d
theorem before5 (t : Fin cfg0.N) (d) : (dats m 0 c).before 5 t d = iblk m c 5 t := before0_5_of m (dats m 0 c) (entry m c 5) (after5 m c) t d

/-- Only where a block of rows begins does the first result's buffer hold nothing of the block. -/
theorem empty_at (n : ℕ) (hn : n ≤ cfg0.N) : cfg0.fresh 6 n = decide (n % 2 = 0) :=
  Cfg.fresh_tab (cfg := cfg0) 6 (fun n => decide (n % 2 = 0)) rfl (by decide +kernel) n hn

/-- Within a block of rows the first result's buffer still holds the rows. -/
theorem before6 (t : Fin cfg0.N) (h : ¬t.val % 2 = 0) (d) : (dats m 0 c).before 6 t d = rows m c t := by
  have hcarry : ∀ (u : Fin cfg0.N) (_ : u.val ≠ 0), cfg0.idle 6 (cfg0.grid.coords u) = true → cfg0.fresh 6 u.val = false →
      (dats m 0 c).after 6 u = (dats m 0 c).after 6 (prev u) := fun u _ _ hf => by
    rw [empty_at _ (Nat.le_of_lt u.isLt)] at hf
    rw [after6, after6, rows_prev m c u (of_decide_eq_false hf)]
  rw [(dats m 0 c).before_out_traj 6 rfl (fun _ _ => rfl) hcarry t.val t rfl d, empty_at _ (Nat.le_of_lt t.isLt), if_neg (by simpa using h)]
  exact (after6 m c (prev t)).trans (rows_prev m c t h)

/-! ## The points in turn -/

abbrev st0 (t : Fin cfg0.N) : Memref sig .tc .vmem S1024x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1x1024 .f32 := win0_2.stage (cfg0.slots t 2)
abbrev st3 (t : Fin cfg0.N) : Memref sig .tc .vmem S1x1024 .f32 := win0_3.stage (cfg0.slots t 3)
abbrev st4 (t : Fin cfg0.N) : Memref sig .tc .vmem S1408x1024 .bf16 := win0_4.stage (cfg0.slots t 4)
abbrev st5 (t : Fin cfg0.N) : Memref sig .tc .vmem S1408x1024 .bf16 := win0_5.stage (cfg0.slots t 5)
abbrev st6 (t : Fin cfg0.N) : Memref sig .tc .vmem S1024x1024 .bf16 := win0_6.stage (cfg0.slots t 6)
abbrev st7 (t : Fin cfg0.N) : Memref sig .tc .vmem S1024x1408 .bf16 := win0_7.stage (cfg0.slots t 7)
abbrev st8 (t : Fin cfg0.N) : Memref sig .tc .vmem S1024x1408 .bf16 := win0_8.stage (cfg0.slots t 8)

/-- What the body is called with at a point, -/
def given (t : Fin cfg0.N) : sProp (World F) :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- What it gives back of the first result: where it stores nothing and nothing is written back, the buffer as found. -/
def first (t : Fin cfg0.N) : sProp (World F) :=
  match cfg0.idle 6 (cfg0.grid.coords t) with
  | true =>
    match (cfg0.win 6).flush t with
    | false => iprop(∃ d, owns (c : Thread nD τ) (st6 t) fullShare ((dats m 0 c).before 6 t d))
    | true => owns (c : Thread nD τ) (st6 t) fullShare ((dats m 0 c).after 6 t)
  | false => owns (c : Thread nD τ) (st6 t) fullShare ((dats m 0 c).after 6 t)

/-- The rows in the first result's buffer are what is asked. -/
theorem first_of_rows (t : Fin cfg0.N) : owns (c : Thread nD τ) (st6 t) fullShare (rows m c t) ⊢ first m c t := by
  unfold first
  split
  · rename_i hi
    have h : ¬t.val % 2 = 0 := fun e => by
      have hb := (begins_iff t).mpr e
      have hi' : (!(k0_cond1 (grid0.coords t) == 1#1)) = true := hi
      rw [show k0_cond1 (grid0.coords t) = 1#1 from hb] at hi'
      exact absurd hi' (by decide)
    split
    · simp only [before6 m c t h]
      iintro H
      iexists (fun _ => default)
      iexact H
    · rw [after6]
  · rw [after6]

/-- and what it gives back. -/
def returned (t : Fin cfg0.N) : sProp (World F) :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ first m c t
    ∗ owns (c : Thread nD τ) (st7 t) fullShare ((dats m 0 c).after 7 t)
    ∗ owns (c : Thread nD τ) (st8 t) fullShare ((dats m 0 c).after 8 t))

/-- Before any point the body's own buffer holds something. -/
theorem between_any (t : Fin cfg0.N) : between m c t.val (Nat.le_of_lt t.isLt)
    ⊢ iprop((∃ d, owns (c : Thread nD τ) (Memref.whole cc0_scratch0) fullShare d) ∗ (∃ r, prngReg c r)) := by
  by_cases hz : t.val = 0
  · rw [between_zero m c _ _ hz, start_eq]
  · rw [between_pos m c t hz]
    iintro ⟨HS, Hg⟩
    isplitl [HS]; · iexists _; iexact HS
    iexact Hg

/-- At any point the body gives back the inputs, the rows and their products. -/
theorem point (t : Fin cfg0.N) :
    given m c t ⊢ wp frame (wpE (defs₀ (F := F)) Variants.none c none) Set.univ (bodyAt0 t) (fun _ => returned m c t) := by
  unfold given returned bodyAt0
  simp only [before0, before1, before2, before3, before4, before5]
  rw [show (dats m 0 c).owesAt () t.succ = (dats m 0 c).owesAt () t.castSucc from rfl,
    after0, after1, after2, after3, after4, after5, after7, after8, before_point,
    show (dats m 0 c).Φ t.succ = iprop(owns (c : Thread nD τ) (Memref.whole cc0_scratch0) fullShare (kept m c t) ∗ (∃ r, prngReg c r)) from rfl]
  by_cases h : t.val % 2 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := (between_any m c t) $$ HΦ
    icases HΦ with ⟨HS, Hg⟩
    iapply (body_begins c (grid0.coords t) _ _ _ _ _ _ _ _ _ _ _ _ _ _ _ _ _ _ _ _ (iblk m c 0 t) (iblk m c 1 t) (iblk m c 2 t) (iblk m c 3 t) (iblk m c 4 t) (iblk m c 5 t)
      ((begins_iff t).mpr h) Set.univ _)
    unfold held
    isplitl [H0 H1 H2 H3 H4 H5 H6 H7 H8 HS]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (first_of_rows m c t); iexact H6
    isplitl [H7]; · iexact H7
    iexact H8
  · have hz : t.val ≠ 0 := fun e => h (by rw [e])
    simp only [before6 m c t h]
    rw [between_pos m c t hz, kept_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_goes_on c (grid0.coords t) _ _ _ _ _ _ _ _ _ _ _ _ _ _ _ _ _ _ _ _ (iblk m c 0 t) (iblk m c 1 t) (iblk m c 2 t) (iblk m c 3 t) (iblk m c 4 t) (iblk m c 5 t)
      (fun e => h ((begins_iff t).mp e)) (rows m c t) (kept m c t) Set.univ _)
    unfold held
    isplitl [H0 H1 H2 H3 H4 H5 H6 H7 H8 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (first_of_rows m c t); iexact H6
    isplitl [H7]; · iexact H7
    iexact H8

theorem row_of_table (t : Fin cfg0.N) : defs₀ (F := F) .tc cfg0.body (cfg0.bodyArgs t (cfg0.slots t)) = bodyAt0 t := by
  unfold defs₀; rw [Defs.onTc_tc]

/-- So every point does what is asked of it. -/
theorem obligation : BodyObligation (dats (F := F) m 0 c) (defs₀ (F := F)) Variants.none () Set.univ := fun t => by
  rw [bigSep_W0, bigSep_W0, row_of_table]
  exact triple_restated (point m c t) rfl .rfl fun _ => .rfl

theorem enter : Pipeline.ΦA spec0 c ⊢ (dats m 0 c).Φ 0 := by
  rw [show (dats m 0 c).Φ 0 = between m c 0 (Nat.zero_le _) from rfl, between_zero m c 0 _ rfl]

theorem leave : (dats m 0 c).Φ (Fin.last cfg0.N) ⊢ Pipeline.ΦA spec0 c := by
  rw [show (dats m 0 c).Φ (Fin.last cfg0.N) = iprop(owns (c : Thread nD τ) (Memref.whole cc0_scratch0) fullShare (kept m c ⟨7, by decide⟩) ∗ (∃ r, prngReg c r)) from rfl,
    start_eq]
  iintro ⟨HS, Hg⟩
  isplitl [HS]; · iexists _; iexact HS
  iexact Hg

/-! ## The call -/

set_option backward.isDefEq.respectTransparency.types false in
/-- The call runs, ends with every array at what the points leave in it, and no signal pending. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hin := enter m) (hout := leave m)

/-- The call runs, leaves its arguments alone and no signal pending. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry m) ((θ_run defs _ _).mono (fun _ h => h.1) (run m ρ))) ((θ_run defs _ _).mono (fun _ h => h.2) (run m ρ))

/-- The call runs and ends with its results at what the points leave in them and its arguments as they were. -/
theorem run_blocks : θ_run defs (onTc (τ := τ) (main (F := F))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2.1 c).1 6, (h.2.1 c).1 7, (h.2.1 c).1 8, h.1.1 c⟩) (θ_run_and (frame_any m ρ) (run m ρ))

end Cert.Norm.Ffn

end
-- ==== Proof.Norm.Ffn.lean ====
/-
  The normalised rows and their products with the gate's and the up projection's weights, as the call computes them.
-/
module

public import proofs.«01_k».proof.Defs
public import proofs.«01_k».proof.Proof.Norm.Spec
public import proofs.«01_k».proof.Proof.Norm.FfnRun
public import proofs.«01_k».proof.Proof.Gen.NormFfn.Frame
public import proofs.«01_k».proof.Proof.Gen.NormFfnRefIdeal.Run
public import proofs.«01_k».proof.Proof.Gen.NormFfnRefIdeal.Read

@[expose] public section

set_option maxRecDepth 16384

noncomputable section

namespace Cert.Norm.Ffn

open Idealize.ShloMosaic Idealize.ShloMosaic.TcCoe Idealize.SL.Sem

section Kernel

open Cert.NormFfnIdeal Cert.NormFfnIdeal.Gen

/-! ## What a point computes -/

theorem rows_at (x : FVec Ideal S1024x1024 .f32) (w s b : FVec Ideal S1x1024 .f32) (i : S1024x1024.Idx) :
    (k0_pay1 (F := Ideal) x w s b : FVec Ideal S1024x1024 .bf16) i = normed x w s b (i 0) (i 1) := by
  idx_vars i
  unfold normed scale
  pointwise [k0_pay1]

theorem kept_at (x : FVec Ideal S1024x1024 .f32) (w s b : FVec Ideal S1x1024 .f32) (i : S1024x1024.Idx) :
    (k0_pay2 (F := Ideal) x w s b : FVec Ideal S1024x1024 .bf16) i = normed x w s b (i 0) (i 1) := by
  rw [← rows_at]
  unfold k0_pay2
  rw [shapeCast_self]

/-- The kept rows against the rows of the weights. -/
def rowDot (h : FVec Ideal S1024x1024 .bf16) (u : FVec Ideal S1408x1024 .bf16) (r : Fin 1024) (j : Fin 1408) : EReal :=
  ∑ k : Fin 1024, h (ix2 r k) * u (ix2 j k)

theorem product_at (h : FVec Ideal S1024x1024 .bf16) (u : FVec Ideal S1408x1024 .bf16) (i : S1024x1408.Idx) :
    (k0_pay3 (F := Ideal) h u : FVec Ideal S1024x1408 .bf16) i = rowDot h u (i 0) (i 1) := by
  unfold rowDot
  pointwise [k0_pay3]

theorem product_at' (h : FVec Ideal S1024x1024 .bf16) (u : FVec Ideal S1408x1024 .bf16) (i : S1024x1408.Idx) :
    (k0_pay4 (F := Ideal) h u : FVec Ideal S1024x1408 .bf16) i = rowDot h u (i 0) (i 1) := product_at h u i

/-! ## The arguments -/

variable (m : (ℓ : Loc nD τ sig) → Buf (Elt Ideal) ℓ) (c : Dev nD)

/-- The rows to normalise. -/
def x : FVec Ideal S4096x1024 .f32 := m ((c : Thread nD τ).loc main_arg0)
/-- The weights of the normalisation. -/
def nw : FVec Ideal S1x1024 .f32 := m ((c : Thread nD τ).loc main_arg1)
/-- The modulation's scales. -/
def sc : FVec Ideal S1x1024 .f32 := m ((c : Thread nD τ).loc main_arg2)
/-- The modulation's shifts. -/
def sh : FVec Ideal S1x1024 .f32 := m ((c : Thread nD τ).loc main_arg3)
/-- The gate's weights, transposed. -/
def wg : FVec Ideal S2816x1024 .bf16 := m ((c : Thread nD τ).loc main_arg4)
/-- The up projection's weights, transposed. -/
def wu : FVec Ideal S2816x1024 .bf16 := m ((c : Thread nD τ).loc main_arg5)

/-- Which tile of each argument and result a grid point takes. -/
theorem idx : ∀ t : Fin cfg0.N, win0_0.index t = ![t.val / 2, 0] ∧ win0_1.index t = ![0, 0] ∧ win0_2.index t = ![0, 0] ∧ win0_3.index t = ![0, 0]
    ∧ win0_4.index t = ![t.val % 2, 0] ∧ win0_5.index t = ![t.val % 2, 0] ∧ win0_6.index t = ![t.val / 2, 0]
    ∧ win0_7.index t = ![t.val / 2, t.val % 2] ∧ win0_8.index t = ![t.val / 2, t.val % 2] :=
  (by decide +kernel : ∀ t : Fin grid0.N, _)

variable (t : Fin cfg0.N)

/-- A row of the point's block, as a row of the array. -/
def rowAt (r : Fin 1024) : Fin 4096 := ⟨1024 * (t.val / 2) + r.val, by have : t.val < 8 := t.isLt; have := r.isLt; omega⟩
/-- A column of the point's block, as a column of the array. -/
def colAt (j : Fin 1408) : Fin 2816 := ⟨1408 * (t.val % 2) + j.val, by have := j.isLt; omega⟩

theorem x_block (r : Fin 1024) (k : Fin 1024) : (iblk m c 0 t : FVec Ideal S1024x1024 .f32) (ix2 r k) = x m c (ix2 (rowAt t r) k) := by
  unfold x rowAt; blk_ext [iblk, V, idx t]
theorem nw_block (i : S1x1024.Idx) : (iblk m c 1 t : FVec Ideal S1x1024 .f32) i = nw m c i := by
  unfold nw; blk_ext [iblk, V, idx t]
theorem sc_block (i : S1x1024.Idx) : (iblk m c 2 t : FVec Ideal S1x1024 .f32) i = sc m c i := by
  unfold sc; blk_ext [iblk, V, idx t]
theorem sh_block (i : S1x1024.Idx) : (iblk m c 3 t : FVec Ideal S1x1024 .f32) i = sh m c i := by
  unfold sh; blk_ext [iblk, V, idx t]
theorem wg_block (j : Fin 1408) (k : Fin 1024) : (iblk m c 4 t : FVec Ideal S1408x1024 .bf16) (ix2 j k) = wg m c (ix2 (colAt t j) k) := by
  unfold wg colAt; blk_ext [iblk, V, idx t]
theorem wu_block (j : Fin 1408) (k : Fin 1024) : (iblk m c 5 t : FVec Ideal S1408x1024 .bf16) (ix2 j k) = wu m c (ix2 (colAt t j) k) := by
  unfold wu colAt; blk_ext [iblk, V, idx t]

/-- A block's normalised row is the array's. -/
theorem normed_block (r : Fin 1024) (k : Fin 1024) : normed (n := 1024) (iblk m c 0 t) (iblk m c 1 t) (iblk m c 2 t) (iblk m c 3 t) r k
    = normed (x m c) (nw m c) (sc m c) (sh m c) (rowAt t r) k :=
  normed_congr (fun k => x_block m c t r k) (funext (nw_block m c t)) (funext (sc_block m c t)) (funext (sh_block m c t)) k

/-! ## What a point leaves -/

theorem rows_point (r : Fin 1024) (k : Fin 1024) : (rows m c t : FVec Ideal S1024x1024 .bf16) (ix2 r k)
    = normedRows (x m c) (nw m c) (sc m c) (sh m c) (ix2 (rowAt t r) k) :=
  (rows_at _ _ _ _ _).trans (normed_block m c t r k)

theorem kept_point (r : Fin 1024) (k : Fin 1024) : (kept m c t : FVec Ideal S1024x1024 .bf16) (ix2 r k)
    = normed (x m c) (nw m c) (sc m c) (sh m c) (rowAt t r) k :=
  (kept_at _ _ _ _ _).trans (normed_block m c t r k)

theorem gate_point (r : Fin 1024) (j : Fin 1408) : (k0_pay3 (F := Ideal) (kept m c t) (iblk m c 4 t) : FVec Ideal S1024x1408 .bf16) (ix2 r j)
    = normedProduct (x m c) (nw m c) (sc m c) (sh m c) (wg m c) (ix2 (rowAt t r) (colAt t j)) :=
  (product_at _ _ _).trans (Finset.sum_congr rfl fun k _ => congrArg₂ (· * ·) (kept_point m c t r k) (wg_block m c t j k))

theorem up_point (r : Fin 1024) (j : Fin 1408) : (k0_pay4 (F := Ideal) (kept m c t) (iblk m c 5 t) : FVec Ideal S1024x1408 .bf16) (ix2 r j)
    = normedProduct (x m c) (nw m c) (sc m c) (sh m c) (wu m c) (ix2 (rowAt t r) (colAt t j)) :=
  (product_at' _ _ _).trans (Finset.sum_congr rfl fun k _ => congrArg₂ (· * ·) (kept_point m c t r k) (wu_block m c t j k))

/-! ## The results -/

theorem rows_final : (dats m 0 c).arrAt 6 cfg0.N = normedRows (x m c) (nw m c) (sc m c) (sh m c) := by
  refine (dats m 0 c).arrAt_eq_of_covers 6 _ (by decide +kernel) fun t hf y => ?_
  blk_simp
  rw [after6]
  refine Eq.trans (congrArg (rows m c t) (ix2_eta (n0 := 1024) (n1 := 1024) _).symm) ((rows_point m c t _ _).trans ?_)
  unfold rowAt
  blk_ext [idx t]

theorem gate_final : (dats m 0 c).arrAt 7 cfg0.N = normedProduct (x m c) (nw m c) (sc m c) (sh m c) (wg m c) := by
  refine (dats m 0 c).arrAt_eq_of_covers 7 _ (by decide +kernel) fun t hf y => ?_
  blk_simp
  rw [after7]
  refine Eq.trans (congrArg (k0_pay3 (F := Ideal) (kept m c t) (iblk m c 4 t)) (ix2_eta (n0 := 1024) (n1 := 1408) _).symm) ((gate_point m c t _ _).trans ?_)
  unfold rowAt colAt
  blk_ext [idx t]

theorem up_final : (dats m 0 c).arrAt 8 cfg0.N = normedProduct (x m c) (nw m c) (sc m c) (sh m c) (wu m c) := by
  refine (dats m 0 c).arrAt_eq_of_covers 8 _ (by decide +kernel) fun t hf y => ?_
  blk_simp
  rw [after8]
  refine Eq.trans (congrArg (k0_pay4 (F := Ideal) (kept m c t) (iblk m c 5 t)) (ix2_eta (n0 := 1024) (n1 := 1408) _).symm) ((up_point m c t _ _).trans ?_)
  unfold rowAt colAt
  blk_ext [idx t]

end Kernel

section Reference

open Cert.NormFfnRefIdeal Cert.NormFfnRefIdeal.Read

variable (x : FVec Ideal S4096x1024 .f32) (w s b : FVec Ideal S1x1024 .f32) (u : FVec Ideal S2816x1024 .bf16)

theorem ref_rows (i : S4096x1024.Idx) : val_main_v19 (F := Ideal) x w s b i = normed x w s b (i 0) (i 1) := by
  idx_vars i
  unfold normed scale
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem ref_result : val_main_v20 (F := Ideal) x w s b = normedRows x w s b := funext fun i => ref_rows x w s b i

theorem ref_product : val_main_v24 (F := Ideal) x w s b u = normedProduct x w s b u := by
  funext i
  idx_vars i
  unfold normedProduct
  pointwise [val_main_v24, val_main_v23, val_main_v22, val_main_v21]
  exact Finset.sum_congr rfl fun k _ => congrArg (· * u (ix2 i1 k)) (ref_rows x w s b (ix2 i0 k))

theorem ref_product' : val_main_v28 (F := Ideal) x w s b u = normedProduct x w s b u := ref_product x w s b u

end Reference

/-- The call as printed has the bodies of the idealized call's text, -/
theorem bodies : Cert.NormFfn.defs₀ (F := Bits) = Cert.NormFfnIdeal.defs₀ (F := Bits) := by
  unfold Cert.NormFfn.defs₀ Cert.NormFfnIdeal.defs₀
  refine congrArg Defs.onTc (funext fun l => funext fun a => ?_)
  match l, a with
  | 0, (t, s) => rfl

/-- and so all its functions. -/
theorem functions : Cert.NormFfn.defs (F := Bits) = Cert.NormFfnIdeal.defs (F := Bits) :=
  congrArg (Pipeline.defs Cert.NormFfnIdeal.pcfgs) bodies

/-- The call as printed runs, leaves its arguments alone and no signal pending. -/
theorem frame : Cert.quiescent_NormFfn := fun m ρ _ => functions ▸ frame_any (F := Bits) m ρ

/-- So does the idealized call. -/
theorem frame_ideal : Cert.quiescent_NormFfnIdeal := fun m ρ _ => frame_any (F := Ideal) m ρ

/-- So does the reference. -/
theorem frame_ref : Cert.quiescent_NormFfnRefIdeal := fun m ρ _ =>
  (θ_run Cert.NormFfnRefIdeal.defs _ _).mono (fun r h => ⟨fun c => (h c).2.2.2, sem_eq_zero_of_no_sems (by decide) r.2⟩)
    (Cert.NormFfnRefIdeal.Value.run (F := Ideal) m ρ)

/-- On equal arguments the call and the reference end with equal normalised rows and equal products. -/
theorem algebraic : Cert.algebraic_NormFfnIdeal_NormFfnRefIdeal := by
  intro m g m' g' _ hagree
  refine ⟨_, _, _, run_blocks m g,
    (θ_run Cert.NormFfnRefIdeal.defs _ _).mono (fun r h c =>
      ⟨((h c).1.trans (Cert.NormFfnRefIdeal.Read.val_main_v20_eq _ _ _ _)).trans ?_,
        ((h c).2.1.trans (Cert.NormFfnRefIdeal.Read.val_main_v24_eq _ _ _ _ _)).trans ?_,
        ((h c).2.2.1.trans (Cert.NormFfnRefIdeal.Read.val_main_v28_eq _ _ _ _ _)).trans ?_, (h c).2.2.2⟩)
      (Cert.NormFfnRefIdeal.Value.run (F := Ideal) m' g')⟩
  · rw [(hagree c).1, (hagree c).2.1, (hagree c).2.2.1, (hagree c).2.2.2.1]
    exact (ref_result ..).trans (rows_final m c).symm
  · rw [(hagree c).1, (hagree c).2.1, (hagree c).2.2.1, (hagree c).2.2.2.1, (hagree c).2.2.2.2.1]
    exact (ref_product ..).trans (gate_final m c).symm
  · rw [(hagree c).1, (hagree c).2.1, (hagree c).2.2.1, (hagree c).2.2.2.1, (hagree c).2.2.2.2.2]
    exact (ref_product' ..).trans (up_final m c).symm

end Cert.Norm.Ffn

end
-- ==== Proof.Products.OutFwd.lean ====
/-
  The output projection of the mixing half, added to the residual stream.
-/
module

public import proofs.«01_k».proof.Defs
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.OutFwd

open Idealize.ShloMosaic Idealize.ShloMosaic.TcCoe Idealize.SL.Sem

section Kernel

open Cert.OutFwdIdeal Cert.OutFwdIdeal.Gen

/-- A tile of the product. -/
theorem product (x : FVec Ideal S512x1024 .bf16) (w : FVec Ideal S1024x1024 .bf16) (y : S512x1024.Idx) :
    (k0_pay1 (F := Ideal) x w : FVec Ideal S512x1024 .f32) y = ∑ k : Fin 1024, x (ix2 (y 0) k) * w (ix2 k (y 1)) := by
  unfold k0_pay1
  pointwise

/-- The product is stored once by itself. -/
theorem block_product (x : FVec Ideal S512x1024 .bf16) (w : FVec Ideal S1024x1024 .bf16) (r : FVec Ideal S512x1024 .f32)
    (g : FVec Ideal S1x1024 .f32) (y : S512x1024.Idx) :
    (out0_5 (F := Ideal) x w r g : FVec Ideal S512x1024 .bf16) y = ∑ k : Fin 1024, x (ix2 (y 0) k) * w (ix2 k (y 1)) := by
  frame_out
  unfold k0_pay2
  exact product x w y

/-- And once scaled and added to the residual stream. -/
theorem block_residual (x : FVec Ideal S512x1024 .bf16) (w : FVec Ideal S1024x1024 .bf16) (r : FVec Ideal S512x1024 .f32)
    (g : FVec Ideal S1x1024 .f32) (y : S512x1024.Idx) :
    (out0_4 (F := Ideal) x w r g : FVec Ideal S512x1024 .f32) y = r y + g (ix2 0 (y 1)) * ∑ k : Fin 1024, x (ix2 (y 0) k) * w (ix2 k (y 1)) := by
  frame_out
  rw [← product x w y]
  unfold k0_pay3
  pointwise

variable (m : (ℓ : Loc nD τ sig) → Buf (Elt Ideal) ℓ) (c : Dev nD)

/-- The rows. -/
def rows : FVec Ideal S4096x1024 .bf16 := m ((c : Thread nD τ).loc main_arg0)

/-- The weight. -/
def weight : FVec Ideal S1024x1024 .bf16 := m ((c : Thread nD τ).loc main_arg1)

/-- The residual stream. -/
def stream : FVec Ideal S4096x1024 .f32 := m ((c : Thread nD τ).loc main_arg2)

/-- The gate of the sub-layer. -/
def gate : FVec Ideal S1x1024 .f32 := m ((c : Thread nD τ).loc main_arg3)

/-- Which tile of each argument and of the result a grid point takes. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The second result: the product. -/
theorem final_product : (dats m 0 c).arrAt 5 cfg0.N =
    ((fun i => ∑ k : Fin 1024, rows m c (ix2 (i 0) k) * weight m c (ix2 k (i 1))) : FVec Ideal S4096x1024 .bf16) := by
  refine (dats m 0 c).arrAt_eq_of_covers 5 _ (by decide +kernel) fun t hf y => ?_
  blk_simp
  rw [after0_5]
  refine (block_product _ _ _ _ y).trans (Finset.sum_congr rfl fun k _ => ?_)
  congr 1
  · unfold rows; blk_ext [iblk, V, idx t]
  · unfold weight; blk_ext [iblk, V, idx t]

/-- The first result: the residual stream with the gated product added. -/
theorem final_residual : (dats m 0 c).arrAt 4 cfg0.N =
    ((fun i => stream m c i + gate m c (ix2 0 (i 1)) * ∑ k : Fin 1024, rows m c (ix2 (i 0) k) * weight m c (ix2 k (i 1))) : FVec Ideal S4096x1024 .f32) := by
  refine (dats m 0 c).arrAt_eq_of_covers 4 _ (by decide +kernel) fun t hf y => ?_
  blk_simp
  rw [after0_4]
  refine (block_residual _ _ _ _ y).trans (congrArg₂ (· + ·) ?_ (congrArg₂ (· * ·) ?_ (Finset.sum_congr rfl fun k _ => ?_)))
  · unfold stream; blk_ext [iblk, V, idx t]
  · unfold gate; blk_ext [iblk, V, idx t]
  congr 1
  · unfold rows; blk_ext [iblk, V, idx t]
  · unfold weight; blk_ext [iblk, V, idx t]

end Kernel

/-- The reference states the same product. -/
theorem reference_product (x : FVec Ideal Cert.OutFwdRefIdeal.S4096x1024 .bf16) (w : FVec Ideal Cert.OutFwdRefIdeal.S1024x1024 .bf16) :
    Cert.OutFwdRefIdeal.Read.val_main_v2 (F := Ideal) x w = fun i => ∑ k : Fin 1024, x (ix2 (i 0) k) * w (ix2 k (i 1)) := by
  funext i
  pointwise [Cert.OutFwdRefIdeal.Read.val_main_v2, Cert.OutFwdRefIdeal.Read.val_main_v1, Cert.OutFwdRefIdeal.Read.val_main_v0]

/-- And the same sum with the residual stream. -/
theorem reference_residual (x : FVec Ideal Cert.OutFwdRefIdeal.S4096x1024 .bf16) (w : FVec Ideal Cert.OutFwdRefIdeal.S1024x1024 .bf16) (r : FVec Ideal Cert.OutFwdRefIdeal.S4096x1024 .f32)
    (g : FVec Ideal Cert.OutFwdRefIdeal.S1x1024 .f32) :
    Cert.OutFwdRefIdeal.Read.val_main_v5 (F := Ideal) x w r g = fun i => r i + g (ix2 0 (i 1)) * ∑ k : Fin 1024, x (ix2 (i 0) k) * w (ix2 k (i 1)) := by
  funext i
  refine Eq.trans ?_ (congrArg (fun p => r i + g (ix2 0 (i 1)) * p) (congrFun (reference_product x w) i))
  pointwise [Cert.OutFwdRefIdeal.Read.val_main_v5, Cert.OutFwdRefIdeal.Read.val_main_v4, Cert.OutFwdRefIdeal.Read.val_main_v3]

/-- The call as printed runs, leaves its arguments alone and no signal pending. -/
theorem frame : Cert.quiescent_OutFwd := fun m ρ _ => Cert.OutFwd.Gen.frame m ρ

/-- So does the idealized call. -/
theorem frame_ideal : Cert.quiescent_OutFwdIdeal := fun m ρ _ => Cert.OutFwdIdeal.Gen.frame m ρ

/-- So does the reference. -/
theorem frame_ref : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run (F := Ideal) m ρ)

/-- On equal arguments the call and the reference end with equal results. -/
theorem algebraic : Cert.algebraic_OutFwdIdeal_OutFwdRefIdeal := by
  intro m g m' g' _ hagree
  refine ⟨_, _, Cert.OutFwdIdeal.Value.run_blocks m g,
    (θ_run Cert.OutFwdRefIdeal.defs _ _).mono (fun r h c =>
      ⟨((h c).1.trans (Cert.OutFwdRefIdeal.Read.val_main_v5_eq _ _ _ _)).trans ?_, ((h c).2.1.trans (Cert.OutFwdRefIdeal.Read.val_main_v6_eq _ _)).trans ?_, (h c).2.2⟩)
      (Cert.OutFwdRefIdeal.Value.run (F := Ideal) m' g')⟩
  · rw [(hagree c).1, (hagree c).2.1, (hagree c).2.2.1, (hagree c).2.2.2]
    exact (reference_residual ..).trans (final_residual m c).symm
  · rw [(hagree c).1, (hagree c).2.1]
    exact (reference_product ..).trans (final_product m c).symm

end Cert.Products.OutFwd

end
-- ==== Proof.Products.DownFwd.lean ====
/-
  The down projection of the feed-forward half, added to the residual stream.
-/
module

public import proofs.«01_k».proof.Defs
public import proofs.«01_k».proof.Proof.Gen.DownFwd.Frame
public import proofs.«01_k».proof.Proof.Gen.DownFwdIdeal.Value
public import proofs.«01_k».proof.Proof.Gen.DownFwdRefIdeal.Run
public import proofs.«01_k».proof.Proof.Gen.DownFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Products.DownFwd

open Idealize.ShloMosaic Idealize.ShloMosaic.TcCoe Idealize.SL.Sem

section Kernel

open Cert.DownFwdIdeal Cert.DownFwdIdeal.Gen

/-- A tile of the product. -/
theorem product (x : FVec Ideal S512x2816 .bf16) (w : FVec Ideal S2816x1024 .bf16) (y : S512x1024.Idx) :
    (k0_pay1 (F := Ideal) x w : FVec Ideal S512x1024 .f32) y = ∑ k : Fin 2816, x (ix2 (y 0) k) * w (ix2 k (y 1)) := by
  unfold k0_pay1
  pointwise

/-- The product is stored once by itself. -/
theorem block_product (x : FVec Ideal S512x2816 .bf16) (w : FVec Ideal S2816x1024 .bf16) (r : FVec Ideal S512x1024 .f32)
    (g : FVec Ideal S1x1024 .f32) (y : S512x1024.Idx) :
    (out0_5 (F := Ideal) x w r g : FVec Ideal S512x1024 .bf16) y = ∑ k : Fin 2816, x (ix2 (y 0) k) * w (ix2 k (y 1)) := by
  frame_out
  unfold k0_pay2
  exact product x w y

/-- And once scaled and added to the residual stream. -/
theorem block_residual (x : FVec Ideal S512x2816 .bf16) (w : FVec Ideal S2816x1024 .bf16) (r : FVec Ideal S512x1024 .f32)
    (g : FVec Ideal S1x1024 .f32) (y : S512x1024.Idx) :
    (out0_4 (F := Ideal) x w r g : FVec Ideal S512x1024 .f32) y = r y + g (ix2 0 (y 1)) * ∑ k : Fin 2816, x (ix2 (y 0) k) * w (ix2 k (y 1)) := by
  frame_out
  rw [← product x w y]
  unfold k0_pay3
  pointwise

variable (m : (ℓ : Loc nD τ sig) → Buf (Elt Ideal) ℓ) (c : Dev nD)

/-- The rows. -/
def rows : FVec Ideal S4096x2816 .bf16 := m ((c : Thread nD τ).loc main_arg0)

/-- The weight. -/
def weight : FVec Ideal S2816x1024 .bf16 := m ((c : Thread nD τ).loc main_arg1)

/-- The residual stream. -/
def stream : FVec Ideal S4096x1024 .f32 := m ((c : Thread nD τ).loc main_arg2)

/-- The gate of the sub-layer. -/
def gate : FVec Ideal S1x1024 .f32 := m ((c : Thread nD τ).loc main_arg3)

/-- Which tile of each argument and of the result a grid point takes. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The second result: the product. -/
theorem final_product : (dats m 0 c).arrAt 5 cfg0.N =
    ((fun i => ∑ k : Fin 2816, rows m c (ix2 (i 0) k) * weight m c (ix2 k (i 1))) : FVec Ideal S4096x1024 .bf16) := by
  refine (dats m 0 c).arrAt_eq_of_covers 5 _ (by decide +kernel) fun t hf y => ?_
  blk_simp
  rw [after0_5]
  refine (block_product _ _ _ _ y).trans (Finset.sum_congr rfl fun k _ => ?_)
  congr 1
  · unfold rows; blk_ext [iblk, V, idx t]
  · unfold weight; blk_ext [iblk, V, idx t]

/-- The first result: the residual stream with the gated product added. -/
theorem final_residual : (dats m 0 c).arrAt 4 cfg0.N =
    ((fun i => stream m c i + gate m c (ix2 0 (i 1)) * ∑ k : Fin 2816, rows m c (ix2 (i 0) k) * weight m c (ix2 k (i 1))) : FVec Ideal S4096x1024 .f32) := by
  refine (dats m 0 c).arrAt_eq_of_covers 4 _ (by decide +kernel) fun t hf y => ?_
  blk_simp
  rw [after0_4]
  refine (block_residual _ _ _ _ y).trans (congrArg₂ (· + ·) ?_ (congrArg₂ (· * ·) ?_ (Finset.sum_congr rfl fun k _ => ?_)))
  · unfold stream; blk_ext [iblk, V, idx t]
  · unfold gate; blk_ext [iblk, V, idx t]
  congr 1
  · unfold rows; blk_ext [iblk, V, idx t]
  · unfold weight; blk_ext [iblk, V, idx t]

end Kernel

/-- The reference states the same product. -/
theorem reference_product (x : FVec Ideal Cert.DownFwdRefIdeal.S4096x2816 .bf16) (w : FVec Ideal Cert.DownFwdRefIdeal.S2816x1024 .bf16) :
    Cert.DownFwdRefIdeal.Read.val_main_v2 (F := Ideal) x w = fun i => ∑ k : Fin 2816, x (ix2 (i 0) k) * w (ix2 k (i 1)) := by
  funext i
  pointwise [Cert.DownFwdRefIdeal.Read.val_main_v2, Cert.DownFwdRefIdeal.Read.val_main_v1, Cert.DownFwdRefIdeal.Read.val_main_v0]

/-- And the same sum with the residual stream. -/
theorem reference_residual (x : FVec Ideal Cert.DownFwdRefIdeal.S4096x2816 .bf16) (w : FVec Ideal Cert.DownFwdRefIdeal.S2816x1024 .bf16) (r : FVec Ideal Cert.DownFwdRefIdeal.S4096x1024 .f32)
    (g : FVec Ideal Cert.DownFwdRefIdeal.S1x1024 .f32) :
    Cert.DownFwdRefIdeal.Read.val_main_v5 (F := Ideal) x w r g = fun i => r i + g (ix2 0 (i 1)) * ∑ k : Fin 2816, x (ix2 (i 0) k) * w (ix2 k (i 1)) := by
  funext i
  refine Eq.trans ?_ (congrArg (fun p => r i + g (ix2 0 (i 1)) * p) (congrFun (reference_product x w) i))
  pointwise [Cert.DownFwdRefIdeal.Read.val_main_v5, Cert.DownFwdRefIdeal.Read.val_main_v4, Cert.DownFwdRefIdeal.Read.val_main_v3]

/-- The call as printed runs, leaves its arguments alone and no signal pending. -/
theorem frame : Cert.quiescent_DownFwd := fun m ρ _ => Cert.DownFwd.Gen.frame m ρ

/-- So does the idealized call. -/
theorem frame_ideal : Cert.quiescent_DownFwdIdeal := fun m ρ _ => Cert.DownFwdIdeal.Gen.frame m ρ

/-- So does the reference. -/
theorem frame_ref : Cert.quiescent_DownFwdRefIdeal := fun m ρ _ =>
  (θ_run Cert.DownFwdRefIdeal.defs _ _).mono (fun r h => ⟨fun c => (h c).2.2, sem_eq_zero_of_no_sems (by decide) r.2⟩)
    (Cert.DownFwdRefIdeal.Value.run (F := Ideal) m ρ)

/-- On equal arguments the call and the reference end with equal results. -/
theorem algebraic : Cert.algebraic_DownFwdIdeal_DownFwdRefIdeal := by
  intro m g m' g' _ hagree
  refine ⟨_, _, Cert.DownFwdIdeal.Value.run_blocks m g,
    (θ_run Cert.DownFwdRefIdeal.defs _ _).mono (fun r h c =>
      ⟨((h c).1.trans (Cert.DownFwdRefIdeal.Read.val_main_v5_eq _ _ _ _)).trans ?_, ((h c).2.1.trans (Cert.DownFwdRefIdeal.Read.val_main_v6_eq _ _)).trans ?_, (h c).2.2⟩)
      (Cert.DownFwdRefIdeal.Value.run (F := Ideal) m' g')⟩
  · rw [(hagree c).1, (hagree c).2.1, (hagree c).2.2.1, (hagree c).2.2.2]
    exact (reference_residual ..).trans (final_residual m c).symm
  · rw [(hagree c).1, (hagree c).2.1]
    exact (reference_product ..).trans (final_product m c).symm

end Cert.Products.DownFwd

end
-- ==== Proof.Merge.Fwd.lean ====
/-
  The gated merge `sigmoid(gₐ)·a + sigmoid(g_b)·b` of two products, with the products themselves. The gates are columns 2048 to
  4095 of the combined projection.
-/
module

public import proofs.«01_k».proof.Defs
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.Merge.Fwd

open Idealize.ShloMosaic Idealize.ShloMosaic.TcCoe Idealize.SL.Sem

section Spec

variable (x y : FVec Ideal ⟨2, ![4096, 1024]⟩ .bf16) (u v : FVec Ideal ⟨2, ![1024, 1024]⟩ .bf16) (p : FVec Ideal ⟨2, ![4096, 5376]⟩ .bf16)

/-- One half: its rows times its projection. -/
def half : FVec Ideal ⟨2, ![4096, 1024]⟩ .bf16 := fun i => ∑ k : Fin 1024, x (ix2 (i 0) k) * u (ix2 k (i 1))

/-- The two halves, each weighted with its gate. -/
def merged : FVec Ideal ⟨2, ![4096, 1024]⟩ .bf16 := fun i =>
  Ideal.logistic (p (ix2 (i 0) ⟨2048 + (i 1).val, by have : (i 1).val < 1024 := (i 1).isLt; omega⟩)) * half x u i
    + Ideal.logistic (p (ix2 (i 0) ⟨3072 + (i 1).val, by have : (i 1).val < 1024 := (i 1).isLt; omega⟩)) * half y v i

end Spec

section Kernel

open Cert.MergeFwdIdeal Cert.MergeFwdIdeal.Gen

/-! ## What a point computes -/

/-- Rows against columns, in a block. -/
def rowCol (x : FVec Ideal S1024x1024 .bf16) (u : FVec Ideal S1024x512 .bf16) (r : Fin 1024) (j : Fin 512) : EReal :=
  ∑ k : Fin 1024, x (ix2 r k) * u (ix2 k j)

theorem product (x : FVec Ideal S1024x1024 .bf16) (u : FVec Ideal S1024x512 .bf16) (i : S1024x512.Idx) :
    (k0_pay1 (F := Ideal) x u : FVec Ideal S1024x512 .f32) i = rowCol x u (i 0) (i 1) := by
  unfold k0_pay1 rowCol
  pointwise

/-- Both halves, each weighted with its gate. -/
theorem merged_at (x y : FVec Ideal S1024x1024 .bf16) (u v : FVec Ideal S1024x512 .bf16) (p q : FVec Ideal S1024x512 .bf16) (i : S1024x512.Idx) :
    (k0_pay5 (F := Ideal) x u y v p q : FVec Ideal S1024x512 .bf16) i
      = Ideal.logistic (p i) * rowCol x u (i 0) (i 1) + Ideal.logistic (q i) * rowCol y v (i 0) (i 1) := by
  rw [← product x u i, ← product y v i]
  pointwise [k0_pay5]
  rw [zero_sub, zero_sub]
  rfl

variable (m : (ℓ : Loc nD τ sig) → Buf (Elt Ideal) ℓ) (c : Dev nD)

/-! ## The arguments -/

/-- The spatial rows. -/
def rowsA : FVec Ideal S4096x1024 .bf16 := m ((c : Thread nD τ).loc main_arg0)
/-- The attention rows. -/
def rowsB : FVec Ideal S4096x1024 .bf16 := m ((c : Thread nD τ).loc main_arg1)
/-- The spatial projection. -/
def projA : FVec Ideal S1024x1024 .bf16 := m ((c : Thread nD τ).loc main_arg2)
/-- The attention projection. -/
def projB : FVec Ideal S1024x1024 .bf16 := m ((c : Thread nD τ).loc main_arg3)
/-- The combined projection. -/
def proj : FVec Ideal S4096x5376 .bf16 := m ((c : Thread nD τ).loc main_arg4)

/-- Which tile of each argument and result a grid point takes. -/
theorem idx : ∀ t : Fin cfg0.N, win0_0.index t = ![t.val / 2, 0] ∧ win0_1.index t = ![t.val / 2, 0] ∧ win0_2.index t = ![0, t.val % 2] ∧ win0_3.index t = ![0, t.val % 2]
    ∧ win0_4.index t = ![t.val / 2, 4 + t.val % 2] ∧ win0_5.index t = ![t.val / 2, 6 + t.val % 2]
    ∧ win0_6.index t = ![t.val / 2, t.val % 2] ∧ win0_7.index t = ![t.val / 2, t.val % 2] ∧ win0_8.index t = ![t.val / 2, t.val % 2] :=
  (by decide +kernel : ∀ t : Fin grid0.N, _)

variable (t : Fin cfg0.N)

/-- A row of the point's block, as a row of the array. -/
def rowAt (r : Fin 1024) : Fin 4096 := ⟨1024 * (t.val / 2) + r.val, by have : t.val < 8 := t.isLt; have := r.isLt; omega⟩
/-- A column of the point's block, as a column of the array. -/
def colAt (j : Fin 512) : Fin 1024 := ⟨512 * (t.val % 2) + j.val, by have := j.isLt; omega⟩

theorem rowsA_block (r k : Fin 1024) : (iblk m c 0 t : FVec Ideal S1024x1024 .bf16) (ix2 r k) = rowsA m c (ix2 (rowAt t r) k) := by
  unfold rowsA rowAt; blk_ext [iblk, V, idx t]
theorem rowsB_block (r k : Fin 1024) : (iblk m c 1 t : FVec Ideal S1024x1024 .bf16) (ix2 r k) = rowsB m c (ix2 (rowAt t r) k) := by
  unfold rowsB rowAt; blk_ext [iblk, V, idx t]
theorem projA_block (k : Fin 1024) (j : Fin 512) : (iblk m c 2 t : FVec Ideal S1024x512 .bf16) (ix2 k j) = projA m c (ix2 k (colAt t j)) := by
  unfold projA colAt; blk_ext [iblk, V, idx t]
theorem projB_block (k : Fin 1024) (j : Fin 512) : (iblk m c 3 t : FVec Ideal S1024x512 .bf16) (ix2 k j) = projB m c (ix2 k (colAt t j)) := by
  unfold projB colAt; blk_ext [iblk, V, idx t]
theorem ga_block (r : Fin 1024) (j : Fin 512) : (X0_4 m c t : FVec Ideal S1024x512 .bf16) (ix2 r j)
    = proj m c (ix2 (rowAt t r) ⟨2048 + (colAt t j).val, by have := (colAt t j).isLt; omega⟩) := by
  unfold proj rowAt colAt X0_4 Pipeline.Window.fill
  rw [dif_pos (moved0_4 t _)]
  blk_ext [iblk, V, idx t]
theorem gb_block (r : Fin 1024) (j : Fin 512) : (X0_5 m c t : FVec Ideal S1024x512 .bf16) (ix2 r j)
    = proj m c (ix2 (rowAt t r) ⟨3072 + (colAt t j).val, by have := (colAt t j).isLt; omega⟩) := by
  unfold proj rowAt colAt X0_5 Pipeline.Window.fill
  rw [dif_pos (moved0_5 t _)]
  blk_ext [iblk, V, idx t]

/-- The spatial half, of the point's rows and columns. -/
theorem halfA_block (r : Fin 1024) (j : Fin 512) : rowCol (iblk m c 0 t) (iblk m c 2 t) r j = half (rowsA m c) (projA m c) (ix2 (rowAt t r) (colAt t j)) :=
  Finset.sum_congr rfl fun k _ => congrArg₂ (· * ·) (rowsA_block m c t r k) (projA_block m c t k j)
/-- The attention half, of the point's rows and columns. -/
theorem halfB_block (r : Fin 1024) (j : Fin 512) : rowCol (iblk m c 1 t) (iblk m c 3 t) r j = half (rowsB m c) (projB m c) (ix2 (rowAt t r) (colAt t j)) :=
  Finset.sum_congr rfl fun k _ => congrArg₂ (· * ·) (rowsB_block m c t r k) (projB_block m c t k j)

/-! ## What a point leaves -/

theorem a_point (r : Fin 1024) (j : Fin 512) : ((outsAt0 m c t).1 : FVec Ideal S1024x512 .bf16) (ix2 r j)
    = half (rowsA m c) (projA m c) (ix2 (rowAt t r) (colAt t j)) := by
  have key : (outsAt0 m c t).1 = k0_pay3 (F := Ideal) (iblk m c 0 t) (iblk m c 2 t) := by
    unfold outsAt0
    frame_open
    simp (disch := decide) only [↓ View.readCov_skip, ↓ View.readCov_cons_toLoadRect, ↓ View.readCov_fill]
    frame_out
  rw [key]
  exact (product _ _ _).trans (halfA_block m c t r j)

theorem b_point (r : Fin 1024) (j : Fin 512) : ((outsAt0 m c t).2.1 : FVec Ideal S1024x512 .bf16) (ix2 r j)
    = half (rowsB m c) (projB m c) (ix2 (rowAt t r) (colAt t j)) := by
  have key : (outsAt0 m c t).2.1 = k0_pay4 (F := Ideal) (iblk m c 1 t) (iblk m c 3 t) := by
    unfold outsAt0
    frame_open
    simp (disch := decide) only [↓ View.readCov_skip, ↓ View.readCov_cons_toLoadRect, ↓ View.readCov_fill]
    frame_out
  rw [key]
  exact (product _ _ _).trans (halfB_block m c t r j)

theorem merged_point (r : Fin 1024) (j : Fin 512) : ((outsAt0 m c t).2.2 : FVec Ideal S1024x512 .bf16) (ix2 r j)
    = merged (rowsA m c) (rowsB m c) (projA m c) (projB m c) (proj m c) (ix2 (rowAt t r) (colAt t j)) := by
  have key : (outsAt0 m c t).2.2 = k0_pay5 (F := Ideal) (iblk m c 0 t) (iblk m c 2 t) (iblk m c 1 t) (iblk m c 3 t) (X0_4 m c t) (X0_5 m c t) := by
    unfold outsAt0
    frame_open
    simp (disch := decide) only [↓ View.readCov_skip, ↓ View.readCov_cons_toLoadRect, ↓ View.readCov_fill]
    frame_out
  rw [key]
  exact (merged_at _ _ _ _ _ _ _).trans (congrArg₂ (· + ·)
    (congrArg₂ (fun g h => Ideal.logistic g * h) (ga_block m c t r j) (halfA_block m c t r j))
    (congrArg₂ (fun g h => Ideal.logistic g * h) (gb_block m c t r j) (halfB_block m c t r j)))

/-! ## The results -/

theorem a_final : (dats m 0 c).arrAt 6 cfg0.N = half (rowsA m c) (projA m c) := by
  refine (dats m 0 c).arrAt_eq_of_covers 6 _ (by decide +kernel) fun t hf y => ?_
  blk_simp
  rw [after0_6]
  refine Eq.trans (congrArg (outsAt0 m c t).1 (ix2_eta (n0 := 1024) (n1 := 512) _).symm) ((a_point m c t _ _).trans ?_)
  unfold rowAt colAt
  blk_ext [idx t]

theorem b_final : (dats m 0 c).arrAt 7 cfg0.N = half (rowsB m c) (projB m c) := by
  refine (dats m 0 c).arrAt_eq_of_covers 7 _ (by decide +kernel) fun t hf y => ?_
  blk_simp
  rw [after0_7]
  refine Eq.trans (congrArg (outsAt0 m c t).2.1 (ix2_eta (n0 := 1024) (n1 := 512) _).symm) ((b_point m c t _ _).trans ?_)
  unfold rowAt colAt
  blk_ext [idx t]

theorem merged_final : (dats m 0 c).arrAt 8 cfg0.N = merged (rowsA m c) (rowsB m c) (projA m c) (projB m c) (proj m c) := by
  refine (dats m 0 c).arrAt_eq_of_covers 8 _ (by decide +kernel) fun t hf y => ?_
  blk_simp
  rw [after0_8]
  refine Eq.trans (congrArg (outsAt0 m c t).2.2 (ix2_eta (n0 := 1024) (n1 := 512) _).symm) ((merged_point m c t _ _).trans ?_)
  unfold rowAt colAt
  blk_ext [idx t]

end Kernel

section Reference

open Cert.MergeFwdRefIdeal Cert.MergeFwdRefIdeal.Read

variable (x y : FVec Ideal S4096x1024 .bf16) (u v : FVec Ideal S1024x1024 .bf16) (p : FVec Ideal S4096x5376 .bf16)

theorem ref_a : val_main_v6 (F := Ideal) x u = half x u := by
  funext i
  unfold half
  pointwise [val_main_v6, val_main_v2, val_main_v1, val_main_v0]

theorem ref_b : val_main_v7 (F := Ideal) y v = half y v := ref_a y v

/-- The gates, at a column of their own. -/
theorem ref_gate (r : Fin 4096) (j : Fin 2048) : val_main_v15 (F := Ideal) p (ix2 r j)
    = Ideal.logistic (p (ix2 r ⟨2048 + j.val, by have := j.isLt; omega⟩)) := by
  pointwise [val_main_v15, val_main_v14, val_main_v13, val_main_v12, val_main_v11, val_main_v10, val_main_v9, val_main_v8, val_main_cst, val_main_cst_0]
  rfl

theorem ref_merged : val_main_v21 (F := Ideal) x y u v p = merged x y u v p := by
  funext i
  idx_vars i
  unfold merged
  rw [← ref_a, ← ref_b]
  pointwise [val_main_v21, val_main_v20, val_main_v19, val_main_v18, val_main_v17, val_main_v16, val_main_v6, val_main_v7]
  rw [ref_gate, ref_gate]
  have e : (⟨2048 + (1024 + i1.val), by have := i1.isLt; omega⟩ : Fin 5376) = ⟨3072 + i1.val, by have := i1.isLt; omega⟩ :=
    Fin.ext (by show 2048 + (1024 + i1.val) = 3072 + i1.val; omega)
  exact congrArg (fun k : Fin 5376 => Ideal.logistic (p (ix2 i0 ⟨2048 + i1.val, _⟩)) * val_main_v2 (F := Ideal) x u (ix2 i0 i1)
    + Ideal.logistic (p (ix2 i0 k)) * val_main_v5 (F := Ideal) y v (ix2 i0 i1)) e

end Reference

/-- The call as printed runs, leaves its arguments alone and no signal pending. -/
theorem frame : Cert.quiescent_MergeFwd := fun m ρ _ => Cert.MergeFwd.Gen.frame m ρ

/-- So does the idealized call. -/
theorem frame_ideal : Cert.quiescent_MergeFwdIdeal := fun m ρ _ => Cert.MergeFwdIdeal.Gen.frame m ρ

/-- So does the reference. -/
theorem frame_ref : Cert.quiescent_MergeFwdRefIdeal := fun m ρ _ =>
  (θ_run Cert.MergeFwdRefIdeal.defs _ _).mono (fun r h => ⟨fun c => (h c).2.2.2, sem_eq_zero_of_no_sems (by decide) r.2⟩)
    (Cert.MergeFwdRefIdeal.Value.run (F := Ideal) m ρ)

/-- On equal arguments the call and the reference end with equal halves and equal merged rows. -/
theorem algebraic : Cert.algebraic_MergeFwdIdeal_MergeFwdRefIdeal := by
  intro m g m' g' _ hagree
  refine ⟨_, _, _, Cert.MergeFwdIdeal.Value.run_blocks m g,
    (θ_run Cert.MergeFwdRefIdeal.defs _ _).mono (fun r h c =>
      ⟨((h c).1.trans (Cert.MergeFwdRefIdeal.Read.val_main_v6_eq _ _)).trans ?_,
        ((h c).2.1.trans (Cert.MergeFwdRefIdeal.Read.val_main_v7_eq _ _)).trans ?_,
        ((h c).2.2.1.trans (Cert.MergeFwdRefIdeal.Read.val_main_v21_eq _ _ _ _ _)).trans ?_, (h c).2.2.2⟩)
      (Cert.MergeFwdRefIdeal.Value.run (F := Ideal) m' g')⟩
  · rw [(hagree c).1, (hagree c).2.2.1]
    exact (ref_a ..).trans (a_final m c).symm
  · rw [(hagree c).2.1, (hagree c).2.2.2.1]
    exact (ref_b ..).trans (b_final m c).symm
  · rw [(hagree c).1, (hagree c).2.1, (hagree c).2.2.1, (hagree c).2.2.2.1, (hagree c).2.2.2.2]
    exact (ref_merged ..).trans (merged_final m c).symm

end Cert.Merge.Fwd

end
-- ==== Proof.Attn.Spec.lean ====
/-
  Attention of one query with a sink: the softmax of the scores against the 256 keys of its band, where the sink takes part
  in the maximum and in the denominator but carries no value. A key that is masked out has score −∞.
-/
module

public import Idealize.ShloMosaic.Lib.IdealHost
public import Idealize.ShloMosaic.Lib.Pointwise

@[expose] public section

noncomputable section

namespace Cert.Attn.Fwd

open Idealize.ShloMosaic

section Query

variable (s : Fin 256 → EReal) (σ : EReal)

/-- The greatest of the scores and the sink. -/
def top : EReal := max (Finset.univ.fold max ⊥ s) σ
/-- The unnormalised weight of a key. -/
def weight (j : Fin 256) : EReal := Ideal.exp (s j - top s σ)
/-- The denominator. -/
def mass : EReal := ∑ j, weight s σ j + Ideal.exp (σ - top s σ)
/-- The attention: the values averaged by the weights. -/
def attend (v : Fin 256 → EReal) : EReal := Ideal.div (∑ j, weight s σ j * v j) (mass s σ)

end Query

/-- An exponential is not negative, -/
theorem exp_nonneg (x : EReal) : 0 ≤ Ideal.exp x := by
  induction x with
  | bot => exact le_refl _
  | top => exact le_top
  | coe r => exact EReal.coe_nonneg.2 (Real.exp_pos r).le

/-- and positive but at −∞. -/
theorem exp_pos {x : EReal} (h : x ≠ ⊥) : 0 < Ideal.exp x := by
  induction x with
  | bot => exact absurd rfl h
  | top => exact EReal.coe_lt_top 0
  | coe r => exact EReal.coe_pos.2 (Real.exp_pos r)

/-- A factor that is a real number, not negative, goes through a sum. -/
theorem sum_factor {ι : Type} (f : ι → EReal) {d : EReal} (h : 0 ≤ d) (h' : d ≠ ⊤) (t : Finset ι) :
    (∑ i ∈ t, f i) * d = ∑ i ∈ t, f i * d := by
  classical
  induction t using Finset.induction_on with
  | empty => simp
  | insert a t ha ih => rw [Finset.sum_insert ha, Finset.sum_insert ha, EReal.right_distrib_of_nonneg_of_ne_top h h', ih]

/-- A sum of real numbers is one. -/
theorem sum_real {ι : Type} (f : ι → EReal) (t : Finset ι) (h : ∀ i ∈ t, f i ≠ ⊤ ∧ f i ≠ ⊥) : ∑ i ∈ t, f i ≠ ⊤ ∧ ∑ i ∈ t, f i ≠ ⊥ := by
  classical
  induction t using Finset.induction_on with
  | empty => exact ⟨by simp, by simp⟩
  | insert a t ha ih =>
    obtain ⟨h1, h2⟩ := h a (Finset.mem_insert_self a t)
    obtain ⟨h3, h4⟩ := ih fun i hi => h i (Finset.mem_insert_of_mem hi)
    rw [Finset.sum_insert ha]
    exact ⟨(EReal.add_lt_top h1 h3).ne, (EReal.bot_lt_add_iff.2 ⟨bot_lt_iff_ne_bot.2 h2, bot_lt_iff_ne_bot.2 h4⟩).ne'⟩

/-- A product of real numbers is one. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

section Query

variable {s : Fin 256 → EReal} {σ : EReal} (hs : ∀ j, s j ≠ ⊤) (hσ : σ ≠ ⊤ ∧ σ ≠ ⊥)

include hs hσ in
/-- The maximum is not +∞, -/
theorem top_lt : top s σ < ⊤ :=
  max_lt (Finset.fold_max_lt _ |>.2 ⟨bot_lt_top, fun j _ => lt_top_iff_ne_top.2 (hs j)⟩) (lt_top_iff_ne_top.2 hσ.1)

include hs hσ in
/-- so the sink's share of the denominator is positive. -/
theorem mass_pos : 0 < mass s σ := by
  refine lt_of_lt_of_le (exp_pos (x := σ - top s σ) ?_) (le_add_of_nonneg_left (Finset.sum_nonneg fun j _ => exp_nonneg _))
  have h := (top_lt hs hσ).ne
  rw [sub_eq_add_neg]
  exact (EReal.bot_lt_add_iff.2 ⟨bot_lt_iff_ne_bot.2 hσ.2, bot_lt_iff_ne_bot.2 (by rwa [Ne, EReal.neg_eq_bot_iff])⟩).ne'

include hs hσ in
/-- Weights may be divided by the denominator one by one. -/
theorem attend_eq (v : Fin 256 → EReal) : ∑ j, v j * Ideal.div (weight s σ j) (mass s σ) = attend s σ v := by
  have h := mass_pos hs hσ
  unfold attend Ideal.div
  simp only [if_neg h.ne']
  rw [sum_factor _ (EReal.inv_nonneg_of_nonneg h.le) (by
    intro e
    have := EReal.inv_lt_top (x := mass s σ)
    exact absurd e this.ne)]
  exact Finset.sum_congr rfl fun j _ => by rw [← mul_assoc, mul_comm (v j)]

end Query

/-- The value of a key that is masked out does not matter. -/
theorem attend_congr {s : Fin 256 → EReal} {σ : EReal} {v v' : Fin 256 → EReal} (h : ∀ j, s j ≠ ⊥ → v j = v' j) :
    attend s σ v = attend s σ v' := by
  refine congrArg (Ideal.div · _) (Finset.sum_congr rfl fun j _ => ?_)
  by_cases hj : s j = ⊥
  · have : weight s σ j = 0 := by
      unfold weight
      rw [hj, sub_eq_add_neg, EReal.bot_add]
      rfl
    rw [this, zero_mul, zero_mul]
  · rw [h j hj]

/-- A score plus the mask's bias is the masked score. -/
theorem add_bias (x : EReal) (p : Prop) [Decidable p] : x + (if p then 0 else ⊥) = if p then x else ⊥ := by
  split
  · exact add_zero x
  · exact EReal.add_bot x

/-- The scores' factor on the queries: eight times the query, times an eighth of the sum. -/
theorem unscale (q k : Fin 64 → EReal) : (∑ e, k e * (q e * ((8 : ℝ) : EReal))) * ((1 / 8 : ℝ) : EReal) = ∑ e, q e * k e := by
  rw [sum_factor _ (EReal.coe_nonneg.2 (by norm_num)) (EReal.coe_ne_top _)]
  refine Finset.sum_congr rfl fun e _ => ?_
  rw [mul_assoc, mul_assoc, ← EReal.coe_mul, show (8 : ℝ) * (1 / 8) = 1 by norm_num, EReal.coe_one, mul_one, mul_comm]

end Cert.Attn.Fwd

end
-- ==== Proof.Attn.Kernel.lean ====
/-
  What the attention kernel's body computes on a block of 128 queries: for each of the two key heads, the eight query heads
  are stacked into 1024 rows and meet the key head's 256 rows, twice side by side in 128 lanes.
-/
module

public import proofs.«01_k».proof.Proof.Attn.Spec
public import proofs.«01_k».proof.Proof.Gen.AttnFwdIdeal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Attn.Fwd

open Cert.AttnFwdIdeal Cert.AttnFwdIdeal.Gen Idealize.ShloMosaic Idealize.ShloMosaic.TcCoe Idealize.SL.Sem

/-- A block's band: the rows before it, then its own. -/
def bandOf (xp xc : FVec Ideal S128x128 .bf16) (j : Fin 256) (l : Fin 128) : EReal :=
  if h : j.val < 128 then xp (ix2 ⟨j.val, h⟩ l) else xc (ix2 ⟨j.val - 128, by omega⟩ l)

/-- The lane of entry `l mod 64` of key head `g`. -/
def half (g : Fin 2) (l : Fin 128) : Fin 128 := ⟨64 * g.val + l.val % 64, by omega⟩

/-- The first key head, twice side by side, -/
theorem keys0 (xp xc : FVec Ideal S128x128 .bf16) (j : Fin 256) (l : Fin 128) :
    k0_pay2 (F := Ideal) xp xc (ix2 j l) = bandOf xp xc j (half 0 l) := by
  have hl := l.isLt
  pointwise [k0_pay2]
  word_cmp
  unfold bandOf
  split
  · rw [show half 0 l = l from Fin.ext (by show 64 * 0 + l.val % 64 = l.val; omega)]
  · rw [show half 0 l = ⟨(l.val + 128 - 64) % 128, by omega⟩ from Fin.ext (by show 64 * 0 + l.val % 64 = (l.val + 128 - 64) % 128; omega)]

/-- and the second. -/
theorem keys1 (xp xc : FVec Ideal S128x128 .bf16) (j : Fin 256) (l : Fin 128) :
    k0_pay13 (F := Ideal) xp xc (ix2 j l) = bandOf xp xc j (half 1 l) := by
  have hl := l.isLt
  pointwise [k0_pay13]
  word_cmp
  unfold bandOf
  split
  · rw [show half 1 l = ⟨(l.val + 128 - 64) % 128, by omega⟩ from Fin.ext (by show 64 * 1 + l.val % 64 = (l.val + 128 - 64) % 128; omega)]
  · rw [show half 1 l = l from Fin.ext (by show 64 * 1 + l.val % 64 = l.val; omega)]

/-! ## The stacked queries -/

/-- The lanes of two query heads lie in the block's columns. -/
theorem slices_pair (g : Fin 2) (u : Fin 8) : S128x1024.Slices ![0, 512 * g.val + 128 * (u.val / 2)] S128x128 :=
  ⟨rfl, (by decide +kernel : ∀ (g : Fin 2) (u : Fin 8) (a : Fin 2),
    (![0, 512 * g.val + 128 * (u.val / 2)] : Fin 2 → ℕ) a + S128x128.size a ≤ S128x1024.size a) g u⟩

/-- Head `u`: its own half of the lanes, zeros in the other. -/
def part (q : FVec Ideal S128x1024 .bf16) (g : Fin 2) (u : Fin 8) : FVec Ideal S128x128 .bf16 :=
  if u.val % 2 = 0 then
    select k0_pay7 (extractStridedSlice S128x128 ![0, 512 * g.val + 128 * (u.val / 2)] q (slices_pair g u))
      (broadcast S128x128 (Scalar.ofBits .bf16 0x0000#16 : Ideal .bf16))
  else
    select k0_pay7 (broadcast S128x128 (Scalar.ofBits .bf16 0x0000#16 : Ideal .bf16))
      (extractStridedSlice S128x128 ![0, 512 * g.val + 128 * (u.val / 2)] q (slices_pair g u))

/-- A head's entry. -/
theorem part_at (q : FVec Ideal S128x1024 .bf16) (g : Fin 2) (u : Fin 8) (i l : Fin 128) : part q g u (ix2 i l)
    = if l.val / 64 = u.val % 2 then q (ix2 i ⟨512 * g.val + 128 * (u.val / 2) + l.val, by omega⟩) else 0 := by
  have hl := l.isLt
  unfold part
  split
  · pointwise [k0_pay7]
    word_cmp
    simp only [show (l.val / 64 = u.val % 2) = (l.val < 64) from propext (by omega)]
  · pointwise [k0_pay7]
    word_cmp
    simp only [show (l.val / 64 = u.val % 2) = ¬(l.val < 64) from propext (by omega), ite_not]

/-- The heads one after the other. -/
def stack (q : FVec Ideal S128x1024 .bf16) (g : Fin 2) : FVec Ideal S1024x128 .bf16 :=
  concatenate S1024x128 0 (List.ofFn fun u : Fin 8 => ⟨S128x128, part q g u⟩)
    concatenates_S128x128_S128x128_S128x128_S128x128_S128x128_S128x128_S128x128_S128x128_S1024x128_d0

/-- Row `128 u + i` is head `u` of query `i`. -/
theorem stack_at (q : FVec Ideal S128x1024 .bf16) (g : Fin 2) (r : Fin 1024) (l : Fin 128) :
    stack q g (ix2 r l) = part q g ⟨r.val / 128, by omega⟩ (ix2 ⟨r.val % 128, by omega⟩ l) :=
  concatenate_ofFn_apply (t := S1024x128) (s₁ := S128x128) (0 : Fin 2) (part q g) _ rfl 128 rfl (ix2 r l) ⟨r.val / 128, by omega⟩ rfl (ix2 ⟨r.val % 128, by omega⟩ l) rfl
    (fun b hb => by fin_cases b <;> first | rfl | exact absurd rfl hb)

theorem queries0 (q : FVec Ideal S128x1024 .bf16) : k0_pay4 (F := Ideal) q = stack q 0 := rfl
theorem queries1 (q : FVec Ideal S128x1024 .bf16) : k0_pay15 (F := Ideal) q = stack q 1 := rfl

/-- A stacked row against a key head that lies twice side by side: the product over the head's 64 entries. -/
theorem stack_dot (q : FVec Ideal S128x1024 .bf16) (g : Fin 2) (r : Fin 1024) (f : Fin 128 → EReal) :
    ∑ l, stack q g (ix2 r l) * f (half g l)
    = ∑ e : Fin 64, q (ix2 ⟨r.val % 128, by omega⟩ ⟨512 * g.val + 64 * (r.val / 128) + e.val, by omega⟩) * f ⟨64 * g.val + e.val, by omega⟩ := by
  simp only [stack_at, part_at]
  refine (Fin.sum_univ_add (a := 64) (b := 64) _).trans ?_
  rcases Nat.mod_two_eq_zero_or_one (r.val / 128) with h | h
  · refine (congrArg₂ (· + ·) (Finset.sum_congr rfl fun e _ => ?_) (Finset.sum_eq_zero fun e _ => ?_)).trans (add_zero _)
    · have he := e.isLt
      rw [if_pos (by show e.val / 64 = r.val / 128 % 2; omega)]
      refine congrArg₂ (fun a b => q (ix2 _ a) * f b) (Fin.ext ?_) (Fin.ext ?_)
      · show 512 * g.val + 128 * (r.val / 128 / 2) + e.val = 512 * g.val + 64 * (r.val / 128) + e.val; omega
      · show 64 * g.val + e.val % 64 = 64 * g.val + e.val; omega
    · have he := e.isLt
      rw [if_neg (by show ¬(64 + e.val) / 64 = r.val / 128 % 2; omega), zero_mul]
  · refine (congrArg₂ (· + ·) (Finset.sum_eq_zero fun e _ => ?_) (Finset.sum_congr rfl fun e _ => ?_)).trans (zero_add _)
    · have he := e.isLt
      rw [if_neg (by show ¬e.val / 64 = r.val / 128 % 2; omega), zero_mul]
    · have he := e.isLt
      rw [if_pos (by show (64 + e.val) / 64 = r.val / 128 % 2; omega)]
      refine congrArg₂ (fun a b => q (ix2 _ a) * f b) (Fin.ext ?_) (Fin.ext ?_)
      · show 512 * g.val + 128 * (r.val / 128 / 2) + (64 + e.val) = 512 * g.val + 64 * (r.val / 128) + e.val; omega
      · show 64 * g.val + (64 + e.val) % 64 = 64 * g.val + e.val; omega

/-! ## A stacked row's attention -/

/-- The start of a maximum is −∞. -/
theorem ofBits_bot : Ideal.ofBits .f32 0xFF800000#32 = ⊥ := by simp [Ideal.ofBits, Ideal.ieee]

section Rows

variable (kb vb : FVec Ideal S256x128 .bf16) (qs : FVec Ideal S1024x128 .bf16) (sk : FVec Ideal S1024x128 .f32) (bias : FVec Ideal S1x1024x256 .f32)

/-- The scores of a stacked row with the mask's bias. -/
def scores (r : Fin 1024) (j : Fin 256) : EReal := ∑ l : Fin 128, qs (ix2 r l) * kb (ix2 j l) + bias (ix3 0 r j)

/-- A sum over 256 is one over its two halves. -/
theorem sum_halves (f : Fin 256 → EReal) : ∑ j, f j
    = ∑ j : Fin 128, f ⟨j.val, by omega⟩ + ∑ j : Fin 128, f ⟨128 + j.val, by omega⟩ :=
  Fin.sum_univ_add (a := 128) (b := 128) f

/-- The body's softmax of a stacked row. -/
theorem row_at (r : Fin 1024) (l : Fin 128) (σ : EReal) (h : ∀ l, sk (ix2 r l) = σ) :
    k0_pay6 (F := Ideal) kb vb qs sk bias (ix2 r l) = attend (scores kb qs bias r) σ fun j => vb (ix2 j l) := by
  unfold attend mass
  rw [sum_halves, sum_halves]
  pointwise [k0_pay6]
  simp only [h, ofBits_bot]
  rfl

end Rows

/-! ## The block's eight tiles -/

/-- The stacked rows of two heads. -/
theorem slices_rows (a : Fin 4) : S1024x128.Slices ![256 * a.val, 0] S128x128 ∧ S1024x128.Slices ![256 * a.val + 128, 0] S128x128 :=
  ⟨⟨rfl, (by decide +kernel : ∀ (a : Fin 4) (b : Fin 2), (![256 * a.val, 0] : Fin 2 → ℕ) b + S128x128.size b ≤ S1024x128.size b) a⟩,
    ⟨rfl, (by decide +kernel : ∀ (a : Fin 4) (b : Fin 2), (![256 * a.val + 128, 0] : Fin 2 → ℕ) b + S128x128.size b ≤ S1024x128.size b) a⟩⟩

/-- Two heads side by side: each is taken from its own half of the lanes. -/
def tile (o : FVec Ideal S1024x128 .f32) (a : Fin 4) : FVec Ideal S128x128 .bf16 :=
  truncf .bf16 (select k0_pay7 (extractStridedSlice S128x128 ![256 * a.val, 0] o (slices_rows a).1)
    (extractStridedSlice S128x128 ![256 * a.val + 128, 0] o (slices_rows a).2)) bitsLt_bf16_f32

/-- The block: `o` holds the stacked rows of the two key heads. -/
def blockArr (o : Fin 2 → FVec Ideal S1024x128 .f32) : FVec Ideal S128x1024 .bf16 := fun y =>
  o ⟨(y 1).val / 512, Nat.div_lt_of_lt_mul (y 1).isLt⟩
    (ix2 ⟨128 * ((y 1).val / 64 % 8) + (y 0).val, by have h : (y 0).val < 128 := (y 0).isLt; omega⟩ ⟨(y 1).val % 128, Nat.mod_lt _ (by norm_num)⟩)

/-- A tile lies in the block. -/
theorem inb_pair (g : Fin 2) (a : Fin 4) : ∀ b, (![0, 512 * g.val + 128 * a.val] : Fin 2 → ℕ) b + S128x128.size b ≤ S128x1024.size b :=
  (by decide +kernel : ∀ (g : Fin 2) (a : Fin 4) (b : Fin 2),
    (![0, 512 * g.val + 128 * a.val] : Fin 2 → ℕ) b + S128x128.size b ≤ S128x1024.size b) g a

/-- The store of a tile. -/
def store (o : Fin 2 → FVec Ideal S1024x128 .f32) (g : Fin 2) (a : Fin 4) : View.Piece (Elt Ideal) S128x1024 .bf16 :=
  ⟨Rect.unit ![0, 512 * g.val + 128 * a.val] S128x128.size (inb_pair g a), tile (o g) a⟩

/-- A tile's entry is the block's. -/
theorem tile_at (o : Fin 2 → FVec Ideal S1024x128 .f32) (g : Fin 2) (a : Fin 4) (x : S128x128.Idx) (y : S128x1024.Idx)
    (h0 : (y 0).val = (x 0).val) (h1 : (y 1).val = 512 * g.val + 128 * a.val + (x 1).val) : tile (o g) a x = blockArr o y := by
  idx_vars x
  idx_vars y
  have h0 : y0.val = x0.val := h0
  have h1 : y1.val = 512 * g.val + 128 * a.val + x1.val := h1
  have l0 : x0.val < 128 := x0.isLt
  have l1 : x1.val < 128 := x1.isLt
  have e : (⟨y1.val / 512, Nat.div_lt_of_lt_mul y1.isLt⟩ : Fin 2) = g := Fin.ext (by show y1.val / 512 = g.val; omega)
  show _ = o ⟨y1.val / 512, _⟩ _
  rw [e]
  pointwise [tile, k0_pay7]
  word_cmp
  split
  · refine congrArg (o g) ((ix2_inj ..).2 ⟨Fin.ext ?_, Fin.ext ?_⟩)
    · show 256 * a.val + x0.val = 128 * (y1.val / 64 % 8) + y0.val; omega
    · show x1.val = y1.val % 128; omega
  · refine congrArg (o g) ((ix2_inj ..).2 ⟨Fin.ext ?_, Fin.ext ?_⟩)
    · show 256 * a.val + 128 + x0.val = 128 * (y1.val / 64 % 8) + y0.val; omega
    · show x1.val = y1.val % 128; omega

/-- The stores, the last one first. -/
def stores (o : Fin 2 → FVec Ideal S1024x128 .f32) : List (View.Piece (Elt Ideal) S128x1024 .bf16) :=
  [store o 1 3, store o 1 2, store o 1 1, store o 1 0, store o 0 3, store o 0 2, store o 0 1, store o 0 0]

/-- The stores together leave the block. -/
theorem canon_block (o : Fin 2 → FVec Ideal S1024x128 .f32) : View.canon (stores o) = blockArr o := by
  have f (g : Fin 2) (a : Fin 4) (x : (store o g a).1.shape.Idx) : (store o g a).2 x = blockArr o ((store o g a).1.emb x) :=
    tile_at o g a x _ ((Rect.idx_unit_val (s := S128x1024) _ _ (inb_pair g a) x 0).trans (Nat.zero_add _))
      (Rect.idx_unit_val (s := S128x1024) _ _ (inb_pair g a) x 1)
  refine funext fun y => ?_
  have h := View.canon_append_of_piecesOf (Val := Elt Ideal) (e := .bf16) (blockArr o) [] (stores o)
    ⟨f 1 3, f 1 2, f 1 1, f 1 0, f 0 3, f 0 2, f 0 1, f 0 0, trivial⟩ y
    (View.cover_of_tiledL _ ![128, 128] (by sl_kernel_rfl) y)
  rwa [List.append_nil] at h

section Body

variable (q : FVec Ideal S128x1024 .bf16) (kp kc vp vc : FVec Ideal S128x128 .bf16) (sk : FVec Ideal S2x1024x128 .f32) (bias : FVec Ideal S1x1024x256 .f32)

/-- The sink rows of a key head lie in the array. -/
theorem inb_sink (g : Fin 2) : ∀ b, (![g.val, 0, 0] : Fin 3 → ℕ) b + S1x1024x128.size b ≤ S2x1024x128.size b :=
  (by decide +kernel : ∀ (g : Fin 2) (b : Fin 3), (![g.val, 0, 0] : Fin 3 → ℕ) b + S1x1024x128.size b ≤ S2x1024x128.size b) g
/-- The sink rows of a key head. -/
def sinkRows (g : Fin 2) : FVec Ideal S1024x128 .f32 :=
  k0_pay5 (F := Ideal) (View.ld (Val := Elt Ideal) (e' := .f32) sk (Rect.unit (s := S2x1024x128) ![g.val, 0, 0] S1x1024x128.size (inb_sink g)))

/-- They are the array's. -/
theorem sinkRows_at (g : Fin 2) (r : Fin 1024) (l : Fin 128) : sinkRows sk g (ix2 r l) = sk (ix3 g r l) := by
  unfold sinkRows
  pointwise [k0_pay5]

/-- The stacked rows' results for the two key heads. -/
def rowsOf : Fin 2 → FVec Ideal S1024x128 .f32
  | 0 => k0_pay6 (F := Ideal) (k0_pay2 kp kc) (k0_pay2 vp vc) (stack q 0) (sinkRows sk 0) bias
  | 1 => k0_pay6 (F := Ideal) (k0_pay13 kp kc) (k0_pay13 vp vc) (stack q 1) (sinkRows sk 1) bias

/-- A stacked row: the attention of head `r / 128` of key head `g` at query `r mod 128`. -/
theorem rowsOf_at (g : Fin 2) (r : Fin 1024) (l : Fin 128) (σ : EReal) (h : ∀ l, sk (ix3 g r l) = σ) :
    rowsOf q kp kc vp vc sk bias g (ix2 r l) = attend (fun j => (∑ e : Fin 64,
      q (ix2 ⟨r.val % 128, by omega⟩ ⟨512 * g.val + 64 * (r.val / 128) + e.val, by omega⟩) * bandOf kp kc j ⟨64 * g.val + e.val, by omega⟩)
      + bias (ix3 0 r j)) σ fun j => bandOf vp vc j (half g l) := by
  have hs : ∀ l, sinkRows sk g (ix2 r l) = σ := fun l => (sinkRows_at sk g r l).trans (h l)
  simp only [← stack_dot]
  match g with
  | 0 => exact (row_at _ _ _ _ bias r l σ hs).trans (by unfold scores; simp only [keys0])
  | 1 => exact (row_at _ _ _ _ bias r l σ hs).trans (by unfold scores; simp only [keys1])

/-- What a point leaves. -/
theorem out_eq : out0_7 (F := Ideal) q kp kc vp vc sk bias = blockArr (rowsOf q kp kc vp vc sk bias) := by
  have z : (![0, 0] : Fin 2 → ℕ) = fun _ => 0 := funext fun a => by fin_cases a <;> rfl
  have z' : (![0, 0, 0] : Fin 3 → ℕ) = fun _ => 0 := funext fun a => by fin_cases a <;> rfl
  have hq : View.ld (Val := Elt Ideal) (e' := .bf16) q r0_1 = q := View.ld_unit_zero z _ _
  have hx (x : FVec Ideal S128x128 .bf16) : View.ld (Val := Elt Ideal) (e' := .bf16) x r0_0 = x := View.ld_unit_zero z _ _
  have hb : View.ld (Val := Elt Ideal) (e' := .f32) bias r0_3 = bias := View.ld_unit_zero z' _ _
  rw [← canon_block]
  unfold_out out0_7
  rw [hq, hx, hx, hx, hx, hb]
  rfl

end Body

end Cert.Attn.Fwd

end
-- ==== Proof.Attn.Arrays.lean ====
/-
  The attention kernel from its blocks to the whole result: the mask and the sink rows that are made before the grid starts,
  the blocks of a point, and the array after the run.
-/
module

public import proofs.«01_k».proof.Proof.Attn.Kernel
public import Idealize.ShloMosaic.Lib.StableHlo.ReadAt

@[expose] public section

set_option maxRecDepth 16384

noncomputable section

namespace Cert.Attn.Fwd

open Cert.AttnFwdIdeal Cert.AttnFwdIdeal.Gen Idealize.ShloMosaic Idealize.ShloMosaic.TcCoe Idealize.SL.Sem

/-! ## The attention of all queries -/

/-- Query `i` of block `n` sees key `j` of the band: the 128 keys up to its own, and in the first block none before the block. -/
abbrev sees (n i j : ℕ) : Prop := i < j ∧ j ≤ i + 128 ∧ (n = 0 → 128 ≤ j)

/-- The row of key `j` in the band of block `n`; in the first block the keys before it are nobody's, whatever row is named. -/
def bandRow (n : Fin 32) (j : Fin 256) : Fin 4096 :=
  if j.val < 128 then ⟨128 * (n.val - 1) + j.val, by omega⟩ else ⟨128 * n.val + (j.val - 128), by omega⟩

/-- The masked scores of a query in a head: `r` is the query's row, `h` the head. -/
def masked (q : FVec Ideal ⟨2, ![4096, 1024]⟩ .bf16) (k : FVec Ideal ⟨2, ![4096, 128]⟩ .bf16) (r : Fin 4096) (h : Fin 16) (j : Fin 256) : EReal :=
  if sees (r.val / 128) (r.val % 128) j.val then
    ∑ e : Fin 64, q (ix2 r ⟨64 * h.val + e.val, by omega⟩) * k (ix2 (bandRow ⟨r.val / 128, by omega⟩ j) ⟨64 * (h.val / 8) + e.val, by omega⟩)
  else ⊥

/-- The attention of all queries. -/
def attention (q : FVec Ideal ⟨2, ![4096, 1024]⟩ .bf16) (k v : FVec Ideal ⟨2, ![4096, 128]⟩ .bf16) (sinks : FVec Ideal ⟨1, ![16]⟩ .f32) :
    FVec Ideal ⟨2, ![4096, 1024]⟩ .bf16 := fun i =>
  have h0 : (i 0).val < 4096 := (i 0).isLt
  have h1 : (i 1).val < 1024 := (i 1).isLt
  attend (masked q k (i 0) ⟨(i 1).val / 64, by omega⟩) (sinks (ix1 ⟨(i 1).val / 64, by omega⟩)) fun j =>
    v (ix2 (bandRow ⟨(i 0).val / 128, by omega⟩ j) ⟨64 * ((i 1).val / 512) + (i 1).val % 64, by omega⟩)

/-! ## What is made before the grid starts -/

variable (m : (ℓ : Loc nD τ sig) → Buf (Elt Ideal) ℓ) (c : Dev nD)

/-- The sink rows. -/
theorem sink_host (g : Fin 2) (r : Fin 1024) (l : Fin 128) : (V m c main_v4 : FVec Ideal S2x1024x128 .f32) (ix3 g r l)
    = (m ((c : Thread nD τ).loc main_arg3) : FVec Ideal S16 .f32) (ix1 ⟨8 * g.val + r.val / 128, by omega⟩) := by
  unfold V
  simp only [List.flatten_cons, List.flatten_nil, List.append_nil, List.cons_append, List.nil_append, hostOps0, hostOps0_1, hostOps0_2, hostOps0_3, hostOps0_4]
  after_reads_at
  exact congrArg (fun h => (m ((c : Thread nD τ).loc main_arg3) : FVec Ideal S16 .f32) (ix1 h)) (Fin.ext (by show g.val * 8 + r.val / 128 = 8 * g.val + r.val / 128; omega))

/-- The low seven bits of a row's number. -/
theorem low_bits (r : Fin 1024) : IntOp.andi (BitVec.ofNat 32 r.val) 127#32 = BitVec.ofNat 32 (r.val % 128) := by
  refine BitVec.eq_of_toNat_eq ?_
  have h : (BitVec.ofNat 32 r.val).toNat &&& 127 = (BitVec.ofNat 32 r.val).toNat % 128 := Nat.and_two_pow_sub_one_eq_mod _ 7
  have hr := r.isLt
  show (BitVec.ofNat 32 r.val).toNat &&& 127 = _
  rw [h, BitVec.toNat_ofNat, BitVec.toNat_ofNat]
  omega

/-- A block further on. -/
theorem next_block (a : ℕ) : IntOp.addi (BitVec.ofNat 32 a) 128#32 = BitVec.ofNat 32 (a + 128) := (BitVec.ofNat_add ..).symm

/-- The mask's bias: the first block's, then every other's. -/
theorem bias_host (b : Fin 2) (r : Fin 1024) (j : Fin 256) : (V m c main_v22 : FVec Ideal S2x1024x256 .f32) (ix3 b r j)
    = if sees b.val (r.val % 128) j.val then (0 : EReal) else ⊥ := by
  unfold V
  simp only [List.flatten_cons, List.flatten_nil, List.append_nil, List.cons_append, List.nil_append, hostOps0, hostOps0_1, hostOps0_2, hostOps0_3, hostOps0_4]
  after_reads_simp
  match b with
  | 0 =>
    refine (concatenate_pair_apply_left (t := S2x1024x256) (s₁ := S1x1024x256) (s₂ := S1x1024x256) (0 : Fin 3) _ _ _ _ rfl (ix3 (0 : Fin 1) r j)
      (fun a => by fin_cases a <;> rfl)).trans ?_
    after_reads_at
    rw [low_bits, next_block, ofBits_bot]
    word_cmp
    exact if_congr (by unfold sees; omega) rfl rfl
  | 1 =>
    refine (concatenate_pair_apply_right (t := S2x1024x256) (s₁ := S1x1024x256) (s₂ := S1x1024x256) (0 : Fin 3) _ _ _ _ rfl rfl (ix3 (0 : Fin 1) r j)
      (fun a h => by fin_cases a <;> first | rfl | exact absurd rfl h) rfl).trans ?_
    after_reads_at
    rw [low_bits, next_block, ofBits_bot]
    word_cmp
    exact if_congr (by unfold sees; omega) rfl rfl

/-! ## The blocks of a point -/

/-- Where each window's block lies. -/
theorem idx : ∀ t : Fin cfg0.N, win0_0.index t = ![t.val, 0] ∧ win0_1.index t = ![t.val - 1, 0] ∧ win0_2.index t = ![t.val, 0]
    ∧ win0_3.index t = ![t.val - 1, 0] ∧ win0_4.index t = ![t.val, 0] ∧ win0_5.index t = ![0, 0, 0]
    ∧ win0_6.index t = ![min t.val 1, 0, 0] ∧ win0_7.index t = ![t.val, 0] :=
  (by decide +kernel : ∀ t : Fin grid0.N, _)

variable (t : Fin cfg0.N)

/-- The point as a number below 32. -/
def pt : Fin 32 := ⟨t.val, t.isLt⟩
/-- Row `i` of the point's block. -/
def rowAt (n : Fin 32) (i : Fin 128) : Fin 4096 := ⟨128 * n.val + i.val, by omega⟩

/-- The queries, -/
def qOf : FVec Ideal S4096x1024 .bf16 := m ((c : Thread nD τ).loc main_arg0)
/-- the keys, -/
def kOf : FVec Ideal S4096x128 .bf16 := m ((c : Thread nD τ).loc main_arg1)
/-- the values, -/
def vOf : FVec Ideal S4096x128 .bf16 := m ((c : Thread nD τ).loc main_arg2)
/-- the sinks. -/
def sinksOf : FVec Ideal S16 .f32 := m ((c : Thread nD τ).loc main_arg3)

/-- The block of queries, -/
theorem q_block (i : Fin 128) (l : Fin 1024) : (iblk m c 0 t : FVec Ideal S128x1024 .bf16) (ix2 i l) = qOf m c (ix2 (rowAt (pt t) i) l) := by
  unfold rowAt pt qOf
  blk_ext [iblk, ← V_main_arg0, idx t]
/-- the band of keys, -/
theorem k_band (j : Fin 256) (l : Fin 128) : bandOf (iblk m c 1 t) (iblk m c 2 t) j l = kOf m c (ix2 (bandRow (pt t) j) l) := by
  unfold bandOf bandRow pt kOf
  split
  · blk_ext [iblk, ← V_main_arg1, idx t]
  · blk_ext [iblk, ← V_main_arg1, idx t]
/-- the band of values, -/
theorem v_band (j : Fin 256) (l : Fin 128) : bandOf (iblk m c 3 t) (iblk m c 4 t) j l = vOf m c (ix2 (bandRow (pt t) j) l) := by
  unfold bandOf bandRow pt vOf
  split
  · blk_ext [iblk, ← V_main_arg2, idx t]
  · blk_ext [iblk, ← V_main_arg2, idx t]
/-- the sink rows, -/
theorem sink_block (g : Fin 2) (r : Fin 1024) (l : Fin 128) : (iblk m c 5 t : FVec Ideal S2x1024x128 .f32) (ix3 g r l)
    = sinksOf m c (ix1 ⟨8 * g.val + r.val / 128, by omega⟩) := by
  refine Eq.trans ?_ (sink_host m c g r l)
  blk_ext [iblk, idx t]
/-- the mask's bias. -/
theorem bias_block (r : Fin 1024) (j : Fin 256) : (iblk m c 6 t : FVec Ideal S1x1024x256 .f32) (ix3 0 r j)
    = if sees t.val (r.val % 128) j.val then (0 : EReal) else ⊥ := by
  have e : (sees t.val (r.val % 128) j.val) = sees (min t.val 1) (r.val % 128) j.val := by unfold sees; exact propext (by omega)
  simp only [e]
  refine Eq.trans ?_ (bias_host m c ⟨min t.val 1, by omega⟩ r j)
  blk_ext [iblk, idx t]

/-! ## What a point leaves, and the array after the run -/

/-- The point's block is that of the attention. -/
theorem point (i : Fin 128) (l : Fin 1024) :
    (out0_7 (F := Ideal) (iblk m c 0 t) (iblk m c 1 t) (iblk m c 2 t) (iblk m c 3 t) (iblk m c 4 t) (iblk m c 5 t) (iblk m c 6 t)
      : FVec Ideal S128x1024 .bf16) (ix2 i l) = attention (qOf m c) (kOf m c) (vOf m c) (sinksOf m c) (ix2 (rowAt (pt t) i) l) := by
  have hl := l.isLt
  have hi := i.isLt
  have ht : t.val < 32 := t.isLt
  rw [out_eq]
  refine (rowsOf_at _ _ _ _ _ _ _ _ _ _ (sinksOf m c (ix1 ⟨l.val / 64, by omega⟩)) fun l' => (sink_block m c t _ _ _).trans ?_).trans ?_
  · refine congrArg (fun h => sinksOf m c (ix1 h)) (Fin.ext ?_)
    show 8 * (l.val / 512) + (128 * (l.val / 64 % 8) + i.val) / 128 = l.val / 64
    omega
  · simp only [q_block, k_band, v_band, bias_block, add_bias]
    show attend _ _ _ = attend _ _ _
    have e : (128 * t.val + i.val) / 128 = t.val := by omega
    have e' : (128 * t.val + i.val) % 128 = (128 * (l.val / 64 % 8) + i.val) % 128 := by omega
    refine congrArg₂ (fun s v => attend s _ v) (funext fun j => ?_) (funext fun j => ?_)
    · unfold masked
      show (if sees t.val ((128 * (l.val / 64 % 8) + i.val) % 128) j.val then _ else ⊥) = if sees ((128 * t.val + i.val) / 128) ((128 * t.val + i.val) % 128) j.val then _ else ⊥
      rw [e, e']
      refine if_congr Iff.rfl (Finset.sum_congr rfl fun x _ => ?_) rfl
      refine congrArg₂ (· * ·) (congrArg (qOf m c) ((ix2_inj ..).2 ⟨congrArg (rowAt (pt t)) (Fin.ext ?_), Fin.ext ?_⟩))
        (congrArg (kOf m c) ((ix2_inj ..).2 ⟨congrArg (bandRow · j) (Fin.ext ?_), Fin.ext ?_⟩))
      · show (128 * (l.val / 64 % 8) + i.val) % 128 = i.val; omega
      · show 512 * (l.val / 512) + 64 * ((128 * (l.val / 64 % 8) + i.val) / 128) + x.val = 64 * (l.val / 64) + x.val; omega
      · exact e.symm
      · show 64 * (l.val / 512) + x.val = 64 * (l.val / 64 / 8) + x.val; omega
    · refine congrArg (vOf m c) ((ix2_inj ..).2 ⟨congrArg (bandRow · j) (Fin.ext e.symm), Fin.ext ?_⟩)
      show 64 * (l.val / 512) + l.val % 128 % 64 = 64 * (l.val / 512) + l.val % 64; omega

/-- The attention. -/
theorem final : (dats m 0 c).arrAt 7 cfg0.N = attention (qOf m c) (kOf m c) (vOf m c) (sinksOf m c) := by
  refine (dats m 0 c).arrAt_eq_of_covers 7 _ (by decide +kernel) fun t hf y => ?_
  blk_simp
  rw [after0_7]
  refine Eq.trans (congrArg (out0_7 (F := Ideal) _ _ _ _ _ _ _) (ix2_eta (n0 := 128) (n1 := 1024) _).symm) ((point m c t _ _).trans ?_)
  unfold rowAt pt
  blk_ext [idx t]

end Cert.Attn.Fwd

end
-- ==== Proof.Attn.Reference.lean ====
/-
  The plain attention, stage by stage: the bands, the masked scores, the softmax with the sink, and the result.
-/
module

public import proofs.«01_k».proof.Proof.Attn.Arrays
public import proofs.«01_k».proof.Proof.Gen.AttnFwdRefIdeal.Run
public import proofs.«01_k».proof.Proof.Gen.AttnFwdRefIdeal.Read
public import Idealize.ShloMosaic.Lib.Pointwise
public import Idealize.ShloMosaic.Lib.WordCmp

@[expose] public section

set_option maxRecDepth 16384

noncomputable section

namespace Cert.Attn.Fwd

open Cert.AttnFwdRefIdeal Cert.AttnFwdRefIdeal.Read Idealize.ShloMosaic Idealize.ShloMosaic.TcCoe Idealize.SL.Sem

variable (x0 : FVec Ideal S4096x1024 .bf16) (x1 x2 : FVec Ideal S4096x128 .bf16) (x3 : FVec Ideal S16 .f32)
variable (n : Fin 32) (g : Fin 2) (u : Fin 8) (i : Fin 128) (j : Fin 256) (e : Fin 64)

/-- Head `u` of key head `g`. -/
def headOf (g : Fin 2) (u : Fin 8) : Fin 16 := ⟨8 * g.val + u.val, by omega⟩

/-! ## The constants -/

/-- The queries' factor, taken off, -/
theorem ofBits_eight : Ideal.ofBits .f32 0x41000000#32 = ((8 : ℝ) : EReal) := by
  simp [Ideal.ofBits, Ideal.ieee, -EReal.coe_mul]; norm_num
/-- and put on the scores. -/
theorem ofBits_eighth : Ideal.ofBits .f32 0x3E000000#32 = ((1 / 8 : ℝ) : EReal) := by
  simp [Ideal.ofBits, Ideal.ieee, -EReal.coe_mul]; norm_num

/-- The word that stands before the first block is zero. -/
theorem pad_word : (FloatOps.sitofp .f32 (0#32 : BitVec 32) : Ideal .f32) = (0 : EReal) := by
  show (((0#32 : BitVec 32).toInt : ℝ) : EReal) = 0
  simp

/-! ## Queries and bands -/

/-- The queries with the factor taken off, by heads, -/
theorem ref_heads (r : Fin 4096) (h : Fin 16) : val_main_v3 (F := Ideal) x0 (ix4 (0 : Fin 1) r h e)
    = x0 (ix2 r ⟨64 * h.val + e.val, by omega⟩) * ((8 : ℝ) : EReal) := by
  pointwise [val_main_v3, val_main_v2, val_main_v1, val_main_v0, val_main_cst]
  rw [ofBits_eight]
  refine congrArg (fun k => x0 (ix2 r k) * ((8 : ℝ) : EReal)) (Fin.ext ?_)
  show h.val * 64 + e.val = 64 * h.val + e.val
  omega

/-- and by blocks and key heads. -/
theorem ref_queries : val_main_v8 (F := Ideal) x0 (ix6 (0 : Fin 1) n i g u e)
    = x0 (ix2 (rowAt n i) ⟨64 * (headOf g u).val + e.val, by omega⟩) * ((8 : ℝ) : EReal) := by
  rw [← ref_heads]
  pointwise [val_main_v8]
  refine congrArg₂ (fun r h => val_main_v3 (F := Ideal) x0 (ix4 (0 : Fin 1) r h e)) (Fin.ext ?_) (Fin.ext ?_)
  · show n.val * 128 + i.val = 128 * n.val + i.val
    omega
  · show g.val * 8 + u.val = 8 * g.val + u.val
    omega

/-- The keys by blocks and key heads, -/
theorem ref_keys (s : Fin 128) : val_main_v9 (F := Ideal) x1 (ix5 (0 : Fin 1) n s g e) = x1 (ix2 (rowAt n s) ⟨64 * g.val + e.val, by omega⟩) := by
  pointwise [val_main_v9, val_main_v5, val_main_v4]
  refine congrArg x1 ((ix2_inj ..).2 ⟨Fin.ext ?_, Fin.ext ?_⟩)
  · show n.val * 128 + s.val = 128 * n.val + s.val
    omega
  · show g.val * 64 + e.val = 64 * g.val + e.val
    omega

/-- a block later, zeros before the first one. -/
theorem ref_shifted (s : Fin 128) : val_main_v12 (F := Ideal) x1 (ix5 (0 : Fin 1) n s g e)
    = if h : n.val = 0 then 0 else x1 (ix2 (rowAt ⟨n.val - 1, by omega⟩ s) ⟨64 * g.val + e.val, by omega⟩) := by
  pointwise [val_main_v12, val_main_v11, val_main_call0_v0, val_main_c]
  simp only [ref_keys]
  by_cases hn : n.val = 0
  · rw [dif_neg (by omega), dif_pos hn]
    exact pad_word
  · rw [dif_pos (by omega), dif_neg hn]

/-- The band: the block before and the block itself. -/
theorem ref_band : val_main_v13 (F := Ideal) x1 (ix5 (0 : Fin 1) n j g e)
    = if n.val = 0 ∧ j.val < 128 then 0 else x1 (ix2 (bandRow n j) ⟨64 * g.val + e.val, by omega⟩) := by
  pointwise [val_main_v13]
  simp only [ref_keys, ref_shifted]
  by_cases hj : j.val < 128
  · by_cases hn : n.val = 0
    · rw [dif_pos hj, dif_pos hn, if_pos ⟨hn, hj⟩]
    · rw [dif_pos hj, dif_neg hn]
      exact (congrArg (fun r => x1 (ix2 r ⟨64 * g.val + e.val, by omega⟩)) (by unfold bandRow; rw [if_pos hj]; rfl)).trans
        (if_neg fun h => hn h.1).symm
  · rw [dif_neg hj]
    exact (congrArg (fun r => x1 (ix2 r ⟨64 * g.val + e.val, by omega⟩)) (by unfold bandRow; rw [if_neg hj]; rfl)).trans
      (if_neg fun h => hj h.2).symm

/-- The values' band is made in the same way. -/
theorem ref_values : val_main_v16 (F := Ideal) x2 = val_main_v13 (F := Ideal) x2 := rfl

/-! ## The scores -/

/-- The masked scores of a block's query, by block and head. -/
theorem masked_at : masked x0 x1 (rowAt n i) (headOf g u) j = if sees n.val i.val j.val then
    ∑ e : Fin 64, x0 (ix2 (rowAt n i) ⟨64 * (headOf g u).val + e.val, by omega⟩) * x1 (ix2 (bandRow n j) ⟨64 * g.val + e.val, by omega⟩)
    else ⊥ := by
  have hn : (rowAt n i).val / 128 = n.val := by show (128 * n.val + i.val) / 128 = n.val; omega
  have hi : (rowAt n i).val % 128 = i.val := by show (128 * n.val + i.val) % 128 = i.val; omega
  have hg : (headOf g u).val / 8 = g.val := by show (8 * g.val + u.val) / 8 = g.val; omega
  unfold masked
  simp only [hn, hi, hg]

/-- A position less the window is the position of a block before. -/
theorem prev_block (a : ℕ) : IntOp.subi (BitVec.ofNat 32 (a + 128)) 128#32 = BitVec.ofNat 32 a := by
  rw [← next_block]
  exact BitVec.add_sub_cancel ..

/-- The masked scores. -/
theorem ref_scores : val_main_v53 (F := Ideal) x0 x1 (ix6 (0 : Fin 1) n g u i j) = masked x0 x1 (rowAt n i) (headOf g u) j := by
  pointwise [val_main_v53, val_main_call2_v2, val_main_call2_v1, val_main_call2_v0, val_main_cst_7, val_main_v52, val_main_v51, val_main_v50,
    val_main_v49, val_main_v48, val_main_v47, val_main_v46, val_main_v45, val_main_v44, val_main_v43, val_main_v42, val_main_c_6, val_main_v41,
    val_main_v40, val_main_c_5, val_main_v39, val_main_v38, val_main_v37, val_main_v36, val_main_v35, val_main_v34, val_main_v33, val_main_v32,
    val_main_c_4, val_main_v31, val_main_v30, val_main_v29, val_main_v28, val_main_v27, val_main_c_3, val_main_v26, val_main_v25, val_main_c_2,
    val_main_v24, val_main_v23, val_main_v22, val_main_v21, val_main_v20, val_main_v19, val_main_cst_1, val_main_v18, val_main_v17]
  simp only [next_block, prev_block, ofBits_eighth, ref_queries, ref_band]
  word_cmp
  rw [masked_at]
  by_cases hs : sees n.val i.val j.val
  · rw [if_pos hs, if_pos (by omega), ← unscale (fun e => x0 _) (fun e => x1 _)]
    simp only [if_neg (show ¬(n.val = 0 ∧ j.val < 128) by omega)]
  · rw [if_neg hs, if_neg (by omega)]
    exact ofBits_bot

/-! ## The softmax with the sink -/

/-- The greatest entry along the keys. -/
theorem max_last (y : FVec Ideal S1x32x2x8x128x256 .f32) :
    Host.reduce FloatOps.maximumf y (val_main_cst_8 (F := Ideal)) Gen.reducesTo_S1x32x2x8x128x256_S1x32x2x8x128_d5 Gen.h_S_ (ix5 (0 : Fin 1) n g u i)
      = Finset.univ.fold max ⊥ fun j => y (ix6 (0 : Fin 1) n g u i j) := by
  have h := Host.reduce_eq_fold_single (a := 5) FloatOps.maximumf y (val_main_cst_8 (F := Ideal))
    Gen.reducesTo_S1x32x2x8x128x256_S1x32x2x8x128_d5 (by decide) Gen.h_S_ (ix5 (0 : Fin 1) n g u i)
  refine h.trans ?_
  refine congrArg₂ (fun (b : EReal) (f : Fin 256 → EReal) => Finset.univ.fold max b f) ofBits_bot
    (funext fun k => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- The greatest score of a query, -/
theorem ref_max : val_main_v56 (F := Ideal) x0 x1 (ix5 (0 : Fin 1) n g u i)
    = Finset.univ.fold max ⊥ (masked x0 x1 (rowAt n i) (headOf g u)) := by
  have h := max_last n g u i (val_main_v53 (F := Ideal) x0 x1)
  simp only [ref_scores] at h
  exact h

/-- The sink of a head. -/
theorem ref_sink : val_main_v54 (F := Ideal) x3 (ix2 g u) = x3 (ix1 (headOf g u)) := by
  pointwise [val_main_v54]
  refine congrArg (fun k => x3 (ix1 k)) (Fin.ext ?_)
  show g.val * 8 + u.val = 8 * g.val + u.val
  omega

/-- or the sink. -/
theorem ref_top : val_main_v59 (F := Ideal) x0 x1 x3 (ix6 (0 : Fin 1) n g u i (0 : Fin 1))
    = top (masked x0 x1 (rowAt n i) (headOf g u)) (x3 (ix1 (headOf g u))) := by
  have hm : val_main_v57 (F := Ideal) x0 x1 (ix6 (0 : Fin 1) n g u i (0 : Fin 1)) = Finset.univ.fold max ⊥ (masked x0 x1 (rowAt n i) (headOf g u)) := by
    rw [← ref_max]
    unfold val_main_v57
    generalize val_main_v56 (F := Ideal) x0 x1 = y
    pointwise []
  have hs : val_main_v58 (F := Ideal) x3 (ix6 (0 : Fin 1) n g u i (0 : Fin 1)) = x3 (ix1 (headOf g u)) := by
    rw [← ref_sink x3 g u]
    pointwise [val_main_v58, val_main_v55]
  rw [val_main_v59_apply, hm, hs]
  rfl

/-- The weights, -/
theorem ref_weight : val_main_v62 (F := Ideal) x0 x1 x3 (ix6 (0 : Fin 1) n g u i j)
    = weight (masked x0 x1 (rowAt n i) (headOf g u)) (x3 (ix1 (headOf g u))) j := by
  pointwise [val_main_v62, val_main_v61, val_main_v60]
  rw [ref_scores, ref_top]
  rfl

/-- their sum, -/
theorem ref_sum : val_main_v63 (F := Ideal) x0 x1 x3 (ix5 (0 : Fin 1) n g u i)
    = ∑ j, weight (masked x0 x1 (rowAt n i) (headOf g u)) (x3 (ix1 (headOf g u))) j := by
  have h : val_main_cst_9 (F := Ideal) (Shape.Idx.first Gen.h_S_) = 0 := by pointwise [val_main_cst_9]
  rw [val_main_v63_apply, h, zero_add]
  refine Finset.sum_congr rfl fun j _ => ?_
  rw [← ref_weight]
  refine congrArg (val_main_v62 (F := Ideal) x0 x1 x3) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- and the denominator. -/
theorem ref_mass : val_main_v68 (F := Ideal) x0 x1 x3 (ix6 (0 : Fin 1) n g u i (0 : Fin 1))
    = mass (masked x0 x1 (rowAt n i) (headOf g u)) (x3 (ix1 (headOf g u))) := by
  pointwise [val_main_v68, val_main_v67, val_main_v66, val_main_v65, val_main_v64, val_main_v55]
  rw [ref_sum, ref_top, ref_sink]
  rfl

/-- The averaged values, before the heads are laid side by side. -/
theorem ref_average : val_main_v71 (F := Ideal) x0 x1 x2 x3 (ix6 (0 : Fin 1) n g e u i)
    = ∑ j : Fin 256, val_main_v13 (F := Ideal) x2 (ix5 (0 : Fin 1) n j g e)
      * Ideal.div (weight (masked x0 x1 (rowAt n i) (headOf g u)) (x3 (ix1 (headOf g u))) j)
        (mass (masked x0 x1 (rowAt n i) (headOf g u)) (x3 (ix1 (headOf g u)))) := by
  pointwise [val_main_v71, val_main_v70, val_main_v69]
  simp only [ref_values, ref_weight, ref_mass]

/-! ## The result, of numbers -/

/-- A score of numbers is not `⊤`. -/
theorem masked_ne_top (h0 : ∀ r, x0 r ≠ ⊤ ∧ x0 r ≠ ⊥) (h1 : ∀ r, x1 r ≠ ⊤ ∧ x1 r ≠ ⊥) (r : Fin 4096) (h : Fin 16) : masked x0 x1 r h j ≠ ⊤ := by
  unfold masked
  split
  · exact (sum_real _ _ fun e _ => mul_real (h0 _) (h1 _)).1
  · exact bot_ne_top

/-- The average is the attention: no key that is not seen has a weight. -/
theorem average_eq (h0 : ∀ r, x0 r ≠ ⊤ ∧ x0 r ≠ ⊥) (h1 : ∀ r, x1 r ≠ ⊤ ∧ x1 r ≠ ⊥) (h3 : ∀ r, x3 r ≠ ⊤ ∧ x3 r ≠ ⊥) :
    val_main_v71 (F := Ideal) x0 x1 x2 x3 (ix6 (0 : Fin 1) n g e u i)
    = attend (masked x0 x1 (rowAt n i) (headOf g u)) (x3 (ix1 (headOf g u))) fun j => x2 (ix2 (bandRow n j) ⟨64 * g.val + e.val, by omega⟩) := by
  rw [ref_average, attend_eq (fun j => masked_ne_top x0 x1 j h0 h1 _ _) (h3 _)]
  refine attend_congr fun j hj => ?_
  rw [ref_band]
  refine if_neg fun h => hj ?_
  rw [masked_at]
  exact if_neg (by omega)

/-- The result as a whole array. -/
theorem ref_attention (h0 : ∀ r, x0 r ≠ ⊤ ∧ x0 r ≠ ⊥) (h1 : ∀ r, x1 r ≠ ⊤ ∧ x1 r ≠ ⊥) (h3 : ∀ r, x3 r ≠ ⊤ ∧ x3 r ≠ ⊥) :
    val_main_v75 (F := Ideal) x0 x1 x2 x3 = attention x0 x1 x2 x3 := by
  funext p
  idx_vars p
  pointwise [val_main_v75, val_main_v74, val_main_v73, val_main_v72]
  rw [average_eq _ _ _ _ _ _ _ _ _ h0 h1 h3]
  have hr : rowAt ⟨p0.val / 128, by omega⟩ ⟨p0.val % 128, by omega⟩ = p0 := Fin.ext (by show 128 * (p0.val / 128) + p0.val % 128 = p0.val; omega)
  have hh : headOf ⟨p1.val / 512, by omega⟩ ⟨p1.val / 64 % 8, by omega⟩ = ⟨p1.val / 64, by omega⟩ :=
    Fin.ext (by show 8 * (p1.val / 512) + p1.val / 64 % 8 = p1.val / 64; omega)
  rw [hr, hh]
  rfl

end Cert.Attn.Fwd

end
-- ==== Proof.Attn.Fwd.lean ====
/-
  The attention call and its reference: both end with the attention of all queries.
-/
module

public import proofs.«01_k».proof.Defs
public import proofs.«01_k».proof.Proof.Attn.Reference
public import proofs.«01_k».proof.Proof.Gen.AttnFwd.Frame
public import proofs.«01_k».proof.Proof.Gen.Pre_finite
public import Idealize.ShloMosaic.Lib.Claim
public import Idealize.ShloMosaic.Lib.Quiescent

@[expose] public section

noncomputable section

namespace Cert.Attn.Fwd

open Idealize.ShloMosaic Idealize.ShloMosaic.TcCoe Idealize.SL.Sem

/-! ## The precondition -/

/-- The bound of the magnitudes is `⊤`. -/
theorem ofBits_top : Ideal.ofBits .f32 0x7F800000#32 = ⊤ := by
  simp [Ideal.ofBits, Ideal.ieee]

/-- An entry whose magnitude is below the bound is a number. -/
theorem real_of_lt {x : EReal} (h : Ideal.cmp .olt (max x (-x)) (Ideal.ofBits .f32 0x7F800000#32) = 1#1) : x ≠ ⊤ ∧ x ≠ ⊥ := by
  rw [ofBits_top] at h
  constructor
  · rintro rfl
    simp [Ideal.cmp] at h
  · rintro rfl
    simp [Ideal.cmp] at h

section Finite

open Cert.AttnFwdIdeal

variable {m : (ℓ : Loc nD τ sig) → Buf (Elt Ideal) ℓ} (h : Cert.Pre_AttnFwdIdeal_finite m) (c : Dev nD)

include h

/-- The queries are numbers, -/
theorem real_q (r : S4096x1024.Idx) : qOf m c r ≠ ⊤ ∧ qOf m c r ≠ ⊥ := real_of_lt (congrFun (h c).1 r)
/-- the keys, -/
theorem real_k (r : S4096x128.Idx) : kOf m c r ≠ ⊤ ∧ kOf m c r ≠ ⊥ := real_of_lt (congrFun (h c).2.1 r)
/-- the sinks. -/
theorem real_sinks (r : S16.Idx) : sinksOf m c r ≠ ⊤ ∧ sinksOf m c r ≠ ⊥ := real_of_lt (congrFun (h c).2.2 r)

end Finite

/-! ## The claims -/

/-- The call as printed runs, leaves its arguments alone and no signal pending. -/
theorem frame : Cert.quiescent_AttnFwd := fun m ρ _ => Cert.AttnFwd.Gen.frame m ρ

/-- So does the idealized call. -/
theorem frame_ideal : Cert.quiescent_AttnFwdIdeal := fun m ρ _ => Cert.AttnFwdIdeal.Gen.frame m ρ

/-- So does the reference. -/
theorem frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- On equal arguments, of which the queries, keys and sinks are numbers, the call and the reference end with the same attention. -/
theorem algebraic : Cert.algebraic_AttnFwdIdeal_AttnFwdRefIdeal_pre_finite := by
  intro m g m' g' hp hagree
  refine ⟨_, Cert.AttnFwdIdeal.Value.run_blocks m g,
    (θ_run Cert.AttnFwdRefIdeal.defs _ _).mono (fun r h c =>
      ⟨((h c).1.trans (Cert.AttnFwdRefIdeal.Read.val_main_v75_eq m' c)).trans ?_, (h c).2⟩)
      (Cert.AttnFwdRefIdeal.Value.run (F := Ideal) m' g')⟩
  obtain ⟨a0, a1, a2, a3⟩ := hagree c
  rw [a0, a1, a2, a3]
  exact (ref_attention _ _ _ _ (real_q hp c) (real_k hp c) (real_sinks hp c)).trans (final m c).symm

end Cert.Attn.Fwd

end
-- ==== Proof.Sgu.Fwd.lean ====
/-
  The forward pass of the spatial gating unit: the gelu of a row's first half times the gate, which the chunk's second halves make.
  The kernel writes a block of 512 rows in 32 tiles of 128 × 128, one per chunk and group; the reference takes all rows at once.
-/
module

public import proofs.«01_k».proof.Defs
public import proofs.«01_k».proof.Proof.Sgu.Point
public import proofs.«01_k».proof.Proof.Sgu.Reference
public import proofs.«01_k».proof.Proof.Gen.SguFwd.Frame
public import proofs.«01_k».proof.Proof.Gen.SguFwdIdeal.Value
public import proofs.«01_k».proof.Proof.Gen.SguFwdRefIdeal.Run
public import proofs.«01_k».proof.Proof.Gen.SguFwdRefIdeal.Read
public import Idealize.ShloMosaic.Lib.Pipeline.ValueKit
public import Idealize.ShloMosaic.Lib.Pipeline.ReadBack
public import Idealize.ShloMosaic.Lib.Pointwise
public import Idealize.ShloMosaic.Lib.WordCmp
public import Idealize.ShloMosaic.Lib.Claim
public import Idealize.ShloMosaic.Lib.Quiescent

@[expose] public section

set_option maxRecDepth 16384

noncomputable section

namespace Cert.Sgu.Fwd

open Cert.Sgu Idealize.ShloMosaic Idealize.ShloMosaic.TcCoe Idealize.SL.Sem

/-- The gated rows: `zu` and `zv` are the halves of the projected rows. -/
def gated (lw lb : Row) (w : Fin 8 → Fin 128 → Fin 128 → EReal) (b : Fin 128 → Fin 8 → EReal) (zu zv : Fin 4096 → Row) :
    FVec Ideal ⟨2, ![4096, 1024]⟩ .bf16 := fun i =>
  gelu (zu (i 0) (i 1)) * gate lw lb w b (chunk zv (chunkOf (i 0))) (pos (i 0)) (i 1)

section Kernel

open Cert.SguFwdIdeal Cert.SguFwdIdeal.Gen
open Cert.Sgu.Block (rowOf rowAt mate wOf bOf gateArr wGroup bGroup wGroup_at bGroup_at inb_tile slices_tile perTile chunk_mate pos_rowAt)

/-! ## What the body computes on a block -/

section Rows

variable (zu z : FVec Ideal S512x1024 .bf16) (lw lb : FVec Ideal S1x1024 .f32) (r : Fin 512) (j : Fin 1024)

/-- The first half's activation. -/
theorem u_at : k0_pay3 (F := Ideal) zu (ix2 r j) = gelu (zu (ix2 r j)) := by
  pointwise [k0_pay3, gelu]
  rfl

/-- The normalised activation of the second half. -/
theorem xhat_at : k0_pay4 (F := Ideal) z (ix2 r j) = xhat (act (rowOf z r)) j := by
  pointwise [k0_pay4]
  rfl

/-- The rows after the norm's weight and bias. -/
theorem norm_at : k0_pay5 (F := Ideal) lw lb (k0_pay4 z) (ix2 r j) = norm (rowOf lw 0) (rowOf lb 0) (rowOf z r) j := by
  unfold norm
  simp only [← xhat_at]
  pointwise [k0_pay5, rowOf]

end Rows

variable (w : FVec Ideal S8x128x128 .f32) (bt : FVec Ideal S128x8 .f32) (u : FVec Ideal S512x1024 .f32) (vn : FVec Ideal S512x1024 .bf16)

/-- The block: `u` is the first half's activation, `vn` the normalised second half. -/
def blockArr : FVec Ideal S512x1024 .bf16 := fun y => u y * gateArr w bt vn y

/-- The masked weights of a group, at a pair of positions. -/
theorem mask_at (wg : FVec Ideal S1x128x128 .f32) (t s : Fin 128) :
    k0_pay7 (F := Ideal) wg (ix2 t s) = if s.val ≤ t.val then wg (ix3 0 t s) else 0 := by
  pointwise [k0_pay7, k0_pay6]
  word_cmp

/-- The tile at the offsets `o0`, `o1`. -/
def tile (wg : FVec Ideal S1x128x128 .f32) (bg : FVec Ideal S128x1 .f32) (o0 o1 : ℕ)
    (hs : S512x1024.Slices ![o0, o1] S128x128) : FVec Ideal S128x128 .bf16 :=
  truncf .bf16 (mulf (extractStridedSlice S128x128 ![o0, o1] u hs)
    (addf (matmul dot_S128x128_S128x128_S128x128_1_0_0_1_n_n none (k0_pay7 (F := Ideal) wg)
      (extractStridedSlice S128x128 ![o0, o1] vn hs) (constant S128x128 .f32 0x00000000#32))
      (broadcastTo S128x128 bg broadcasts_S128x1_S128x128))) bitsLt_bf16_f32

/-- A tile is its part of the block. -/
theorem tile_eq (wg : FVec Ideal S1x128x128 .f32) (bg : FVec Ideal S128x1 .f32) (o0 o1 : ℕ)
    (hs : S512x1024.Slices ![o0, o1] S128x128) (g : Fin 8) (hc : 128 ∣ o0) (hg : o1 = 128 * g.val)
    (hw : ∀ t s, wg (ix3 0 t s) = w (ix3 g t s)) (hb : ∀ t, bg (ix2 t 0) = bt (ix2 t g)) (x : S128x128.Idx) (y : S512x1024.Idx)
    (h0 : (y 0).val = o0 + (x 0).val) (h1 : (y 1).val = o1 + (x 1).val) :
    tile u vn wg bg o0 o1 hs x = blockArr w bt u vn y := by
  idx_vars x
  idx_vars y
  obtain ⟨c, rfl⟩ := hc
  have h0 : y0.val = 128 * c + x0.val := h0
  have l0 : x0.val < 128 := x0.isLt
  have l1 : x1.val < 128 := x1.isLt
  have h1 : y1.val = o1 + x1.val := h1
  have e0 : pos y0 = x0 := Fin.ext (by show y0.val % 128 = x0.val; omega)
  have e1 : grp y1 = g := Fin.ext (by show y1.val / 128 = g.val; omega)
  unfold blockArr gateArr tile
  pointwise [e0, e1, mask_at, mix, wOf, bOf, hw, hb]
  refine congrArg₂ (· * ·) (congrArg u ((ix2_inj ..).2 ⟨Fin.ext h0.symm, Fin.ext h1.symm⟩))
    (congrArg₂ (· + ·) (Finset.sum_congr rfl fun s _ => ?_) rfl)
  refine congrArg₂ (· * ·) rfl (congrArg vn ((ix2_inj ..).2 ⟨Fin.ext ?_, Fin.ext ?_⟩))
  · show 128 * c + s.val = 128 * (y0.val / 128) + s.val; omega
  · exact h1.symm

/-- The store of one tile. -/
def store (g : Fin 8) (c : Fin 4) : View.Piece (Elt Ideal) S512x1024 .bf16 :=
  ⟨Rect.unit ![128 * c.val, 128 * g.val] ![128, 128] (inb_tile c g), tile u vn (wGroup w g) (bGroup bt g) _ _ (slices_tile c g)⟩

/-- A store writes its part of the block. -/
theorem store_eq (g : Fin 8) (c : Fin 4) (x : (store w bt u vn g c).1.shape.Idx) :
    (store w bt u vn g c).2 x = blockArr w bt u vn ((store w bt u vn g c).1.emb x) :=
  tile_eq w bt u vn _ _ _ _ (slices_tile c g) g ⟨_, rfl⟩ rfl (wGroup_at w g) (bGroup_at bt g) x _
    (Rect.idx_unit_val (s := S512x1024) _ _ (inb_tile c g) x 0) (Rect.idx_unit_val (s := S512x1024) _ _ (inb_tile c g) x 1)

/-- The tiles' stores together leave the block. -/
theorem canon_block : View.canon (perTile (store w bt u vn)) = blockArr w bt u vn := by
  have f := store_eq w bt u vn
  refine funext fun y => ?_
  have h := View.canon_append_of_piecesOf (Val := Elt Ideal) (e := .bf16) (blockArr w bt u vn) [] (perTile (store w bt u vn))
    ⟨f 7 3, f 7 2, f 7 1, f 7 0, f 6 3, f 6 2, f 6 1, f 6 0, f 5 3, f 5 2, f 5 1, f 5 0, f 4 3, f 4 2, f 4 1, f 4 0,
      f 3 3, f 3 2, f 3 1, f 3 0, f 2 3, f 2 2, f 2 1, f 2 0, f 1 3, f 1 2, f 1 1, f 1 0, f 0 3, f 0 2, f 0 1, f 0 0, trivial⟩ y
    (View.cover_of_tiledL _ ![128, 128] (by sl_kernel_rfl) y)
  rwa [List.append_nil] at h

/-! ## The arguments, and the blocks of a point -/

variable (m : (ℓ : Loc nD τ sig) → Buf (Elt Ideal) ℓ) (c : Dev nD)

/-- The first half of the projected rows, -/
def zuOf : Fin 4096 → Row := fun r j =>
  (m ((c : Thread nD τ).loc main_arg0) : FVec Ideal S4096x5376 .bf16) (ix2 r ⟨j.val, by have := j.isLt; omega⟩)
/-- their second half, -/
def zvOf : Fin 4096 → Row := fun r j =>
  (m ((c : Thread nD τ).loc main_arg0) : FVec Ideal S4096x5376 .bf16) (ix2 r ⟨1024 + j.val, by have := j.isLt; omega⟩)
/-- the norm's weight, -/
def lwOf : Row := rowOf (φ := .f32) (m ((c : Thread nD τ).loc main_arg1) : FVec Ideal S1x1024 .f32) 0
/-- the norm's bias, -/
def lbOf : Row := rowOf (φ := .f32) (m ((c : Thread nD τ).loc main_arg2) : FVec Ideal S1x1024 .f32) 0
/-- the mixing weights, -/
def mwOf : Fin 8 → Fin 128 → Fin 128 → EReal := wOf (m ((c : Thread nD τ).loc main_arg3) : FVec Ideal S8x128x128 .f32)
/-- the positions' bias. -/
def mbOf : Fin 128 → Fin 8 → EReal := bOf (m ((c : Thread nD τ).loc main_arg4) : FVec Ideal S128x8 .f32)

/-- Where each window's block lies. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

variable (t : Fin cfg0.N)

/-- The point as a number below 8. -/
def pt : Fin 8 := ⟨t.val, t.isLt⟩

/-- The block of the first half holds its rows of the array, -/
theorem zu_rows (r : Fin 512) : rowOf (φ := .bf16) (X0_0 m c t : FVec Ideal S512x1024 .bf16) r = zuOf m c (rowAt (pt t) r) := by
  funext j
  unfold rowOf zuOf rowAt pt X0_0 Pipeline.Window.fill
  rw [dif_pos (moved0_0 t _)]
  blk_ext [iblk, V, idx t]
/-- that of the second half its own, -/
theorem zv_rows (r : Fin 512) : rowOf (φ := .bf16) (X0_1 m c t : FVec Ideal S512x1024 .bf16) r = zvOf m c (rowAt (pt t) r) := by
  funext j
  unfold rowOf zvOf rowAt pt X0_1 Pipeline.Window.fill
  rw [dif_pos (moved0_1 t _)]
  blk_ext [iblk, V, idx t]
/-- and the small arguments' blocks are the whole arrays: the norm's weight, -/
theorem lw_block : (iblk m c 2 t : FVec Ideal S1x1024 .f32) = m ((c : Thread nD τ).loc main_arg1) := by
  funext x
  blk_ext [iblk, V, idx t]
/-- the norm's bias, -/
theorem lb_block : (iblk m c 3 t : FVec Ideal S1x1024 .f32) = m ((c : Thread nD τ).loc main_arg2) := by
  funext x
  blk_ext [iblk, V, idx t]
/-- the mixing weights, -/
theorem w_block : (iblk m c 4 t : FVec Ideal S8x128x128 .f32) = m ((c : Thread nD τ).loc main_arg3) := by
  funext x
  blk_ext [iblk, V, idx t]
/-- the positions' bias. -/
theorem b_block : (iblk m c 5 t : FVec Ideal S128x8 .f32) = m ((c : Thread nD τ).loc main_arg4) := by
  funext x
  blk_ext [iblk, V, idx t]

/-! ## What a point leaves, and the array after the run -/

/-- The point's block is that of the gated rows. -/
theorem point (r : Fin 512) (j : Fin 1024) : (outsAt0 m c t : FVec Ideal S512x1024 .bf16) (ix2 r j)
    = gated (lwOf m c) (lbOf m c) (mwOf m c) (mbOf m c) (zuOf m c) (zvOf m c) (ix2 (rowAt (pt t) r) j) := by
  have key : outsAt0 m c t = View.canon (Val := Elt Ideal) (s := S512x1024) (e := .bf16)
      (perTile (store (iblk m c 4 t) (iblk m c 5 t) (k0_pay3 (F := Ideal) (X0_0 m c t))
        (k0_pay5 (F := Ideal) (iblk m c 2 t) (iblk m c 3 t) (k0_pay4 (X0_1 m c t))))) := by
    unfold outsAt0
    frame_open
    simp (disch := decide) only [↓ View.readCov_skip, ↓ View.readCov_cons_toLoadRect, ↓ View.readCov_fill]
    frame_out
    rfl
  have hu : (X0_0 m c t : FVec Ideal S512x1024 .bf16) (ix2 r j) = zuOf m c (rowAt (pt t) r) j := congrFun (zu_rows m c t r) j
  rw [key, canon_block, lw_block, lb_block, w_block, b_block]
  show k0_pay3 (F := Ideal) (X0_0 m c t) (ix2 r j) * ((∑ s, mix _ (grp j) (pos r) s * k0_pay5 (F := Ideal) _ _ (k0_pay4 (X0_1 m c t)) (ix2 (mate r s) j))
    + bOf _ (pos r) (grp j)) = gelu (zuOf m c (rowAt (pt t) r) j) * gate _ _ _ _ _ (pos (rowAt (pt t) r)) j
  simp only [u_at, hu, norm_at, zv_rows, chunk_mate (pt t) (zvOf m c), pos_rowAt, gate]
  rfl

/-- The gated rows. -/
theorem final : (dats m 0 c).arrAt 6 cfg0.N = gated (lwOf m c) (lbOf m c) (mwOf m c) (mbOf m c) (zuOf m c) (zvOf m c) := by
  refine (dats m 0 c).arrAt_eq_of_covers 6 _ (by decide +kernel) fun t hf y => ?_
  blk_simp
  rw [after0_6]
  refine Eq.trans (congrArg (outsAt0 m c t) (ix2_eta (n0 := 512) (n1 := 1024) _).symm) ((point m c t _ _).trans ?_)
  unfold rowAt pt
  blk_ext [idx t]

end Kernel

section Reference

open Cert.SguFwdRefIdeal Cert.SguFwdRefIdeal.Read
open Cert.Sgu.Ref (rowsU rowsV lanesOf mixOf biasOf row_join lane_join lane_split chunk_self)

variable (x0 : FVec Ideal S4096x5376 .bf16) (x1 x2 : FVec Ideal S1x1024 .f32) (x3 : FVec Ideal S8x128x128 .f32) (x4 : FVec Ideal S128x8 .f32)

/-! ## The reference -/

/-- The activation of both halves, -/
theorem ref_gelu (r : Fin 4096) (k : Fin 2048) : val_main_v9 (F := Ideal) x0 (ix3 (0 : Fin 1) r k) = gelu (x0 (ix2 r ⟨k.val, by omega⟩)) := by
  pointwise [val_main_v9, val_main_v8, val_main_v7, val_main_v6, val_main_cst_0, val_main_v5, val_main_v4, val_main_v3, val_main_cst,
    val_main_v2, val_main_v1, val_main_v0]
  simp only [gelu, neg_mul, Ideal.erfc_neg]

/-- of the first half, -/
theorem ref_u (r : Fin 4096) (j : Fin 1024) : val_main_v13 (F := Ideal) x0 (ix3 (0 : Fin 1) r j) = gelu (rowsU x0 r j) := by
  pointwise [val_main_v13]
  exact ref_gelu x0 r ⟨j.val, by omega⟩

/-- of the second half. -/
theorem ref_act (r : Fin 4096) (j : Fin 1024) : val_main_v14 (F := Ideal) x0 (ix3 (0 : Fin 1) r j) = act (rowsV x0 r) j := by
  pointwise [val_main_v14]
  exact ref_gelu x0 r ⟨1024 + j.val, by omega⟩

/-- The mean of a row of the second half, -/
theorem ref_mean (r : Fin 4096) : val_main_v18 (F := Ideal) x0 (ix3 (0 : Fin 1) r (0 : Fin 1)) = mean (act (rowsV x0 r)) := by
  pointwise [val_main_v18, val_main_v17, val_main_v16, val_main_v15, val_main_cst_1, val_main_cst_2]
  simp only [ref_act, zero_add]
  rfl

/-- the row less its mean, -/
theorem ref_centred (r : Fin 4096) (j : Fin 1024) :
    val_main_v20 (F := Ideal) x0 (ix3 (0 : Fin 1) r j) = act (rowsV x0 r) j - mean (act (rowsV x0 r)) := by
  pointwise [val_main_v20, val_main_v19]
  simp only [ref_act, ref_mean]

/-- one over the root of its variance. -/
theorem ref_inv (r : Fin 4096) : val_main_v30 (F := Ideal) x0 (ix3 (0 : Fin 1) r (0 : Fin 1)) = inv (act (rowsV x0 r)) := by
  pointwise [val_main_v30, val_main_v29, val_main_v28, val_main_v25, val_main_v24, val_main_v23, val_main_v22, val_main_v21,
    val_main_cst_3, val_main_cst_4, val_main_cst_5]
  simp only [ref_centred, zero_add]
  rfl

/-- The normalised rows, -/
theorem ref_norm (r : Fin 4096) (j : Fin 1024) :
    val_main_v38 (F := Ideal) x0 x1 x2 (ix3 (0 : Fin 1) r j) = norm (lanesOf x1) (lanesOf x2) (rowsV x0 r) j := by
  pointwise [val_main_v38, val_main_v37, val_main_v36, val_main_v35, val_main_v34, val_main_v33, val_main_v32, val_main_v31,
    val_main_v27, val_main_v26, val_main_v10, val_main_v11]
  simp only [ref_act, ref_mean, ref_inv]
  rfl

/-- and the same split into chunks and groups. -/
theorem ref_split (n : Fin 32) (s : Fin 128) (g : Fin 8) (l : Fin 128) :
    val_main_v39 (F := Ideal) x0 x1 x2 (ix5 (0 : Fin 1) n s g l) = norm (lanesOf x1) (lanesOf x2) (chunk (rowsV x0) n s) (lane g l) := by
  pointwise [val_main_v39]
  rw [ref_norm]
  exact congrArg₂ (fun r j => norm (lanesOf x1) (lanesOf x2) (rowsV x0 r) j) (row_join n s _) (lane_join g l _)

/-- The masked mixing weights. -/
theorem ref_mix (g : Fin 8) (t s : Fin 128) : val_main_v44 (F := Ideal) x3 (ix3 g t s) = mix (mixOf x3) g t s := by
  pointwise [val_main_v44, val_main_v43, val_main_cst_6, val_main_call1_v0, val_main_v42, val_main_v41, val_main_call0_v5,
    val_main_call0_c_0, val_main_call0_v4, val_main_call0_v3, val_main_call0_v2, val_main_call0_v1, val_main_call0_c,
    val_main_call0_v0, val_main_v40, val_main_c]
  rw [show IntOp.addi (BitVec.ofNat 32 t.val) 0#32 = BitVec.ofNat 32 t.val from BitVec.add_zero _]
  unfold mix
  word_cmp
  split <;> rfl

/-- The gate. -/
theorem ref_gate (r : Fin 4096) (j : Fin 1024) : val_main_v51 (F := Ideal) x0 x1 x2 x3 x4 (ix3 (0 : Fin 1) r j)
    = gate (lanesOf x1) (lanesOf x2) (mixOf x3) (biasOf x4) (chunk (rowsV x0) (chunkOf r)) (pos r) j := by
  pointwise [val_main_v51, val_main_v50, val_main_v49, val_main_v48, val_main_v47, val_main_v46, val_main_v45, val_main_v12]
  unfold gate
  refine congrArg₂ (· + ·) (Finset.sum_congr rfl fun s _ => ?_) rfl
  rw [ref_mix, ref_split, mul_comm]
  exact congrArg (fun k => mix (mixOf x3) (grp j) (pos r) s * norm _ _ (chunk (rowsV x0) (chunkOf r) s) k) (lane_split j)

/-- The result as a whole array. -/
theorem ref_gated : val_main_v54 (F := Ideal) x0 x1 x2 x3 x4
    = gated (lanesOf x1) (lanesOf x2) (mixOf x3) (biasOf x4) (rowsU x0) (rowsV x0) := by
  funext i
  idx_vars i
  unfold gated
  pointwise [val_main_v54, val_main_v53, val_main_v52]
  rw [ref_u, ref_gate]

end Reference

/-- The call as printed runs, leaves its arguments alone and no signal pending. -/
theorem frame : Cert.quiescent_SguFwd := fun m ρ _ => Cert.SguFwd.Gen.frame m ρ

/-- So does the idealized call. -/
theorem frame_ideal : Cert.quiescent_SguFwdIdeal := fun m ρ _ => Cert.SguFwdIdeal.Gen.frame m ρ

/-- So does the reference. -/
theorem frame_ref : Cert.quiescent_SguFwdRefIdeal := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

/-- On equal arguments the call and the reference end with equal gated rows. -/
theorem algebraic : Cert.algebraic_SguFwdIdeal_SguFwdRefIdeal := by
  intro m g m' g' _ hagree
  refine ⟨_, Cert.SguFwdIdeal.Value.run_blocks m g,
    (θ_run Cert.SguFwdRefIdeal.defs _ _).mono (fun r h c =>
      ⟨((h c).1.trans (Cert.SguFwdRefIdeal.Read.val_main_v54_eq m' c)).trans ?_, (h c).2⟩)
      (Cert.SguFwdRefIdeal.Value.run (F := Ideal) m' g')⟩
  obtain ⟨a0, a1, a2, a3, a4⟩ := hagree c
  rw [a0, a1, a2, a3, a4]
  exact (ref_gated ..).trans (final m c).symm

end Cert.Sgu.Fwd

end
-- ==== Proof.lean ====
/-
  The proof of `Cert.Claim`: every claim of the statement, from the modules that prove it.
-/
module

public import proofs.«01_k».proof.Defs
public import proofs.«01_k».proof.Proof.Gen.SguBwd
public import proofs.«01_k».proof.Proof.Gen.SguBwd.Frame
public import proofs.«01_k».proof.Proof.Gen.SguBwdIdeal
public import proofs.«01_k».proof.Proof.Gen.SguBwdIdeal.Frame
public import proofs.«01_k».proof.Proof.Gen.SguBwdIdeal.Value
public import proofs.«01_k».proof.Proof.Gen.SguRefIdeal
public import proofs.«01_k».proof.Proof.Gen.SguRefIdeal.Run
public import proofs.«01_k».proof.Proof.Gen.SguRefIdeal.Read
public import proofs.«01_k».proof.Proof.Gen.FfnDw
public import proofs.«01_k».proof.Proof.Gen.FfnDw.Frame
public import proofs.«01_k».proof.Proof.Gen.FfnDwIdeal
public import proofs.«01_k».proof.Proof.Gen.FfnDwIdeal.Frame
public import proofs.«01_k».proof.Proof.Gen.FfnDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.MixDw
public import proofs.«01_k».proof.Proof.Gen.MixDw.Frame
public import proofs.«01_k».proof.Proof.Gen.MixDwIdeal
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDwRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.FfnDx
public import proofs.«01_k».proof.Proof.Gen.FfnDx.Frame
public import proofs.«01_k».proof.Proof.Gen.FfnDxIdeal
public import proofs.«01_k».proof.Proof.Gen.FfnDxIdeal.Frame
public import proofs.«01_k».proof.Proof.Gen.FfnDxIdeal.Value
public import proofs.«01_k».proof.Proof.Gen.FfnDxRefIdeal
public import proofs.«01_k».proof.Proof.Gen.FfnDxRefIdeal.Run
public import proofs.«01_k».proof.Proof.Gen.FfnDxRefIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.GatingDx
public import proofs.«01_k».proof.Proof.Gen.GatingDx.Frame
public import proofs.«01_k».proof.Proof.Gen.GatingDxIdeal
public import proofs.«01_k».proof.Proof.Gen.GatingDxIdeal.Frame
public import proofs.«01_k».proof.Proof.Gen.GatingDxIdeal.Value
public import proofs.«01_k».proof.Proof.Gen.GatingDxRefIdeal
public import proofs.«01_k».proof.Proof.Gen.GatingDxRefIdeal.Run
public import proofs.«01_k».proof.Proof.Gen.GatingDxRefIdeal.Read
public import proofs.«01_k».proof.Proof.Gen.AttnDx
public import proofs.«01_k».proof.Proof.Gen.AttnDx.Frame
public import proofs.«01_k».proof.Proof.Gen.AttnDxIdeal
public import proofs.«01_k».proof.Proof.Gen.AttnDxIdeal.Frame
public import proofs.«01_k».proof.Proof.Gen.AttnDxIdeal.Value
public import proofs.«01_k».proof.Proof.Gen.AttnDxRefIdeal
public import proofs.«01_k».proof.Proof.Gen.AttnDxRefIdeal.Run
public import proofs.«01_k».proof.Proof.Gen.AttnDxRefIdeal.Read
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.NormIn
public import proofs.«01_k».proof.Proof.Gen.NormIn.Frame
public import proofs.«01_k».proof.Proof.Gen.NormInIdeal
public import proofs.«01_k».proof.Proof.Gen.NormInIdeal.Frame
public import proofs.«01_k».proof.Proof.Gen.NormInIdeal.Skeleton
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.NormFfn
public import proofs.«01_k».proof.Proof.Gen.NormFfn.Frame
public import proofs.«01_k».proof.Proof.Gen.NormFfnIdeal
public import proofs.«01_k».proof.Proof.Gen.NormFfnIdeal.Frame
public import proofs.«01_k».proof.Proof.Gen.NormFfnIdeal.Skeleton
public import proofs.«01_k».proof.Proof.Gen.NormFfnRefIdeal
public import proofs.«01_k».proof.Proof.Gen.NormFfnRefIdeal.Run
public import proofs.«01_k».proof.Proof.Gen.NormFfnRefIdeal.Read
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.SguFwd
public import proofs.«01_k».proof.Proof.Gen.SguFwd.Frame
public import proofs.«01_k».proof.Proof.Gen.SguFwdIdeal
public import proofs.«01_k».proof.Proof.Gen.SguFwdIdeal.Frame
public import proofs.«01_k».proof.Proof.Gen.SguFwdIdeal.Value
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.Gen.Pre_finite
public import proofs.«01_k».proof.Proof.Sgu.Claim
public import proofs.«01_k».proof.Proof.Products.FfnDw
public import proofs.«01_k».proof.Proof.Products.MixDw
public import proofs.«01_k».proof.Proof.Products.InDw
public import proofs.«01_k».proof.Proof.Products.InDx
public import proofs.«01_k».proof.Proof.Products.FfnDx
public import proofs.«01_k».proof.Proof.Products.DownDx
public import proofs.«01_k».proof.Proof.Products.GatingDx
public import proofs.«01_k».proof.Proof.Products.AttnDx
public import proofs.«01_k».proof.Proof.Merge.Bwd
public import proofs.«01_k».proof.Proof.Norm.In
public import proofs.«01_k».proof.Proof.Norm.Ffn
public import proofs.«01_k».proof.Proof.Products.OutFwd
public import proofs.«01_k».proof.Proof.Products.DownFwd
public import proofs.«01_k».proof.Proof.Merge.Fwd
public import proofs.«01_k».proof.Proof.Attn.Fwd
public import proofs.«01_k».proof.Proof.Sgu.Fwd
public import Idealize.ShloMosaic.Adequacy
public import Idealize.ShloMosaic.Init

@[expose] public section

noncomputable section

namespace Cert.Proof

open Idealize.ShloMosaic

/-- The step's calls: frames, the idealization, and the equality with the reference's derivative or value. -/
theorem claim : Cert.Claim := ⟨
  Cert.SguBwd.Gen.facts, Cert.SguBwdIdeal.Gen.facts, Cert.SguRefIdeal.Gen.facts, Cert.FfnDw.Gen.facts,
  Cert.FfnDwIdeal.Gen.facts, Cert.DownDwRefIdeal.Gen.facts, Cert.UpDwRefIdeal.Gen.facts, Cert.MixDw.Gen.facts,
  Cert.MixDwIdeal.Gen.facts, Cert.MixDwRefIdeal.Gen.facts, Cert.InDw.Gen.facts, Cert.InDwIdeal.Gen.facts,
  Cert.InDwRefIdeal.Gen.facts, Cert.InDx.Gen.facts, Cert.InDxIdeal.Gen.facts, Cert.InDxRefIdeal.Gen.facts,
  Cert.FfnDx.Gen.facts, Cert.FfnDxIdeal.Gen.facts, Cert.FfnDxRefIdeal.Gen.facts, Cert.DownDx.Gen.facts,
  Cert.DownDxIdeal.Gen.facts, Cert.DownDxRefIdeal.Gen.facts, Cert.GatingDx.Gen.facts, Cert.GatingDxIdeal.Gen.facts,
  Cert.GatingDxRefIdeal.Gen.facts, Cert.AttnDx.Gen.facts, Cert.AttnDxIdeal.Gen.facts, Cert.AttnDxRefIdeal.Gen.facts,
  Cert.MergeBwd.Gen.facts, Cert.MergeBwdIdeal.Gen.facts, Cert.MergeBwdRefIdeal.Gen.facts, Cert.NormIn.Gen.facts,
  Cert.NormInIdeal.Gen.facts, Cert.NormInRefIdeal.Gen.facts, Cert.NormFfn.Gen.facts, Cert.NormFfnIdeal.Gen.facts,
  Cert.NormFfnRefIdeal.Gen.facts, Cert.OutFwd.Gen.facts, Cert.OutFwdIdeal.Gen.facts, Cert.OutFwdRefIdeal.Gen.facts,
  Cert.DownFwd.Gen.facts, Cert.DownFwdIdeal.Gen.facts, Cert.DownFwdRefIdeal.Gen.facts, Cert.MergeFwd.Gen.facts,
  Cert.MergeFwdIdeal.Gen.facts, Cert.MergeFwdRefIdeal.Gen.facts, Cert.AttnFwd.Gen.facts, Cert.AttnFwdIdeal.Gen.facts,
  Cert.AttnFwdRefIdeal.Gen.facts, Cert.SguFwd.Gen.facts, Cert.SguFwdIdeal.Gen.facts, Cert.SguFwdRefIdeal.Gen.facts,
  Cert.Pre_finite.Gen.facts, Cert.Merge.Bwd.mask_facts, Cert.Sgu.frame, Cert.Sgu.frame_ideal, Cert.Sgu.frame_ref,
  Cert.Products.FfnDw.frame, Cert.Products.FfnDw.frame_ideal, Cert.Products.FfnDw.frame_ref_down,
  Cert.Products.FfnDw.frame_ref_up, Cert.Products.MixDw.frame, Cert.Products.MixDw.frame_ideal,
  Cert.Products.MixDw.frame_ref, Cert.Products.InDw.frame, Cert.Products.InDw.frame_ideal,
  Cert.Products.InDw.frame_ref, Cert.Products.InDx.frame, Cert.Products.InDx.frame_ideal, Cert.Products.InDx.frame_ref,
  Cert.Products.FfnDx.frame, Cert.Products.FfnDx.frame_ideal, Cert.Products.FfnDx.frame_ref,
  Cert.Products.DownDx.frame, Cert.Products.DownDx.frame_ideal, Cert.Products.DownDx.frame_ref,
  Cert.Products.GatingDx.frame, Cert.Products.GatingDx.frame_ideal, Cert.Products.GatingDx.frame_ref,
  Cert.Products.AttnDx.frame, Cert.Products.AttnDx.frame_ideal, Cert.Products.AttnDx.frame_ref, Cert.Merge.Bwd.frame,
  Cert.Merge.Bwd.frame_ideal, Cert.Merge.Bwd.frame_ref, Cert.Norm.In.frame, Cert.Norm.In.frame_ideal,
  Cert.Norm.In.frame_ref, Cert.Norm.Ffn.frame, Cert.Norm.Ffn.frame_ideal, Cert.Norm.Ffn.frame_ref,
  Cert.Products.OutFwd.frame, Cert.Products.OutFwd.frame_ideal, Cert.Products.OutFwd.frame_ref,
  Cert.Products.DownFwd.frame, Cert.Products.DownFwd.frame_ideal, Cert.Products.DownFwd.frame_ref,
  Cert.Merge.Fwd.frame, Cert.Merge.Fwd.frame_ideal, Cert.Merge.Fwd.frame_ref, Cert.Attn.Fwd.frame,
  Cert.Attn.Fwd.frame_ideal, fun m g _ => Cert.Attn.Fwd.frame_ideal m g trivial, Cert.Attn.Fwd.frame_ref,
  fun m g _ => Cert.Attn.Fwd.frame_ref m g trivial, Cert.Sgu.Fwd.frame, Cert.Sgu.Fwd.frame_ideal,
  Cert.Sgu.Fwd.frame_ref, trivial, Cert.Sgu.algebraic, trivial, Cert.Products.FfnDw.algebraic_down,
  Cert.Products.FfnDw.algebraic_up, trivial, Cert.Products.MixDw.algebraic, trivial, Cert.Products.InDw.algebraic,
  trivial, Cert.Products.InDx.algebraic, trivial, Cert.Products.FfnDx.algebraic, trivial,
  Cert.Products.DownDx.algebraic, trivial, Cert.Products.GatingDx.algebraic, trivial, Cert.Products.AttnDx.algebraic,
  trivial, @Cert.Merge.Bwd.algebraic Cert.Merge.Bwd.mask_facts, trivial, Cert.Norm.In.algebraic, trivial,
  Cert.Norm.Ffn.algebraic, trivial, Cert.Products.OutFwd.algebraic, trivial, Cert.Products.DownFwd.algebraic, trivial,
  Cert.Merge.Fwd.algebraic, trivial, Cert.Attn.Fwd.algebraic, trivial, Cert.Sgu.Fwd.algebraic⟩

end Cert.Proof

end
